-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores [hPre_real_scores : Cert.Pre_real_scores.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores [hPre_real_scores : Cert.Pre_real_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Expert [hPre_in_range : Cert.Pre_in_range.Facts] (m : (ℓ : Loc Cert.Expert.nD Cert.Expert.τ Cert.Expert.sig) → Buf (Elt Bits) ℓ) : Prop :=
  ∀ c : Dev Cert.Expert.nD,
    (Cert.Pre_in_range.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4)) (m ((c.tc : Thread Cert.Expert.nD Cert.Expert.τ).loc Cert.Expert.main_arg5)) (m ((c.tc : Thread Cert.Expert.nD Cert.Expert.τ).loc Cert.Expert.main_arg6))) = (fun _ => 1#1)

def Pre_ExpertIdeal [hPre_in_range : Cert.Pre_in_range.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_in_range.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) = (fun _ => 1#1)

def Pre_ExpertIdeal_routed [hPre_routed : Cert.Pre_routed.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_routed.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) = (fun _ => 1#1)

def Pre_ExpertRefIdeal (m : (ℓ : Loc Cert.ExpertRefIdeal.nD Cert.ExpertRefIdeal.τ Cert.ExpertRefIdeal.sig) → Buf (Elt Ideal) ℓ) : Prop :=
  True

def Pre_ExpertRefIdeal_routed [hPre_routed : Cert.Pre_routed.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_routed.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5)) (m ((c.tc : Thread Cert.ExpertRefIdeal.nD Cert.ExpertRefIdeal.τ).loc Cert.ExpertRefIdeal.main_arg6))) = (fun _ => 1#1)

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_real_weights [hPre_real_weights : Cert.Pre_real_weights.Facts] (m : (ℓ : Loc Cert.RouteIdeal.nD Cert.RouteIdeal.τ Cert.RouteIdeal.sig) → Buf (Elt Ideal) ℓ) : Prop :=
  ∀ c : Dev Cert.RouteIdeal.nD,
    (Cert.Pre_real_weights.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_real_weights [hPre_real_weights : Cert.Pre_real_weights.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_real_weights.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_real_scores [hKernelIdeal : Cert.KernelIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_real_scores [hReferenceIdeal : Cert.ReferenceIdeal.Facts] [hPre_real_scores : Cert.Pre_real_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_Expert [hExpert : Cert.Expert.Facts] [hPre_in_range : Cert.Pre_in_range.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5)
      ∧ r.2.mem ((c.tc : Thread Cert.Expert.nD Cert.Expert.τ).loc Cert.Expert.main_arg6) = m ((c.tc : Thread Cert.Expert.nD Cert.Expert.τ).loc Cert.Expert.main_arg6))
      ∧ r.2.sem = fun _ => 0)

def quiescent_ExpertIdeal [hExpertIdeal : Cert.ExpertIdeal.Facts] [hPre_in_range : Cert.Pre_in_range.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
      ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6))
      ∧ r.2.sem = fun _ => 0)

def quiescent_ExpertIdeal_pre_routed [hExpertIdeal : Cert.ExpertIdeal.Facts] [hPre_routed : Cert.Pre_routed.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal_routed m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
      ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5)
      ∧ r.2.mem ((c.tc : Thread Cert.ExpertRefIdeal.nD Cert.ExpertRefIdeal.τ).loc Cert.ExpertRefIdeal.main_arg6) = m ((c.tc : Thread Cert.ExpertRefIdeal.nD Cert.ExpertRefIdeal.τ).loc Cert.ExpertRefIdeal.main_arg6))
      ∧ r.2.sem = fun _ => 0)

def quiescent_ExpertRefIdeal_pre_routed [hExpertRefIdeal : Cert.ExpertRefIdeal.Facts] [hPre_routed : Cert.Pre_routed.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal_routed m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5)
      ∧ r.2.mem ((c.tc : Thread Cert.ExpertRefIdeal.nD Cert.ExpertRefIdeal.τ).loc Cert.ExpertRefIdeal.main_arg6) = m ((c.tc : Thread Cert.ExpertRefIdeal.nD Cert.ExpertRefIdeal.τ).loc Cert.ExpertRefIdeal.main_arg6))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_real_weights [hRouteIdeal : Cert.RouteIdeal.Facts] [hPre_real_weights : Cert.Pre_real_weights.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_real_weights m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_RouteRefIdeal_pre_real_weights [hRouteRefIdeal : Cert.RouteRefIdeal.Facts] [hPre_real_weights : Cert.Pre_real_weights.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_real_weights m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_real_scores [hKernelIdeal : Cert.KernelIdeal.Facts] [hReferenceIdeal : Cert.ReferenceIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)) (v4 : (c : Dev Cert.InProjIdeal.nD) → Buf (Elt Ideal) ((c.tc : Thread Cert.InProjIdeal.nD Cert.InProjIdeal.τ).loc Cert.InProjIdeal.main_v2_4)) (v5 : (c : Dev Cert.InProjIdeal.nD) → Buf (Elt Ideal) ((c.tc : Thread Cert.InProjIdeal.nD Cert.InProjIdeal.τ).loc Cert.InProjIdeal.main_v2_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_v2_4) = v4 c
          ∧ r.2.mem ((c.tc : Thread Cert.InProjIdeal.nD Cert.InProjIdeal.τ).loc Cert.InProjIdeal.main_v2_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v21) = v1 c
          ∧ r.2.mem ((c.tc : Thread Cert.InProjRefIdeal.nD Cert.InProjRefIdeal.τ).loc Cert.InProjRefIdeal.main_v22) = v2 c
          ∧ r.2.mem ((c.tc : Thread Cert.InProjRefIdeal.nD Cert.InProjRefIdeal.τ).loc Cert.InProjRefIdeal.main_v17) = v3 c
          ∧ r.2.mem ((c.tc : Thread Cert.InProjRefIdeal.nD Cert.InProjRefIdeal.τ).loc Cert.InProjRefIdeal.main_v18) = v4 c
          ∧ r.2.mem ((c.tc : Thread Cert.InProjRefIdeal.nD Cert.InProjRefIdeal.τ).loc Cert.InProjRefIdeal.main_v19) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v52) = v0 c
          ∧ r.2.mem ((c.tc : Thread Cert.OutProjRefIdeal.nD Cert.OutProjRefIdeal.τ).loc Cert.OutProjRefIdeal.main_v66) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_Expert_ExpertIdeal : Prop :=
  True

def algebraic_ExpertIdeal_ExpertRefIdeal_on_rows_visited_pre_routed [hExpertIdeal : Cert.ExpertIdeal.Facts] [hExpertRefIdeal : Cert.ExpertRefIdeal.Facts] [hPre_routed : Cert.Pre_routed.Facts] [hOn_rows_visited : Cert.On_rows_visited.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal_routed m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)
      ∧ m' ((c.tc : Thread Cert.ExpertRefIdeal.nD Cert.ExpertRefIdeal.τ).loc Cert.ExpertRefIdeal.main_arg5) = m ((c.tc : Thread Cert.ExpertIdeal.nD Cert.ExpertIdeal.τ).loc Cert.ExpertIdeal.main_arg5)
      ∧ m' ((c.tc : Thread Cert.ExpertRefIdeal.nD Cert.ExpertRefIdeal.τ).loc Cert.ExpertRefIdeal.main_arg6) = m ((c.tc : Thread Cert.ExpertIdeal.nD Cert.ExpertIdeal.τ).loc Cert.ExpertIdeal.main_arg6)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          (∀ i : (⟨2, ![141312, 1024]⟩ : Shape).Idx, (Cert.On_rows_visited.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) i = 1#1 → r.2.mem ((c.tc : Thread Cert.ExpertIdeal.nD Cert.ExpertIdeal.τ).loc Cert.ExpertIdeal.main_v0) i = v0 c i)
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
          ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          (∀ i : (⟨2, ![141312, 1024]⟩ : Shape).Idx, (Cert.On_rows_visited.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) i = 1#1 → r.2.mem ((c.tc : Thread Cert.ExpertRefIdeal.nD Cert.ExpertRefIdeal.τ).loc Cert.ExpertRefIdeal.main_v11) i = v0 c i)
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4)
          ∧ r.2.mem ((c.tc : Thread Cert.ExpertRefIdeal.nD Cert.ExpertRefIdeal.τ).loc Cert.ExpertRefIdeal.main_arg5) = m' ((c.tc : Thread Cert.ExpertRefIdeal.nD Cert.ExpertRefIdeal.τ).loc Cert.ExpertRefIdeal.main_arg5)
          ∧ r.2.mem ((c.tc : Thread Cert.ExpertRefIdeal.nD Cert.ExpertRefIdeal.τ).loc Cert.ExpertRefIdeal.main_arg6) = m' ((c.tc : Thread Cert.ExpertRefIdeal.nD Cert.ExpertRefIdeal.τ).loc Cert.ExpertRefIdeal.main_arg6))

def preserves_Route_RouteIdeal : Prop :=
  True

def algebraic_RouteIdeal_RouteRefIdeal_pre_real_weights [hRouteIdeal : Cert.RouteIdeal.Facts] [hRouteRefIdeal : Cert.RouteRefIdeal.Facts] [hPre_real_weights : Cert.Pre_real_weights.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_real_weights m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v2_0)) (v1 : (c : Dev Cert.RouteIdeal.nD) → Buf (Elt Ideal) ((c.tc : Thread Cert.RouteIdeal.nD Cert.RouteIdeal.τ).loc Cert.RouteIdeal.main_v2_1)) (v2 : (c : Dev Cert.RouteIdeal.nD) → Buf (Elt Ideal) ((c.tc : Thread Cert.RouteIdeal.nD Cert.RouteIdeal.τ).loc Cert.RouteIdeal.main_v2_2)) (v3 : (c : Dev Cert.RouteIdeal.nD) → Buf (Elt Ideal) ((c.tc : Thread Cert.RouteIdeal.nD Cert.RouteIdeal.τ).loc Cert.RouteIdeal.main_v2_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v2_0) = v0 c
          ∧ r.2.mem ((c.tc : Thread Cert.RouteIdeal.nD Cert.RouteIdeal.τ).loc Cert.RouteIdeal.main_v2_1) = v1 c
          ∧ r.2.mem ((c.tc : Thread Cert.RouteIdeal.nD Cert.RouteIdeal.τ).loc Cert.RouteIdeal.main_v2_2) = v2 c
          ∧ r.2.mem ((c.tc : Thread Cert.RouteIdeal.nD Cert.RouteIdeal.τ).loc Cert.RouteIdeal.main_v2_3) = v3 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v53) = v0 c
          ∧ r.2.mem ((c.tc : Thread Cert.RouteRefIdeal.nD Cert.RouteRefIdeal.τ).loc Cert.RouteRefIdeal.main_v41) = v1 c
          ∧ r.2.mem ((c.tc : Thread Cert.RouteRefIdeal.nD Cert.RouteRefIdeal.τ).loc Cert.RouteRefIdeal.main_v34) = v2 c
          ∧ r.2.mem ((c.tc : Thread Cert.RouteRefIdeal.nD Cert.RouteRefIdeal.τ).loc Cert.RouteRefIdeal.main_v55) = v3 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hExpert : Cert.Expert.Facts) (hExpertIdeal : Cert.ExpertIdeal.Facts) (hExpertRefIdeal : Cert.ExpertRefIdeal.Facts) (hRoute : Cert.Route.Facts) (hRouteIdeal : Cert.RouteIdeal.Facts) (hRouteRefIdeal : Cert.RouteRefIdeal.Facts) (hPre_real_scores : Cert.Pre_real_scores.Facts) (hPre_in_range : Cert.Pre_in_range.Facts) (hPre_routed : Cert.Pre_routed.Facts) (hPre_real_weights : Cert.Pre_real_weights.Facts) (hOn_rows_visited : Cert.On_rows_visited.Facts),
    quiescent_Kernel (hKernel := hKernel)
    ∧ quiescent_KernelIdeal (hKernelIdeal := hKernelIdeal)
    ∧ quiescent_KernelIdeal_pre_real_scores (hKernelIdeal := hKernelIdeal) (hPre_real_scores := hPre_real_scores)
    ∧ quiescent_ReferenceIdeal (hReferenceIdeal := hReferenceIdeal)
    ∧ quiescent_ReferenceIdeal_pre_real_scores (hReferenceIdeal := hReferenceIdeal) (hPre_real_scores := hPre_real_scores)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Expert (hExpert := hExpert) (hPre_in_range := hPre_in_range)
    ∧ quiescent_ExpertIdeal (hExpertIdeal := hExpertIdeal) (hPre_in_range := hPre_in_range)
    ∧ quiescent_ExpertIdeal_pre_routed (hExpertIdeal := hExpertIdeal) (hPre_routed := hPre_routed)
    ∧ quiescent_ExpertRefIdeal (hExpertRefIdeal := hExpertRefIdeal)
    ∧ quiescent_ExpertRefIdeal_pre_routed (hExpertRefIdeal := hExpertRefIdeal) (hPre_routed := hPre_routed)
    ∧ quiescent_Route (hRoute := hRoute)
    ∧ quiescent_RouteIdeal (hRouteIdeal := hRouteIdeal)
    ∧ quiescent_RouteIdeal_pre_real_weights (hRouteIdeal := hRouteIdeal) (hPre_real_weights := hPre_real_weights)
    ∧ quiescent_RouteRefIdeal (hRouteRefIdeal := hRouteRefIdeal)
    ∧ quiescent_RouteRefIdeal_pre_real_weights (hRouteRefIdeal := hRouteRefIdeal) (hPre_real_weights := hPre_real_weights)
    ∧ preserves_Kernel_KernelIdeal
    ∧ algebraic_KernelIdeal_ReferenceIdeal_pre_real_scores (hKernelIdeal := hKernelIdeal) (hReferenceIdeal := hReferenceIdeal) (hPre_real_scores := hPre_real_scores)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Expert_ExpertIdeal
    ∧ algebraic_ExpertIdeal_ExpertRefIdeal_on_rows_visited_pre_routed (hExpertIdeal := hExpertIdeal) (hExpertRefIdeal := hExpertRefIdeal) (hPre_routed := hPre_routed) (hOn_rows_visited := hOn_rows_visited)
    ∧ preserves_Route_RouteIdeal
    ∧ algebraic_RouteIdeal_RouteRefIdeal_pre_real_weights (hRouteIdeal := hRouteIdeal) (hRouteRefIdeal := hRouteRefIdeal) (hPre_real_weights := hPre_real_weights)
-- ==== On_rows_visited.lean ====
abbrev S141312x1024 : Shape := ⟨2, ![141312, 1024]⟩
abbrev S8x1024x2816 : Shape := ⟨3, ![8, 1024, 2816]⟩
abbrev S8x2816x1024 : Shape := ⟨3, ![8, 2816, 1024]⟩
abbrev S169 : Shape := ⟨1, ![169]⟩
abbrev S1 : Shape := ⟨1, ![1]⟩
abbrev S168x552 : Shape := ⟨2, ![168, 552]⟩
abbrev S168 : Shape := ⟨1, ![168]⟩
abbrev S_ : Shape := ⟨0, ![]⟩
abbrev S552 : Shape := ⟨1, ![552]⟩
abbrev S552x256x1024 : Shape := ⟨3, ![552, 256, 1024]⟩

class Facts : Prop where
  slices_S169_S168_0 : S169.Slices ![0] S168
  bcast_S168_S168x552_0 : S168.BroadcastsInDim S168x552 (![0] : Fin 1 → Fin S168x552.rank)
  shapeCasts_S1_S_ : S1.ShapeCasts S_
  bcast_S_S168x552 : S_.BroadcastsInDim S168x552 (![] : Fin 0 → Fin S168x552.rank)
  reducesTo_S168x552_S552_d0 : S168x552.ReducesTo [0] S552
  h_S_ : 0 < S_.numel
  bcast_S552_S552x256x1024_0 : S552.BroadcastsInDim S552x256x1024 (![0] : Fin 1 → Fin S552x256x1024.rank)
  shapeCasts_S552x256x1024_S141312x1024 : S552x256x1024.ShapeCasts S141312x1024

variable [Facts]

def fn {F : FTy → Type} [FloatOps F] (main_arg0 : FVec F S141312x1024 .bf16) (main_arg1 : FVec F S8x1024x2816 .bf16) (main_arg2 : FVec F S8x1024x2816 .bf16) (main_arg3 : FVec F S8x2816x1024 .bf16) (main_arg4 : IVec S169 32) (main_arg5 : IVec S169 32) (main_arg6 : IVec S1 32) : IVec S141312x1024 1 :=
  let main_v0 : IVec S168x552 32 := iotaInDim S168x552 32 1
  let main_v1 : IVec S168 32 := (extractStridedSlice S168 ![0] · slices_S169_S168_0) main_arg4
  let main_v2 : IVec S168x552 32 := broadcastInDim S168x552 ![0] bcast_S168_S168x552_0 main_v1
  let main_v3 : IVec S168x552 1 := cmpi .eq main_v0 main_v2
  let main_v4 : IVec S168x552 32 := iotaInDim S168x552 32 0
  let main_v5 : IVec S_ 32 := shapeCast S_ main_arg6 shapeCasts_S1_S_
  let main_v6 : IVec S168x552 32 := broadcastInDim S168x552 ![] bcast_S_S168x552 main_v5
  let main_v7 : IVec S168x552 1 := cmpi .slt main_v4 main_v6
  let main_v8 : IVec S168x552 1 := andi main_v3 main_v7
  let main_c : IVec S_ 1 := constantI S_ 1 0#1
  let main_v9 : IVec S552 1 := (fun x v => Host.reduce IntOp.ori x v reducesTo_S168x552_S552_d0 h_S_) main_v8 main_c
  let main_v10 : IVec S552x256x1024 1 := broadcastInDim S552x256x1024 ![0] bcast_S552_S552x256x1024_0 main_v9
  let main_v11 : IVec S141312x1024 1 := shapeCast S141312x1024 main_v10 shapeCasts_S552x256x1024_S141312x1024
  main_v11
-- ==== Pre_in_range.lean ====
abbrev S141312x1024 : Shape := ⟨2, ![141312, 1024]⟩
abbrev S8x1024x2816 : Shape := ⟨3, ![8, 1024, 2816]⟩
abbrev S8x2816x1024 : Shape := ⟨3, ![8, 2816, 1024]⟩
abbrev S169 : Shape := ⟨1, ![169]⟩
abbrev S1 : Shape := ⟨1, ![1]⟩
abbrev S168 : Shape := ⟨1, ![168]⟩
abbrev S_ : Shape := ⟨0, ![]⟩

class Facts : Prop where
  slices_S169_S168_0 : S169.Slices ![0] S168
  bcast_S_S168 : S_.BroadcastsInDim S168 (![] : Fin 0 → Fin S168.rank)

variable [Facts]

def fn {F : FTy → Type} [FloatOps F] (main_arg0 : FVec F S141312x1024 .bf16) (main_arg1 : FVec F S8x1024x2816 .bf16) (main_arg2 : FVec F S8x1024x2816 .bf16) (main_arg3 : FVec F S8x2816x1024 .bf16) (main_arg4 : IVec S169 32) (main_arg5 : IVec S169 32) (main_arg6 : IVec S1 32) : IVec S168 1 :=
  let main_v0 : IVec S168 32 := (extractStridedSlice S168 ![0] · slices_S169_S168_0) main_arg4
  let main_v1 : IVec S168 32 := (extractStridedSlice S168 ![0] · slices_S169_S168_0) main_arg5
  let main_c : IVec S_ 32 := constantI S_ 32 0#32
  let main_v2 : IVec S168 32 := broadcastInDim S168 ![] bcast_S_S168 main_c
  let main_v3 : IVec S168 1 := cmpi .sge main_v0 main_v2
  let main_c_0 : IVec S_ 32 := constantI S_ 32 552#32
  let main_v4 : IVec S168 32 := broadcastInDim S168 ![] bcast_S_S168 main_c_0
  let main_v5 : IVec S168 1 := cmpi .slt main_v0 main_v4
  let main_v6 : IVec S168 1 := andi main_v3 main_v5
  let main_c_1 : IVec S_ 32 := constantI S_ 32 0#32
  let main_v7 : IVec S168 32 := broadcastInDim S168 ![] bcast_S_S168 main_c_1
  let main_v8 : IVec S168 1 := cmpi .sge main_v1 main_v7
  let main_v9 : IVec S168 1 := andi main_v6 main_v8
  let main_c_2 : IVec S_ 32 := constantI S_ 32 8#32
  let main_v10 : IVec S168 32 := broadcastInDim S168 ![] bcast_S_S168 main_c_2
  let main_v11 : IVec S168 1 := cmpi .slt main_v1 main_v10
  let main_v12 : IVec S168 1 := andi main_v9 main_v11
  main_v12
-- ==== Pre_real_scores.lean ====
abbrev S16384x512 : Shape := ⟨2, ![16384, 512]⟩
abbrev S8x257 : Shape := ⟨2, ![8, 257]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S16384x512 .bf16) (main_arg1 : FVec F S16384x512 .bf16) (main_arg2 : FVec F S16384x512 .bf16) (main_arg3 : FVec F S8x257 .f32) : IVec S_ 1 :=
  let main_v0 : FVec F S16384x512 .bf16 := Host.absf main_arg0
  let main_cst : FVec F S_ .bf16 := constant S_ .bf16 0x7F80#16
  let main_v1 : FVec F S16384x512 .bf16 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .bf16 := Host.absf main_arg1
  let main_cst_0 : FVec F S_ .bf16 := constant S_ .bf16 0x7F80#16
  let main_v5 : FVec F S16384x512 .bf16 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S8x257 .f32 := Host.absf main_arg3
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  main_v13
-- ==== Pre_real_weights.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .f32) (main_arg1 : FVec F S1024 .f32) (main_arg2 : FVec F S1024x8 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_routed.lean ====
abbrev S141312x1024 : Shape := ⟨2, ![141312, 1024]⟩
abbrev S8x1024x2816 : Shape := ⟨3, ![8, 1024, 2816]⟩
abbrev S8x2816x1024 : Shape := ⟨3, ![8, 2816, 1024]⟩
abbrev S169 : Shape := ⟨1, ![169]⟩
abbrev S1 : Shape := ⟨1, ![1]⟩
abbrev S168 : Shape := ⟨1, ![168]⟩
abbrev S_ : Shape := ⟨0, ![]⟩
abbrev S167 : Shape := ⟨1, ![167]⟩

class Facts : Prop where
  slices_S169_S168_0 : S169.Slices ![0] S168
  bcast_S_S168 : S_.BroadcastsInDim S168 (![] : Fin 0 → Fin S168.rank)
  shapeCasts_S1_S_ : S1.ShapeCasts S_
  slices_S169_S167_1 : S169.Slices ![1] S167
  slices_S169_S167_0 : S169.Slices ![0] S167
  reducesTo_S168_S_d0 : S168.ReducesTo [0] S_
  h_S_ : 0 < S_.numel
  bcast_S_S167 : S_.BroadcastsInDim S167 (![] : Fin 0 → Fin S167.rank)
  reducesTo_S167_S_d0 : S167.ReducesTo [0] S_

variable [Facts]

def fn_part2 {F : FTy → Type} [FloatOps F] (main_v31 : IVec S_ 1) (main_v38 : IVec S167 1) : IVec S_ 1 :=
  let main_c_8 : IVec S_ 1 := constantI S_ 1 1#1
  let main_v39 : IVec S_ 1 := (fun x v => Host.reduce IntOp.andi x v reducesTo_S167_S_d0 h_S_) main_v38 main_c_8
  let main_v40 : IVec S_ 1 := andi main_v31 main_v39
  main_v40

def fn_part1 {F : FTy → Type} [FloatOps F] (main_arg4 : IVec S169 32) (main_arg6 : IVec S1 32) (main_v0 : IVec S168 32) (main_v12 : IVec S168 1) (main_v15 : IVec S168 1) (main_v17 : IVec S168 32) : IVec S_ 1 :=
  let main_c_5 : IVec S_ 32 := constantI S_ 32 69#32
  let main_v18 : IVec S168 32 := broadcastInDim S168 ![] bcast_S_S168 main_c_5
  let main_v19 : IVec S168 32 := addi main_v17 main_v18
  let main_v20 : IVec S168 1 := cmpi .slt main_v0 main_v19
  let main_v21 : IVec S168 1 := andi main_v15 main_v20
  let main_v22 : IVec S168 32 := iotaInDim S168 32 0
  let main_v23 : IVec S_ 32 := shapeCast S_ main_arg6 shapeCasts_S1_S_
  let main_v24 : IVec S168 32 := broadcastInDim S168 ![] bcast_S_S168 main_v23
  let main_v25 : IVec S168 1 := cmpi .sge main_v22 main_v24
  let main_v26 : IVec S167 32 := (extractStridedSlice S167 ![1] · slices_S169_S167_1) main_arg4
  let main_v27 : IVec S167 32 := (extractStridedSlice S167 ![0] · slices_S169_S167_0) main_arg4
  let main_v28 : IVec S167 1 := cmpi .eq main_v26 main_v27
  let main_v29 : IVec S168 1 := ori main_v25 main_v21
  let main_v30 : IVec S168 1 := andi main_v12 main_v29
  let main_c_6 : IVec S_ 1 := constantI S_ 1 1#1
  let main_v31 : IVec S_ 1 := (fun x v => Host.reduce IntOp.andi x v reducesTo_S168_S_d0 h_S_) main_v30 main_c_6
  let main_v32 : IVec S167 32 := iotaInDim S167 32 0
  let main_c_7 : IVec S_ 32 := constantI S_ 32 1#32
  let main_v33 : IVec S167 32 := broadcastInDim S167 ![] bcast_S_S167 main_c_7
  let main_v34 : IVec S167 32 := addi main_v32 main_v33
  let main_v35 : IVec S_ 32 := shapeCast S_ main_arg6 shapeCasts_S1_S_
  let main_v36 : IVec S167 32 := broadcastInDim S167 ![] bcast_S_S167 main_v35
  let main_v37 : IVec S167 1 := cmpi .slt main_v34 main_v36
  let main_v38 : IVec S167 1 := ori main_v37 main_v28
  fn_part2 (F := F) main_v31 main_v38

def fn {F : FTy → Type} [FloatOps F] (main_arg0 : FVec F S141312x1024 .bf16) (main_arg1 : FVec F S8x1024x2816 .bf16) (main_arg2 : FVec F S8x1024x2816 .bf16) (main_arg3 : FVec F S8x2816x1024 .bf16) (main_arg4 : IVec S169 32) (main_arg5 : IVec S169 32) (main_arg6 : IVec S1 32) : IVec S_ 1 :=
  let main_v0 : IVec S168 32 := (extractStridedSlice S168 ![0] · slices_S169_S168_0) main_arg4
  let main_v1 : IVec S168 32 := (extractStridedSlice S168 ![0] · slices_S169_S168_0) main_arg5
  let main_c : IVec S_ 32 := constantI S_ 32 0#32
  let main_v2 : IVec S168 32 := broadcastInDim S168 ![] bcast_S_S168 main_c
  let main_v3 : IVec S168 1 := cmpi .sge main_v0 main_v2
  let main_c_0 : IVec S_ 32 := constantI S_ 32 552#32
  let main_v4 : IVec S168 32 := broadcastInDim S168 ![] bcast_S_S168 main_c_0
  let main_v5 : IVec S168 1 := cmpi .slt main_v0 main_v4
  let main_v6 : IVec S168 1 := andi main_v3 main_v5
  let main_c_1 : IVec S_ 32 := constantI S_ 32 0#32
  let main_v7 : IVec S168 32 := broadcastInDim S168 ![] bcast_S_S168 main_c_1
  let main_v8 : IVec S168 1 := cmpi .sge main_v1 main_v7
  let main_v9 : IVec S168 1 := andi main_v6 main_v8
  let main_c_2 : IVec S_ 32 := constantI S_ 32 8#32
  let main_v10 : IVec S168 32 := broadcastInDim S168 ![] bcast_S_S168 main_c_2
  let main_v11 : IVec S168 1 := cmpi .slt main_v1 main_v10
  let main_v12 : IVec S168 1 := andi main_v9 main_v11
  let main_c_3 : IVec S_ 32 := constantI S_ 32 69#32
  let main_v13 : IVec S168 32 := broadcastInDim S168 ![] bcast_S_S168 main_c_3
  let main_v14 : IVec S168 32 := muli main_v1 main_v13
  let main_v15 : IVec S168 1 := cmpi .sle main_v14 main_v0
  let main_c_4 : IVec S_ 32 := constantI S_ 32 69#32
  let main_v16 : IVec S168 32 := broadcastInDim S168 ![] bcast_S_S168 main_c_4
  let main_v17 : IVec S168 32 := muli main_v1 main_v16
  fn_part1 (F := F) main_arg4 main_arg6 main_v0 main_v12 main_v15 main_v17
-- ==== Kernel.lean ====
abbrev S16384x512 : Shape := ⟨2, ![16384, 512]⟩
abbrev S8x257 : Shape := ⟨2, ![8, 257]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S4x128x576 : Shape := ⟨3, ![4, 128, 576]⟩
abbrev S512x512 : Shape := ⟨2, ![512, 512]⟩
abbrev S1024x512 : Shape := ⟨2, ![1024, 512]⟩
abbrev S64x128 : Shape := ⟨2, ![64, 128]⟩
abbrev S128x128 : Shape := ⟨2, ![128, 128]⟩
abbrev S576x128 : Shape := ⟨2, ![576, 128]⟩
abbrev S128x576 : Shape := ⟨2, ![128, 576]⟩
abbrev S1x128x576 : Shape := ⟨3, ![1, 128, 576]⟩
abbrev S128 : Shape := ⟨1, ![128]⟩
abbrev S128x1 : Shape := ⟨2, ![128, 1]⟩

abbrev nBuf : Space → Nat
  | .hbm => 36
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S8x257, .f32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S576, .i32⟩
  | .hbm, ⟨10, _⟩ => ⟨S1x576, .i32⟩
  | .hbm, ⟨11, _⟩ => ⟨S64x576, .i32⟩
  | .hbm, ⟨12, _⟩ => ⟨S64x576, .i32⟩
  | .hbm, ⟨13, _⟩ => ⟨S64x576, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i1⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S64x576, .i32⟩
  | .hbm, ⟨32, _⟩ => ⟨S64x576x1, .i32⟩
  | .hbm, ⟨33, _⟩ => ⟨S8x64x576, .f32⟩
  | .hbm, ⟨34, _⟩ => ⟨S4x128x576, .f32⟩
  | .hbm, ⟨35, _⟩ => ⟨S16384x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x128x576, .f32⟩
  | .local _ .vmem, ⟨11, _⟩ => ⟨S512x512, .f32⟩
  | .local _ .vmem, ⟨12, _⟩ => ⟨S512x512, .f32⟩
  | .local _ .vmem, ⟨13, _⟩ => ⟨S1024x512, .bf16⟩
  | .local _ .vmem, ⟨14, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  v21
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v32 : Index := Scalar.indexCast v22
  let c0_20 : Index := 0#32
  ![v32.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v40 : Index := Scalar.indexCast v22
  let c0_23 : Index := 0#32
  ![v40.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v66 : Index := Scalar.indexCast v22
  let c128 : Index := 128#32
  ![v66.toNat, 128]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v74 : Index := Scalar.indexCast v22
  let c128_35 : Index := 128#32
  ![v74.toNat, 128]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v100 : Index := Scalar.indexCast v22
  let c256 : Index := 256#32
  ![v100.toNat, 256]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v108 : Index := Scalar.indexCast v22
  let c256_46 : Index := 256#32
  ![v108.toNat, 256]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v134 : Index := Scalar.indexCast v22
  let c384 : Index := 384#32
  ![v134.toNat, 384]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c64_i32_15 : BitVec 32 := 64#32
  let v21 : BitVec 32 := Scalar.muli arg11 c64_i32_15
  let v22 : BitVec 32 := v21
  let v142 : Index := Scalar.indexCast v22
  let c384_57 : Index := 384#32
  ![v142.toNat, 384]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S8x257 : Shape := ⟨2, ![8, 257]⟩
abbrev S4x4096x8x64 : Shape := ⟨4, ![4, 4096, 8, 64]⟩
abbrev S4x64x64x8x64 : Shape := ⟨5, ![4, 64, 64, 8, 64]⟩
abbrev S_ : Shape := ⟨0, ![]⟩
abbrev S4x72x64x8x64 : Shape := ⟨5, ![4, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S4x64x9x64x8x64 : Shape := ⟨6, ![4, 64, 9, 64, 8, 64]⟩
abbrev S4x64x576x8x64 : Shape := ⟨5, ![4, 64, 576, 8, 64]⟩
abbrev S4x8x64x64x576 : Shape := ⟨5, ![4, 8, 64, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x1x64x576 : Shape := ⟨4, ![8, 1, 64, 576]⟩
abbrev S1x8x1x64x576 : Shape := ⟨5, ![1, 8, 1, 64, 576]⟩
abbrev S1x1x64x1x576 : Shape := ⟨5, ![1, 1, 64, 1, 576]⟩
abbrev S4x8x64x64 : Shape := ⟨4, ![4, 8, 64, 64]⟩
abbrev S4x8x64x64x1 : Shape := ⟨5, ![4, 8, 64, 64, 1]⟩
abbrev S4x64x8x64x64 : Shape := ⟨5, ![4, 64, 8, 64, 64]⟩

abbrev nBuf : Space → Nat
  | .hbm => 123
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S8x257, .f32⟩
  | .hbm, ⟨4, _⟩ => ⟨S16384x512, .f32⟩
  | .hbm, ⟨5, _⟩ => ⟨S4x4096x8x64, .f32⟩
  | .hbm, ⟨6, _⟩ => ⟨S16384x512, .f32⟩
  | .hbm, ⟨7, _⟩ => ⟨S4x4096x8x64, .f32⟩
  | .hbm, ⟨8, _⟩ => ⟨S16384x512, .f32⟩
  | .hbm, ⟨9, _⟩ => ⟨S4x4096x8x64, .f32⟩
  | .hbm, ⟨10, _⟩ => ⟨S4x64x64x8x64, .f32⟩
  | .hbm, ⟨11, _⟩ => ⟨S4x64x64x8x64, .f32⟩
  | .hbm, ⟨12, _⟩ => ⟨S_, .i32⟩
  | .hbm, ⟨13, _⟩ => ⟨S_, .f32⟩
  | .hbm, ⟨14, _⟩ => ⟨S4x72x64x8x64, .f32⟩
  | .hbm, ⟨15, _⟩ => ⟨S4x64x64x8x64, .f32⟩
  | .hbm, ⟨16, _⟩ => ⟨S_, .i32⟩
  | .hbm, ⟨17, _⟩ => ⟨S_, .f32⟩
  | .hbm, ⟨18, _⟩ => ⟨S4x72x64x8x64, .f32⟩
  | .hbm, ⟨19, _⟩ => ⟨S64, .i32⟩
  | .hbm, ⟨20, _⟩ => ⟨S64x1, .i32⟩
  | .hbm, ⟨21, _⟩ => ⟨S9, .i32⟩
  | .hbm, ⟨22, _⟩ => ⟨S1x9, .i32⟩
  | .hbm, ⟨23, _⟩ => ⟨S64x9, .i32⟩
  | .hbm, ⟨24, _⟩ => ⟨S64x9, .i32⟩
  | .hbm, ⟨25, _⟩ => ⟨S64x9, .i32⟩
  | .hbm, ⟨26, _⟩ => ⟨S_, .i32⟩
  | .hbm, ⟨27, _⟩ => ⟨S64x9, .i32⟩
  | .hbm, ⟨28, _⟩ => ⟨S64x9, .i1⟩
  | .hbm, ⟨29, _⟩ => ⟨S_, .i32⟩
  | .hbm, ⟨30, _⟩ => ⟨S64x9, .i32⟩
  | .hbm, ⟨31, _⟩ => ⟨S64x9, .i32⟩
  | .hbm, ⟨32, _⟩ => ⟨S64x9, .i32⟩
  | .hbm, ⟨33, _⟩ => ⟨S64x9x1, .i32⟩
  | .hbm, ⟨34, _⟩ => ⟨S4x64x9x64x8x64, .f32⟩
  | .hbm, ⟨35, _⟩ => ⟨S4x64x576x8x64, .f32⟩
  | .hbm, ⟨36, _⟩ => ⟨S_, .i32⟩
  | .hbm, ⟨37, _⟩ => ⟨S64x9, .i32⟩
  | .hbm, ⟨38, _⟩ => ⟨S64x9, .i1⟩
  | .hbm, ⟨39, _⟩ => ⟨S_, .i32⟩
  | .hbm, ⟨40, _⟩ => ⟨S64x9, .i32⟩
  | .hbm, ⟨41, _⟩ => ⟨S64x9, .i32⟩
  | .hbm, ⟨42, _⟩ => ⟨S64x9, .i32⟩
  | .hbm, ⟨43, _⟩ => ⟨S64x9x1, .i32⟩
  | .hbm, ⟨44, _⟩ => ⟨S4x64x9x64x8x64, .f32⟩
  | .hbm, ⟨45, _⟩ => ⟨S4x64x576x8x64, .f32⟩
  | .hbm, ⟨46, _⟩ => ⟨S4x8x64x64x576, .f32⟩
  | .hbm, ⟨47, _⟩ => ⟨S_, .f32⟩
  | .hbm, ⟨48, _⟩ => ⟨S4x8x64x64x576, .f32⟩
  | .hbm, ⟨49, _⟩ => ⟨S4x8x64x64x576, .f32⟩
  | .hbm, ⟨50, _⟩ => ⟨S64, .i32⟩
  | .hbm, ⟨51, _⟩ => ⟨S64x1, .i32⟩
  | .hbm, ⟨52, _⟩ => ⟨S_, .i32⟩
  | .hbm, ⟨53, _⟩ => ⟨S64x1, .i32⟩
  | .hbm, ⟨54, _⟩ => ⟨S64x1, .i32⟩
  | .hbm, ⟨55, _⟩ => ⟨S576, .i32⟩
  | .hbm, ⟨56, _⟩ => ⟨S1x576, .i32⟩
  | .hbm, ⟨57, _⟩ => ⟨S64x576, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S_, .i32⟩
  | .hbm, ⟨66, _⟩ => ⟨S64x576, .i32⟩
  | .hbm, ⟨67, _⟩ => ⟨S64x576, .i32⟩
  | .hbm, ⟨68, _⟩ => ⟨S_, .i32⟩
  | .hbm, ⟨69, _⟩ => ⟨S64x576, .i32⟩
  | .hbm, ⟨70, _⟩ => ⟨S64x576, .i32⟩
  | .hbm, ⟨71, _⟩ => ⟨S_, .i32⟩
  | .hbm, ⟨72, _⟩ => ⟨S64x576, .i32⟩
  | .hbm, ⟨73, _⟩ => ⟨S64x576, .i1⟩
  | .hbm, ⟨74, _⟩ => ⟨S_, .i32⟩
  | .hbm, ⟨75, _⟩ => ⟨S64x576, .i32⟩
  | .hbm, ⟨76, _⟩ => ⟨S64x576, .i32⟩
  | .hbm, ⟨77, _⟩ => ⟨S64x576, .i32⟩
  | .hbm, ⟨78, _⟩ => ⟨S64x576x1, .i32⟩
  | .hbm, ⟨79, _⟩ => ⟨S8x64x576, .f32⟩
  | .hbm, ⟨80, _⟩ => ⟨S64, .i32⟩
  | .hbm, ⟨81, _⟩ => ⟨S64x1, .i32⟩
  | .hbm, ⟨82, _⟩ => ⟨S_, .i32⟩
  | .hbm, ⟨83, _⟩ => ⟨S64x1, .i32⟩
  | .hbm, ⟨84, _⟩ => ⟨S64x1, .i32⟩
  | .hbm, ⟨85, _⟩ => ⟨S576, .i32⟩
  | .hbm, ⟨86, _⟩ => ⟨S1x576, .i32⟩
  | .hbm, ⟨87, _⟩ => ⟨S64x576, .i32⟩
  | .hbm, ⟨88, _⟩ => ⟨S64x576, .i32⟩
  | .hbm, ⟨89, _⟩ => ⟨S64x576, .i32⟩
  | .hbm, ⟨90, _⟩ => ⟨S_, .i32⟩
  | .hbm, ⟨91, _⟩ => ⟨S64x576, .i32⟩
  | .hbm, ⟨92, _⟩ => ⟨S64x576, .i32⟩
  | .hbm, ⟨93, _⟩ => ⟨S_, .i32⟩
  | .hbm, ⟨94, _⟩ => ⟨S64x576, .i32⟩
  | .hbm, ⟨95, _⟩ => ⟨S64x576, .i1⟩
  | .hbm, ⟨96, _⟩ => ⟨S8x1x64x576, .f32⟩
  | .hbm, ⟨97, _⟩ => ⟨S1x8x1x64x576, .f32⟩
  | .hbm, ⟨98, _⟩ => ⟨S4x8x64x64x576, .f32⟩
  | .hbm, ⟨99, _⟩ => ⟨S4x8x64x64x576, .f32⟩
  | .hbm, ⟨100, _⟩ => ⟨S1x1x64x1x576, .i1⟩
  | .hbm, ⟨101, _⟩ => ⟨S_, .f32⟩
  | .hbm, ⟨102, _⟩ => ⟨S_, .f32⟩
  | .hbm, ⟨103, _⟩ => ⟨S4x8x64x64x576, .i1⟩
  | .hbm, ⟨104, _⟩ => ⟨S4x8x64x64x576, .f32⟩
  | .hbm, ⟨105, _⟩ => ⟨S4x8x64x64x576, .f32⟩
  | .hbm, ⟨106, _⟩ => ⟨S_, .f32⟩
  | .hbm, ⟨107, _⟩ => ⟨S4x8x64x64, .f32⟩
  | .hbm, ⟨108, _⟩ => ⟨S_, .f32⟩
  | .hbm, ⟨109, _⟩ => ⟨S4x8x64x64, .f32⟩
  | .hbm, ⟨110, _⟩ => ⟨S4x8x64x64, .f32⟩
  | .hbm, ⟨111, _⟩ => ⟨S4x8x64x64x1, .f32⟩
  | .hbm, ⟨112, _⟩ => ⟨S4x8x64x64x576, .f32⟩
  | .hbm, ⟨113, _⟩ => ⟨S4x8x64x64x576, .f32⟩
  | .hbm, ⟨114, _⟩ => ⟨S4x8x64x64x576, .f32⟩
  | .hbm, ⟨115, _⟩ => ⟨S_, .f32⟩
  | .hbm, ⟨116, _⟩ => ⟨S4x8x64x64, .f32⟩
  | .hbm, ⟨117, _⟩ => ⟨S4x8x64x64x1, .f32⟩
  | .hbm, ⟨118, _⟩ => ⟨S4x8x64x64x576, .f32⟩
  | .hbm, ⟨119, _⟩ => ⟨S4x8x64x64x576, .f32⟩
  | .hbm, ⟨120, _⟩ => ⟨S4x64x8x64x64, .f32⟩
  | .hbm, ⟨121, _⟩ => ⟨S4x64x64x8x64, .f32⟩
  | .hbm, ⟨122, _⟩ => ⟨S16384x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_6 : Ref sig .tc := ⟨.hbm, 60, rfl⟩
abbrev main_c_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩

abbrev nD : Nat := 1
abbrev τ : Topo := Topo.v7x

variable {F : FTy → Type} [FloatOps F]
-- ==== Ffn.lean ====
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x2304 : Shape := ⟨2, ![1024, 2304]⟩
abbrev S1x1024 : Shape := ⟨2, ![1, 1024]⟩
abbrev S16384x512 : Shape := ⟨2, ![16384, 512]⟩
abbrev S16384x256 : Shape := ⟨2, ![16384, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2304, .f32⟩
  | .hbm, ⟨3, _⟩ => ⟨S1024x2304, .bf16⟩
  | .hbm, ⟨4, _⟩ => ⟨S1x1024, .f32⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x256, .f32⟩
  | .hbm, ⟨9, _⟩ => ⟨S16384x256, .f32⟩
  | .hbm, ⟨10, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S16384x1024 : Shape := ⟨2, ![16384, 1024]⟩
abbrev S1024 : Shape := ⟨1, ![1024]⟩
abbrev S1024x2304 : Shape := ⟨2, ![1024, 2304]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2304 : Shape := ⟨2, ![16384, 2304]⟩
abbrev S16384x512 : Shape := ⟨2, ![16384, 512]⟩
abbrev S16384x256 : Shape := ⟨2, ![16384, 256]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2304, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2304, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x512, .bf16⟩
  | .hbm, ⟨27, _⟩ => ⟨S16384x512, .bf16⟩
  | .hbm, ⟨28, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== OutProj.lean ====
abbrev S16384x512 : Shape := ⟨2, ![16384, 512]⟩
abbrev S16384x256 : Shape := ⟨2, ![16384, 256]⟩
abbrev S16384x1024 : Shape := ⟨2, ![16384, 1024]⟩
abbrev S1024 : Shape := ⟨1, ![1024]⟩
abbrev S256x256 : Shape := ⟨2, ![256, 256]⟩
abbrev S1024x1024 : Shape := ⟨2, ![1024, 1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S1x512 : Shape := ⟨2, ![1, 512]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩

abbrev nBuf : Space → Nat
  | .hbm => 14
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x256, .f32⟩
  | .hbm, ⟨3, _⟩ => ⟨S16384x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S256x256, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S256x256, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S16384x512 : Shape := ⟨2, ![16384, 512]⟩
abbrev S16384x256 : Shape := ⟨2, ![16384, 256]⟩
abbrev S16384x1024 : Shape := ⟨2, ![16384, 1024]⟩
abbrev S1024 : Shape := ⟨1, ![1024]⟩
abbrev S256x256 : Shape := ⟨2, ![256, 256]⟩
abbrev S1024x1024 : Shape := ⟨2, ![1024, 1024]⟩
abbrev S_ : Shape := ⟨0, ![]⟩
abbrev S512 : Shape := ⟨1, ![512]⟩
abbrev S16384 : Shape := ⟨1, ![16384]⟩
abbrev S16384x1 : Shape := ⟨2, ![16384, 1]⟩
abbrev S1x512 : Shape := ⟨2, ![1, 512]⟩
abbrev S256 : Shape := ⟨1, ![256]⟩
abbrev S1x256 : Shape := ⟨2, ![1, 256]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x256, .f32⟩
  | .hbm, ⟨2, _⟩ => ⟨S16384x256, .f32⟩
  | .hbm, ⟨3, _⟩ => ⟨S16384x1024, .f32⟩
  | .hbm, ⟨4, _⟩ => ⟨S1024, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S_, .f32⟩
  | .hbm, ⟨15, _⟩ => ⟨S16384x256, .f32⟩
  | .hbm, ⟨16, _⟩ => ⟨S16384x256, .f32⟩
  | .hbm, ⟨17, _⟩ => ⟨S16384x256, .f32⟩
  | .hbm, ⟨18, _⟩ => ⟨S512, .f32⟩
  | .hbm, ⟨19, _⟩ => ⟨S16384x512, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S256, .f32⟩
  | .hbm, ⟨36, _⟩ => ⟨S16384x256, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x256, .f32⟩
  | .hbm, ⟨48, _⟩ => ⟨S16384x256, .f32⟩
  | .hbm, ⟨49, _⟩ => ⟨S1x256, .f32⟩
  | .hbm, ⟨50, _⟩ => ⟨S16384x256, .f32⟩
  | .hbm, ⟨51, _⟩ => ⟨S16384x256, .f32⟩
  | .hbm, ⟨52, _⟩ => ⟨S256, .f32⟩
  | .hbm, ⟨53, _⟩ => ⟨S16384x256, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x256, .f32⟩
  | .hbm, ⟨65, _⟩ => ⟨S16384x256, .f32⟩
  | .hbm, ⟨66, _⟩ => ⟨S1x256, .f32⟩
  | .hbm, ⟨67, _⟩ => ⟨S16384x256, .f32⟩
  | .hbm, ⟨68, _⟩ => ⟨S16384x256, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Expert.lean ====
abbrev S141312x1024 : Shape := ⟨2, ![141312, 1024]⟩
abbrev S8x1024x2816 : Shape := ⟨3, ![8, 1024, 2816]⟩
abbrev S8x2816x1024 : Shape := ⟨3, ![8, 2816, 1024]⟩
abbrev S169 : Shape := ⟨1, ![169]⟩
abbrev S1 : Shape := ⟨1, ![1]⟩
abbrev S256x1024 : Shape := ⟨2, ![256, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x512 : Shape := ⟨2, ![1024, 512]⟩
abbrev S256x512 : Shape := ⟨2, ![256, 512]⟩
abbrev S2816x1024 : Shape := ⟨2, ![2816, 1024]⟩
abbrev S512x1024 : Shape := ⟨2, ![512, 1024]⟩
abbrev S1024x256 : Shape := ⟨2, ![1024, 256]⟩
abbrev S256x256 : Shape := ⟨2, ![256, 256]⟩

abbrev nBuf : Space → Nat
  | .hbm => 5
  | .vmem => 10
  | .smem => 3
  | _ => 0

abbrev bufTy : (tb : Table) → Fin (tcTables nBuf tb) → BufTy
  | .hbm, ⟨0, _⟩ => ⟨S141312x1024, .bf16⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S141312x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S256x1024, .bf16⟩
  | .local _ .vmem, ⟨9, _⟩ => ⟨S256x1024, .bf16⟩
  | .local _ .smem, ⟨0, _⟩ => ⟨S169, .i32⟩
  | .local _ .smem, ⟨1, _⟩ => ⟨S169, .i32⟩
  | .local _ .smem, ⟨2, _⟩ => ⟨S1, .i32⟩
  | _, _ => ⟨S141312x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![168], ![false]⟩

abbrev pre0 : Pipeline.Prefetch sig := ⟨3, ![main_arg4.idx, main_arg5.idx, main_arg6.idx], fun | 0 => main_arg4.names | 1 => main_arg5.names | 2 => main_arg6.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S169.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S169) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S169.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S169) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S169.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S169) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S169.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S169) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S169.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S169) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertRefIdeal.lean ====
abbrev S141312x1024 : Shape := ⟨2, ![141312, 1024]⟩
abbrev S8x1024x2816 : Shape := ⟨3, ![8, 1024, 2816]⟩
abbrev S8x2816x1024 : Shape := ⟨3, ![8, 2816, 1024]⟩
abbrev S169 : Shape := ⟨1, ![169]⟩
abbrev S1 : Shape := ⟨1, ![1]⟩
abbrev S8x17664x1024 : Shape := ⟨3, ![8, 17664, 1024]⟩
abbrev S8x17664x2816 : Shape := ⟨3, ![8, 17664, 2816]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S141312x1024, .bf16⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S169, .i32⟩
  | .hbm, ⟨5, _⟩ => ⟨S169, .i32⟩
  | .hbm, ⟨6, _⟩ => ⟨S1, .i32⟩
  | .hbm, ⟨7, _⟩ => ⟨S8x1024x2816, .f32⟩
  | .hbm, ⟨8, _⟩ => ⟨S8x1024x2816, .f32⟩
  | .hbm, ⟨9, _⟩ => ⟨S8x2816x1024, .f32⟩
  | .hbm, ⟨10, _⟩ => ⟨S141312x1024, .f32⟩
  | .hbm, ⟨11, _⟩ => ⟨S8x17664x1024, .f32⟩
  | .hbm, ⟨12, _⟩ => ⟨S8x17664x2816, .f32⟩
  | .hbm, ⟨13, _⟩ => ⟨S8x17664x2816, .f32⟩
  | .hbm, ⟨14, _⟩ => ⟨S8x17664x2816, .f32⟩
  | .hbm, ⟨15, _⟩ => ⟨S8x17664x2816, .f32⟩
  | .hbm, ⟨16, _⟩ => ⟨S_, .f32⟩
  | .hbm, ⟨17, _⟩ => ⟨S8x17664x2816, .f32⟩
  | .hbm, ⟨18, _⟩ => ⟨S8x17664x2816, .f32⟩
  | .hbm, ⟨19, _⟩ => ⟨S_, .f32⟩
  | .hbm, ⟨20, _⟩ => ⟨S8x17664x2816, .f32⟩
  | .hbm, ⟨21, _⟩ => ⟨S8x17664x2816, .f32⟩
  | .hbm, ⟨22, _⟩ => ⟨S8x17664x2816, .f32⟩
  | .hbm, ⟨23, _⟩ => ⟨S8x17664x2816, .f32⟩
  | .hbm, ⟨24, _⟩ => ⟨S8x17664x1024, .f32⟩
  | .hbm, ⟨25, _⟩ => ⟨S141312x1024, .f32⟩
  | .hbm, ⟨26, _⟩ => ⟨S141312x1024, .bf16⟩
  | _, _ => ⟨S141312x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]
-- ==== Route.lean ====
abbrev S16384x1024 : Shape := ⟨2, ![16384, 1024]⟩
abbrev S1024 : Shape := ⟨1, ![1024]⟩
abbrev S1024x8 : Shape := ⟨2, ![1024, 8]⟩
abbrev S8x1024 : Shape := ⟨2, ![8, 1024]⟩
abbrev S1x1024 : Shape := ⟨2, ![1, 1024]⟩
abbrev S8x16384 : Shape := ⟨2, ![8, 16384]⟩
abbrev S16384x8 : Shape := ⟨2, ![16384, 8]⟩
abbrev S64x8x128 : Shape := ⟨3, ![64, 8, 128]⟩
abbrev S256x1024 : Shape := ⟨2, ![256, 1024]⟩
abbrev S8x256 : Shape := ⟨2, ![8, 256]⟩
abbrev S256x8 : Shape := ⟨2, ![256, 8]⟩
abbrev S1x8x128 : Shape := ⟨3, ![1, 8, 128]⟩
abbrev S256 : Shape := ⟨1, ![256]⟩
abbrev S256x1 : Shape := ⟨2, ![256, 1]⟩
abbrev S1x256 : Shape := ⟨2, ![1, 256]⟩
abbrev S8 : Shape := ⟨1, ![8]⟩
abbrev S8x1 : Shape := ⟨2, ![8, 1]⟩
abbrev S256x256 : Shape := ⟨2, ![256, 256]⟩
abbrev S1x1 : Shape := ⟨2, ![1, 1]⟩
abbrev S8x128 : Shape := ⟨2, ![8, 128]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8x1024, .f32⟩
  | .hbm, ⟨4, _⟩ => ⟨S1x1024, .f32⟩
  | .hbm, ⟨5, _⟩ => ⟨S8x16384, .i32⟩
  | .hbm, ⟨6, _⟩ => ⟨S16384x8, .i32⟩
  | .hbm, ⟨7, _⟩ => ⟨S16384x8, .f32⟩
  | .hbm, ⟨8, _⟩ => ⟨S64x8x128, .i32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S8x256, .i32⟩
  | .local _ .vmem, ⟨5, _⟩ => ⟨S8x256, .i32⟩
  | .local _ .vmem, ⟨6, _⟩ => ⟨S256x8, .i32⟩
  | .local _ .vmem, ⟨7, _⟩ => ⟨S256x8, .i32⟩
  | .local _ .vmem, ⟨8, _⟩ => ⟨S256x8, .f32⟩
  | .local _ .vmem, ⟨9, _⟩ => ⟨S256x8, .f32⟩
  | .local _ .vmem, ⟨10, _⟩ => ⟨S1x8x128, .i32⟩
  | .local _ .vmem, ⟨11, _⟩ => ⟨S1x8x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteRefIdeal.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S8 : Shape := ⟨1, ![8]⟩
abbrev S1x1x8 : Shape := ⟨3, ![1, 1, 8]⟩
abbrev S16384x2x8 : Shape := ⟨3, ![16384, 2, 8]⟩
abbrev S64x256x8 : Shape := ⟨3, ![64, 256, 8]⟩
abbrev S64x8 : Shape := ⟨2, ![64, 8]⟩
abbrev S8x16384 : Shape := ⟨2, ![8, 16384]⟩
abbrev S64x8x1 : Shape := ⟨3, ![64, 8, 1]⟩
abbrev S64x8x128 : Shape := ⟨3, ![64, 8, 128]⟩

abbrev nBuf : Space → Nat
  | .hbm => 103
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8, .f32⟩
  | .hbm, ⟨20, _⟩ => ⟨S16384x2, .f32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384x1, .f32⟩
  | .hbm, ⟨28, _⟩ => ⟨S16384x2, .f32⟩
  | .hbm, ⟨29, _⟩ => ⟨S16384x2, .f32⟩
  | .hbm, ⟨30, _⟩ => ⟨S16384x2, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S16384x2, .f32⟩
  | .hbm, ⟨35, _⟩ => ⟨S16384x2, .f32⟩
  | .hbm, ⟨36, _⟩ => ⟨S16384x2x1, .i32⟩
  | .hbm, ⟨37, _⟩ => ⟨S8, .i32⟩
  | .hbm, ⟨38, _⟩ => ⟨S1x1x8, .i32⟩
  | .hbm, ⟨39, _⟩ => ⟨S16384x2x8, .i32⟩
  | .hbm, ⟨40, _⟩ => ⟨S16384x2x8, .i32⟩
  | .hbm, ⟨41, _⟩ => ⟨S16384x2x8, .i1⟩
  | .hbm, ⟨42, _⟩ => ⟨S_, .i1⟩
  | .hbm, ⟨43, _⟩ => ⟨S16384x8, .i1⟩
  | .hbm, ⟨44, _⟩ => ⟨S16384x2x1, .f32⟩
  | .hbm, ⟨45, _⟩ => ⟨S_, .f32⟩
  | .hbm, ⟨46, _⟩ => ⟨S_, .f32⟩
  | .hbm, ⟨47, _⟩ => ⟨S16384x2x8, .f32⟩
  | .hbm, ⟨48, _⟩ => ⟨S16384x2x8, .f32⟩
  | .hbm, ⟨49, _⟩ => ⟨S16384x2x8, .f32⟩
  | .hbm, ⟨50, _⟩ => ⟨S_, .f32⟩
  | .hbm, ⟨51, _⟩ => ⟨S16384x8, .f32⟩
  | .hbm, ⟨52, _⟩ => ⟨S16384x8, .i32⟩
  | .hbm, ⟨53, _⟩ => ⟨S64x256x8, .i32⟩
  | .hbm, ⟨54, _⟩ => ⟨S_, .i32⟩
  | .hbm, ⟨55, _⟩ => ⟨S64x8, .i32⟩
  | .hbm, ⟨56, _⟩ => ⟨S_, .i32⟩
  | .hbm, ⟨57, _⟩ => ⟨S_, .i32⟩
  | .hbm, ⟨58, _⟩ => ⟨S64x256x8, .i32⟩
  | .hbm, ⟨59, _⟩ => ⟨S64x256x8, .i32⟩
  | .hbm, ⟨60, _⟩ => ⟨S16384x8, .i32⟩
  | .hbm, ⟨61, _⟩ => ⟨S_, .i32⟩
  | .hbm, ⟨62, _⟩ => ⟨S_, .i32⟩
  | .hbm, ⟨63, _⟩ => ⟨S16384x8, .i32⟩
  | .hbm, ⟨64, _⟩ => ⟨S16384x8, .i32⟩
  | .hbm, ⟨65, _⟩ => ⟨S_, .i32⟩
  | .hbm, ⟨66, _⟩ => ⟨S64x8, .i32⟩
  | .hbm, ⟨67, _⟩ => ⟨S64x8, .i32⟩
  | .hbm, ⟨68, _⟩ => ⟨S_, .i32⟩
  | .hbm, ⟨69, _⟩ => ⟨S_, .i32⟩
  | .hbm, ⟨70, _⟩ => ⟨S64x8, .i32⟩
  | .hbm, ⟨71, _⟩ => ⟨S64x8, .i32⟩
  | .hbm, ⟨72, _⟩ => ⟨S64x8, .i32⟩
  | .hbm, ⟨73, _⟩ => ⟨S_, .i32⟩
  | .hbm, ⟨74, _⟩ => ⟨S64x8, .i32⟩
  | .hbm, ⟨75, _⟩ => ⟨S64x8, .i1⟩
  | .hbm, ⟨76, _⟩ => ⟨S64x8, .i32⟩
  | .hbm, ⟨77, _⟩ => ⟨S64x8, .i32⟩
  | .hbm, ⟨78, _⟩ => ⟨S_, .i32⟩
  | .hbm, ⟨79, _⟩ => ⟨S64x8, .i32⟩
  | .hbm, ⟨80, _⟩ => ⟨S64x8, .i1⟩
  | .hbm, ⟨81, _⟩ => ⟨S64x8, .i1⟩
  | .hbm, ⟨82, _⟩ => ⟨S_, .i32⟩
  | .hbm, ⟨83, _⟩ => ⟨S64x8, .i32⟩
  | .hbm, ⟨84, _⟩ => ⟨S64x8, .i32⟩
  | .hbm, ⟨85, _⟩ => ⟨S64x8, .i32⟩
  | .hbm, ⟨86, _⟩ => ⟨S_, .i32⟩
  | .hbm, ⟨87, _⟩ => ⟨S64x8, .i32⟩
  | .hbm, ⟨88, _⟩ => ⟨S64x8, .i32⟩
  | .hbm, ⟨89, _⟩ => ⟨S_, .i32⟩
  | .hbm, ⟨90, _⟩ => ⟨S_, .i32⟩
  | .hbm, ⟨91, _⟩ => ⟨S64x8, .i32⟩
  | .hbm, ⟨92, _⟩ => ⟨S64x8, .i32⟩
  | .hbm, ⟨93, _⟩ => ⟨S64x256x8, .i32⟩
  | .hbm, ⟨94, _⟩ => ⟨S16384x8, .i32⟩
  | .hbm, ⟨95, _⟩ => ⟨S16384x8, .i32⟩
  | .hbm, ⟨96, _⟩ => ⟨S_, .i32⟩
  | .hbm, ⟨97, _⟩ => ⟨S_, .i32⟩
  | .hbm, ⟨98, _⟩ => ⟨S16384x8, .i32⟩
  | .hbm, ⟨99, _⟩ => ⟨S16384x8, .i32⟩
  | .hbm, ⟨100, _⟩ => ⟨S8x16384, .i32⟩
  | .hbm, ⟨101, _⟩ => ⟨S64x8x1, .i32⟩
  | .hbm, ⟨102, _⟩ => ⟨S64x8x128, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_call1_call0_c : Ref sig .tc := ⟨.hbm, 56, rfl⟩
abbrev main_call1_call0_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_call2_v0 : Ref sig .tc := ⟨.hbm, 62, rfl⟩
abbrev main_call2_v1 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v44 : Ref sig .tc := ⟨.hbm, 85, rfl⟩
abbrev main_c_11 : Ref sig .tc := ⟨.hbm, 86, rfl⟩
abbrev main_v45 : Ref sig .tc := ⟨.hbm, 87, rfl⟩
abbrev main_v46 : Ref sig .tc := ⟨.hbm, 88, rfl⟩
abbrev main_call4_call0_c : Ref sig .tc := ⟨.hbm, 89, rfl⟩
abbrev main_call4_call0_v0 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_12 : Ref sig .tc := ⟨.hbm, 96, rfl⟩
abbrev main_call5_v0 : Ref sig .tc := ⟨.hbm, 97, rfl⟩
abbrev main_call5_v1 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩

abbrev nD : Nat := 1
abbrev τ : Topo := Topo.v7x

variable {F : FTy → Type} [FloatOps F]
-- ==== Proof.FfnSpec.lean ====
/-
  THE DENSE FEED-FORWARD CALL, the value both programs compute (over the extended reals): a residual row plus the
  SwiGLU of the normalised row through the down projection. Also how its sum over the 2816 hidden features splits into
  the six runs of features the kernel takes one after the other.
-/
module

public import Idealize.ShloMosaic.Lib.Pipeline.ValueKit
public import Idealize.ShloMosaic.Lib.Pointwise

@[expose] public section

noncomputable section

namespace Cert.FfnSpec

open Idealize.ShloMosaic

/-- SwiGLU of one hidden feature: `silu a · b`, with `silu a = a · 1/(1 + e^(−a))`. -/
def swiglu (a b : EReal) : EReal := a * Ideal.div 1 (1 + Ideal.exp (-a)) * b

/-- The call's value: `x + (silu(h w1) · (h w3)) w2`, element by element. -/
def ffn (h x : (⟨2, ![16384, 1024]⟩ : Shape).Idx → EReal) (w1 w3 : (⟨2, ![1024, 2816]⟩ : Shape).Idx → EReal)
    (w2 : (⟨2, ![2816, 1024]⟩ : Shape).Idx → EReal) : (⟨2, ![16384, 1024]⟩ : Shape).Idx → EReal :=
  fun i => x i + ∑ k : Fin 2816,
    swiglu (∑ j : Fin 1024, h (ix2 (i 0) j) * w1 (ix2 j k)) (∑ j : Fin 1024, h (ix2 (i 0) j) * w3 (ix2 j k))
      * w2 (ix2 k (i 1))

/-- A sum over `a + b` terms is the sum of the first `a` and of the last `b`. -/
theorem sum_cut {n : ℕ} (a b : ℕ) (hn : n = a + b) (f : Fin n → EReal) :
    ∑ k : Fin n, f k = (∑ k : Fin a, f ⟨k.val, by omega⟩) + ∑ k : Fin b, f ⟨a + k.val, by omega⟩ := by
  subst hn
  rw [Fin.sum_univ_add]
  rfl

/-- The sum over 2816 features as five runs of 512 and one of 256, added first to last. -/
theorem sum_runs (f : Fin 2816 → EReal) :
    ∑ k : Fin 2816, f k
      = (((((∑ k : Fin 512, f ⟨k.val, by omega⟩) + ∑ k : Fin 512, f ⟨512 + k.val, by omega⟩)
        + ∑ k : Fin 512, f ⟨1024 + k.val, by omega⟩) + ∑ k : Fin 512, f ⟨1536 + k.val, by omega⟩)
        + ∑ k : Fin 512, f ⟨2048 + k.val, by omega⟩) + ∑ k : Fin 256, f ⟨2560 + k.val, by omega⟩ := by
  rw [sum_cut 2560 256 rfl f, sum_cut 2048 512 rfl, sum_cut 1536 512 rfl, sum_cut 1024 512 rfl, sum_cut 512 512 rfl]

end Cert.FfnSpec

end
-- ==== Proof.FfnKernel.lean ====
/-
  THE DENSE FEED-FORWARD KERNEL'S VALUE: after the run the result array holds the call's value (`FfnSpec.ffn`) of the
  arguments. Each of the 32 grid points computes one block of 512 rows; within it the 2816 hidden features are taken in
  six runs (five of 512, one of 256), whose products are added first to last onto the residual.
-/
module

public import proofs.«01_k».proof.Proof.Gen.FfnIdeal.Value
public import proofs.«01_k».proof.Proof.FfnSpec

@[expose] public section

set_option maxRecDepth 16384

noncomputable section

open Idealize.ShloMosaic Idealize.ShloMosaic.TcCoe Idealize.SL.Sem
open Idealize.ShloMosaic.Pipeline (Dat)

namespace Cert.FfnIdeal.Block

open Cert.FfnIdeal Cert.FfnIdeal.Gen Cert.FfnSpec

variable (m : (ℓ : Loc nD τ sig) → Buf (Elt Ideal) ℓ)

/-- Which block each window takes at each point: rows advance with the point, the weights stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

/-- The call's value of the launch contents of the arguments. -/
abbrev result (c : Dev nD) : FVec Ideal S16384x1024 .f32 :=
  ffn (m ((c : Thread nD τ).loc main_arg0)) (m ((c : Thread nD τ).loc main_arg1)) (m ((c : Thread nD τ).loc main_arg2))
    (m ((c : Thread nD τ).loc main_arg3)) (m ((c : Thread nD τ).loc main_arg4))

set_option maxHeartbeats 2000000 in
/-- What the body leaves at an element of a point's block is the call's value at the element's place in the array. -/
theorem point (c : Dev nD) (t : Fin cfg0.N) (y : S512x1024.Idx) :
    out0_5 (iblk m c 0 t) (iblk m c 1 t) (iblk m c 2 t) (iblk m c 3 t) (iblk m c 4 t) y
      = result m c (((cfg0.win 5).blk t).view.emb y) := by
  frame_out
  unfold result ffn
  rw [sum_runs]
  pointwise [k0_pay1, k0_pay2, k0_pay3, k0_pay4, k0_pay5, k0_pay6, k0_pay7, k0_pay8, k0_pay9, k0_pay10, k0_pay11,
    k0_pay12, k0_pay13, k0_pay14]
  simp only [swiglu, zero_sub]
  blk_point [iblk, V, idx t]

/-- The result array after the run. -/
theorem final (c : Dev nD) : (dats m 0 c).arrAt 5 cfg0.N = result m c := by
  refine (dats m 0 c).arrAt_eq_of_covers 5 _ (by decide +kernel) fun t _ y => ?_
  blk_simp
  rw [after0_5]
  exact point m c t y

end Cert.FfnIdeal.Block

end
-- ==== Proof.FfnReference.lean ====
/-
  THE DENSE FEED-FORWARD REFERENCE'S VALUE is the call's value (`FfnSpec.ffn`) of its arguments: three whole products
  and a SwiGLU between them, read at an element. Then the claim: kernel and reference end with equal results.
-/
module

public import proofs.«01_k».proof.Defs
public import proofs.«01_k».proof.Proof.FfnKernel
public import proofs.«01_k».proof.Proof.Gen.FfnRefIdeal.Run
public import proofs.«01_k».proof.Proof.Gen.FfnRefIdeal.Read
public import Idealize.ShloMosaic.Lib.Claim

@[expose] public section

set_option maxRecDepth 16384

noncomputable section

open Idealize.ShloMosaic Idealize.ShloMosaic.TcCoe Idealize.SL.Sem

namespace Cert.FfnRefIdeal.Block

open Cert.FfnRefIdeal Cert.FfnRefIdeal.Gen Cert.FfnSpec Cert.FfnRefIdeal.Read

/-- The reference's last stage is the call's value of the arguments. -/
theorem value (x0 : FVec Ideal S16384x1024 .bf16) (x1 : FVec Ideal S16384x1024 .f32) (x2 x3 : FVec Ideal S1024x2816 .f32)
    (x4 : FVec Ideal S2816x1024 .f32) : val_main_v6 (F := Ideal) x0 x1 x2 x3 x4 = ffn x0 x1 x2 x3 x4 := by
  funext i
  rw [← val_main_v6_eq]
  unfold ffn swiglu
  pointwise

end Cert.FfnRefIdeal.Block

namespace Cert.Proof

/-- The dense feed-forward kernel and its reference end with equal results over the extended reals. -/
theorem ffn_algebraic : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    rw [Cert.FfnRefIdeal.Read.val_main_v6_eq, Cert.FfnRefIdeal.Block.value]
    exact (Cert.FfnIdeal.Block.final m c).symm

end Cert.Proof

end
-- ==== Proof.NormSpec.lean ====
/-
  THE ROOT-MEAN-SQUARE NORM that the projections apply to a row, and the values of the two projection calls, over the
  extended reals.
-/
module

public import Idealize.ShloMosaic.Lib.Pipeline.ValueKit
public import Idealize.ShloMosaic.Lib.Pointwise
public import proofs.«01_k».proof.Proof.FfnSpec

@[expose] public section

noncomputable section

namespace Cert.NormSpec

open Idealize.ShloMosaic

/-- The row's scale: `1/√(mean of squares + ε)`, with the row's length `cnt` and the model's `ε` as their f32 words. -/
def scale {n : ℕ} (cnt : BitVec 32) (v : Fin n → EReal) : EReal :=
  Ideal.rsqrt (Ideal.div (∑ l : Fin n, v l * v l) (Ideal.ofBits .f32 cnt) + Ideal.ofBits .f32 0x358637BD#32)

/-- The norm of a row, element `j`: the element times the row's scale times the gain. -/
def rms {n : ℕ} (cnt : BitVec 32) (v g : Fin n → EReal) (j : Fin n) : EReal := v j * scale cnt v * g j

/-- The input projection: the normalised row times `W` columns of the weight, from column `off` on. -/
def inProj (W off : ℕ) (h : off + W ≤ 2304) (x : (⟨2, ![16384, 1024]⟩ : Shape).Idx → EReal) (g : (⟨1, ![1024]⟩ : Shape).Idx → EReal)
    (w : (⟨2, ![1024, 2304]⟩ : Shape).Idx → EReal) (r : Fin 16384) (l : Fin W) : EReal :=
  ∑ k : Fin 1024, rms 0x44800000#32 (fun l => x (ix2 r l)) (fun l => g (ix1 l)) k * w (ix2 k ⟨off + l.val, by omega⟩)

/-- The third branch's gate: `y · 1/(1 + e^(−(y w_glu)))`, at row `r`, feature `l`. -/
def gated (ys : (⟨2, ![16384, 256]⟩ : Shape).Idx → EReal) (wg : (⟨2, ![256, 256]⟩ : Shape).Idx → EReal) (r : Fin 16384)
    (l : Fin 256) : EReal :=
  ys (ix2 r l) * Ideal.div 1 (1 + Ideal.exp (-∑ k : Fin 256, ys (ix2 r k) * wg (ix2 k l)))

/-- The output projection's residual row: `x` plus the three normalised branches, each through its rows of `w_out`. -/
def outProj (ya : (⟨2, ![16384, 512]⟩ : Shape).Idx → EReal) (yr ys : (⟨2, ![16384, 256]⟩ : Shape).Idx → EReal)
    (x : (⟨2, ![16384, 1024]⟩ : Shape).Idx → EReal) (gg : (⟨1, ![1024]⟩ : Shape).Idx → EReal)
    (wg : (⟨2, ![256, 256]⟩ : Shape).Idx → EReal) (wo : (⟨2, ![1024, 1024]⟩ : Shape).Idx → EReal) (r : Fin 16384) (l : Fin 1024) :
    EReal :=
  x (ix2 r l)
    + (((∑ k : Fin 512, rms 0x44000000#32 (fun j => ya (ix2 r j)) (fun j : Fin 512 => gg (ix1 ⟨j.val, by omega⟩)) k
          * wo (ix2 ⟨k.val, by omega⟩ l))
      + ∑ k : Fin 256, rms 0x43800000#32 (fun j => yr (ix2 r j)) (fun j : Fin 256 => gg (ix1 ⟨512 + j.val, by omega⟩)) k
          * wo (ix2 ⟨512 + k.val, by omega⟩ l))
      + ∑ k : Fin 256, rms 0x43800000#32 (fun j => gated ys wg r j) (fun j : Fin 256 => gg (ix1 ⟨768 + j.val, by omega⟩)) k
          * wo (ix2 ⟨768 + k.val, by omega⟩ l))

/-- The output projection's second result: the norm of the residual row. -/
def outNorm (ya : (⟨2, ![16384, 512]⟩ : Shape).Idx → EReal) (yr ys : (⟨2, ![16384, 256]⟩ : Shape).Idx → EReal)
    (x : (⟨2, ![16384, 1024]⟩ : Shape).Idx → EReal) (gg : (⟨1, ![1024]⟩ : Shape).Idx → EReal)
    (wg : (⟨2, ![256, 256]⟩ : Shape).Idx → EReal) (wo : (⟨2, ![1024, 1024]⟩ : Shape).Idx → EReal)
    (gf : (⟨1, ![1024]⟩ : Shape).Idx → EReal) (r : Fin 16384) (l : Fin 1024) : EReal :=
  rms 0x44800000#32 (fun j => outProj ya yr ys x gg wg wo r j) (fun j => gf (ix1 j)) l

/-- A sum over the 1024 mixed features is the sum over the first branch's, the second's and the third's. -/
theorem sum_branches (f : Fin 1024 → EReal) :
    ∑ k : Fin 1024, f k = ((∑ k : Fin 512, f ⟨k.val, by omega⟩) + ∑ k : Fin 256, f ⟨512 + k.val, by omega⟩)
      + ∑ k : Fin 256, f ⟨768 + k.val, by omega⟩ := by
  rw [FfnSpec.sum_cut 768 256 rfl f, FfnSpec.sum_cut 512 256 rfl]

end Cert.NormSpec

end
-- ==== Proof.InProjKernel.lean ====
/-
  THE INPUT PROJECTION KERNEL'S VALUES: after the run each of its six result arrays holds its columns of the normalised
  rows times the weight (`NormSpec.inProj`). Each grid point computes one block of 512 rows of every result.
-/
module

public import proofs.«01_k».proof.Proof.Gen.InProjIdeal.Value
public import proofs.«01_k».proof.Proof.NormSpec

@[expose] public section

set_option maxRecDepth 16384

noncomputable section

open Idealize.ShloMosaic Idealize.ShloMosaic.TcCoe Idealize.SL.Sem
open Idealize.ShloMosaic.Pipeline (Dat)

namespace Cert.InProjIdeal.Block

open Cert.InProjIdeal Cert.InProjIdeal.Gen Cert.NormSpec

variable (m : (ℓ : Loc nD τ sig) → Buf (Elt Ideal) ℓ)

/-- Which block each window takes at each point: rows advance with the point, gain and weight stay. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- `W` columns from `off` on of the projection of the launch contents of the arguments. -/
abbrev result (W off : ℕ) (h : off + W ≤ 2304) (c : Dev nD) : (⟨2, ![16384, W]⟩ : Shape).Idx → EReal :=
  fun i => inProj W off h (m ((c : Thread nD τ).loc main_arg0)) (m ((c : Thread nD τ).loc main_arg1))
    (m ((c : Thread nD τ).loc main_arg2)) (i 0) (i 1)

/-- The queries. -/
theorem final3 (c : Dev nD) : (dats m 0 c).arrAt 3 cfg0.N = result m 512 0 (by decide) c := by
  refine (dats m 0 c).arrAt_eq_of_covers 3 _ (by decide +kernel) fun t _ y => ?_
  blk_simp
  rw [after0_3]; frame_out
  unfold result inProj rms scale
  pointwise [k0_pay5, k0_pay4]
  blk_point [iblk, V, idx t]

/-- The keys. -/
theorem final4 (c : Dev nD) : (dats m 0 c).arrAt 4 cfg0.N = result m 512 512 (by decide) c := by
  refine (dats m 0 c).arrAt_eq_of_covers 4 _ (by decide +kernel) fun t _ y => ?_
  blk_simp
  rw [after0_4]; frame_out
  unfold result inProj rms scale
  pointwise [k0_pay6, k0_pay4]
  blk_point [iblk, V, idx t]

/-- The values. -/
theorem final5 (c : Dev nD) : (dats m 0 c).arrAt 5 cfg0.N = result m 512 1024 (by decide) c := by
  refine (dats m 0 c).arrAt_eq_of_covers 5 _ (by decide +kernel) fun t _ y => ?_
  blk_simp
  rw [after0_5]; frame_out
  unfold result inProj rms scale
  pointwise [k0_pay7, k0_pay4]
  blk_point [iblk, V, idx t]

/-- The recurrence's inputs. -/
theorem final6 (c : Dev nD) : (dats m 0 c).arrAt 6 cfg0.N = result m 256 1536 (by decide) c := by
  refine (dats m 0 c).arrAt_eq_of_covers 6 _ (by decide +kernel) fun t _ y => ?_
  blk_simp
  rw [after0_6]; frame_out
  unfold result inProj rms scale
  pointwise [k0_pay1, k0_pay8, k0_pay4]
  blk_point [iblk, V, idx t]

/-- The recurrence's gates. -/
theorem final7 (c : Dev nD) : (dats m 0 c).arrAt 7 cfg0.N = result m 256 1792 (by decide) c := by
  refine (dats m 0 c).arrAt_eq_of_covers 7 _ (by decide +kernel) fun t _ y => ?_
  blk_simp
  rw [after0_7]; frame_out
  unfold result inProj rms scale
  pointwise [k0_pay2, k0_pay8, k0_pay4]
  blk_point [iblk, V, idx t]

/-- The state-space branch's inputs. -/
theorem final8 (c : Dev nD) : (dats m 0 c).arrAt 8 cfg0.N = result m 256 2048 (by decide) c := by
  refine (dats m 0 c).arrAt_eq_of_covers 8 _ (by decide +kernel) fun t _ y => ?_
  blk_simp
  rw [after0_8]; frame_out
  unfold result inProj rms scale
  pointwise [k0_pay3, k0_pay8, k0_pay4]
  blk_point [iblk, V, idx t]

end Cert.InProjIdeal.Block

end
-- ==== Proof.InProjReference.lean ====
/-
  THE INPUT PROJECTION REFERENCE'S VALUES: each of its six results is its columns of `NormSpec.inProj` of the arguments.
  Then the claim: kernel and reference end with equal results.
-/
module

public import proofs.«01_k».proof.Defs
public import proofs.«01_k».proof.Proof.InProjKernel
public import proofs.«01_k».proof.Proof.Gen.InProjRefIdeal.Run
public import proofs.«01_k».proof.Proof.Gen.InProjRefIdeal.Read
public import Idealize.ShloMosaic.Lib.Claim

@[expose] public section

set_option maxRecDepth 16384

noncomputable section

open Idealize.ShloMosaic Idealize.ShloMosaic.TcCoe Idealize.SL.Sem

namespace Cert.InProjRefIdeal.Block

open Cert.InProjRefIdeal Cert.InProjRefIdeal.Gen Cert.NormSpec Cert.InProjRefIdeal.Read

variable (x : FVec Ideal S16384x1024 .f32) (g : FVec Ideal S1024 .f32) (w : FVec Ideal S1024x2304 .f32)

/-- The queries. -/
theorem value20 : val_main_v20 (F := Ideal) x g w = fun i => inProj 512 0 (by decide) x g w (i 0) (i 1) := by
  funext i
  rw [← val_main_v20_eq]
  unfold inProj rms scale
  pointwise

/-- The keys. -/
theorem value21 : val_main_v21 (F := Ideal) x g w = fun i => inProj 512 512 (by decide) x g w (i 0) (i 1) := by
  funext i
  rw [← val_main_v21_eq]
  unfold inProj rms scale
  pointwise

/-- The values. -/
theorem value22 : val_main_v22 (F := Ideal) x g w = fun i => inProj 512 1024 (by decide) x g w (i 0) (i 1) := by
  funext i
  rw [← val_main_v22_eq]
  unfold inProj rms scale
  pointwise

/-- The recurrence's inputs. -/
theorem value17 : val_main_v17 (F := Ideal) x g w = fun i => inProj 256 1536 (by decide) x g w (i 0) (i 1) := by
  funext i
  rw [← val_main_v17_eq]
  unfold inProj rms scale
  pointwise

/-- The recurrence's gates. -/
theorem value18 : val_main_v18 (F := Ideal) x g w = fun i => inProj 256 1792 (by decide) x g w (i 0) (i 1) := by
  funext i
  rw [← val_main_v18_eq]
  unfold inProj rms scale
  pointwise

/-- The state-space branch's inputs. -/
theorem value19 : val_main_v19 (F := Ideal) x g w = fun i => inProj 256 2048 (by decide) x g w (i 0) (i 1) := by
  funext i
  rw [← val_main_v19_eq]
  unfold inProj rms scale
  pointwise

end Cert.InProjRefIdeal.Block

namespace Cert.Proof

open Cert.InProjRefIdeal.Read Cert.InProjRefIdeal.Block in
/-- The input projection kernel and its reference end with equal results over the extended reals. -/
theorem inProj_algebraic : Cert.algebraic_InProjIdeal_InProjRefIdeal (hInProjIdeal := Cert.InProjIdeal.Gen.facts)
    (hInProjRefIdeal := Cert.InProjRefIdeal.Gen.facts) := by
  pair_intro
  · run_from Cert.InProjIdeal.Value.run_blocks m g
  · run_from Cert.InProjRefIdeal.Value.run m' g'
    · rw [val_main_v20_eq, value20]
      exact (Cert.InProjIdeal.Block.final3 m c).symm
    · rw [val_main_v21_eq, value21]
      exact (Cert.InProjIdeal.Block.final4 m c).symm
    · rw [val_main_v22_eq, value22]
      exact (Cert.InProjIdeal.Block.final5 m c).symm
    · rw [val_main_v17_eq, value17]
      exact (Cert.InProjIdeal.Block.final6 m c).symm
    · rw [val_main_v18_eq, value18]
      exact (Cert.InProjIdeal.Block.final7 m c).symm
    · rw [val_main_v19_eq, value19]
      exact (Cert.InProjIdeal.Block.final8 m c).symm

end Cert.Proof

end
-- ==== Proof.OutProjKernel.lean ====
/-
  THE OUTPUT PROJECTION KERNEL'S VALUES: after the run the first result array holds the residual rows
  (`NormSpec.outProj`) and the second their norm (`NormSpec.outNorm`). Each grid point computes one block of 512 rows.
-/
module

public import proofs.«01_k».proof.Proof.Gen.OutProjIdeal.Value
public import proofs.«01_k».proof.Proof.NormSpec

@[expose] public section

set_option maxRecDepth 16384

noncomputable section

open Idealize.ShloMosaic Idealize.ShloMosaic.TcCoe Idealize.SL.Sem
open Idealize.ShloMosaic.Pipeline (Dat)

namespace Cert.OutProjIdeal.Block

open Cert.OutProjIdeal Cert.OutProjIdeal.Gen Cert.NormSpec

variable (m : (ℓ : Loc nD τ sig) → Buf (Elt Ideal) ℓ)

/-- Which block each window takes at each point: rows advance with the point, gains and weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- The residual rows of the launch contents of the arguments. -/
abbrev result8 (c : Dev nD) : S16384x1024.Idx → EReal := fun i =>
  outProj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- Their norm. -/
abbrev result9 (c : Dev nD) : S16384x1024.Idx → EReal := fun i =>
  outNorm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1)

set_option maxHeartbeats 2000000 in
/-- The first result array after the run. -/
theorem final8 (c : Dev nD) : (dats m 0 c).arrAt 8 cfg0.N = result8 m c := by
  refine (dats m 0 c).arrAt_eq_of_covers 8 _ (by decide +kernel) fun t _ y => ?_
  blk_simp
  rw [after0_8]; frame_out
  unfold result8 outProj rms scale gated
  pointwise [k0_pay2, k0_pay3, k0_pay4, k0_pay6, k0_pay7]
  simp only [zero_sub, add_assoc]
  blk_point [iblk, V, idx t]

set_option maxHeartbeats 2000000 in
/-- The second result array after the run. -/
theorem final9 (c : Dev nD) : (dats m 0 c).arrAt 9 cfg0.N = result9 m c := by
  refine (dats m 0 c).arrAt_eq_of_covers 9 _ (by decide +kernel) fun t _ y => ?_
  blk_simp
  rw [after0_9]; frame_out
  unfold result9 outNorm outProj rms scale gated
  pointwise [k0_pay1, k0_pay2, k0_pay3, k0_pay4, k0_pay5, k0_pay6, k0_pay7]
  simp only [zero_sub, add_assoc]
  blk_point [iblk, V, idx t]

end Cert.OutProjIdeal.Block

end
-- ==== Proof.OutProjReference.lean ====
/-
  THE OUTPUT PROJECTION REFERENCE'S VALUES are `NormSpec.outProj` and `NormSpec.outNorm` of the arguments. The reference
  joins the three normalised branches and multiplies once by `w_out`; the one sum is cut at the joints
  (`NormSpec.sum_branches`). Then the claim: kernel and reference end with equal results.
-/
module

public import proofs.«01_k».proof.Defs
public import proofs.«01_k».proof.Proof.OutProjKernel
public import proofs.«01_k».proof.Proof.Gen.OutProjRefIdeal.Run
public import proofs.«01_k».proof.Proof.Gen.OutProjRefIdeal.Read
public import Idealize.ShloMosaic.Lib.Claim

@[expose] public section

set_option maxRecDepth 16384

noncomputable section

open Idealize.ShloMosaic Idealize.ShloMosaic.TcCoe Idealize.SL.Sem

namespace Cert.OutProjRefIdeal.Block

open Cert.OutProjRefIdeal Cert.OutProjRefIdeal.Gen Cert.NormSpec Cert.OutProjRefIdeal.Read

variable (ya : FVec Ideal S16384x512 .f32) (yr ys : FVec Ideal S16384x256 .f32) (x : FVec Ideal S16384x1024 .f32)
  (gg : FVec Ideal S1024 .f32) (wg : FVec Ideal S256x256 .f32) (wo : FVec Ideal S1024x1024 .f32) (gf : FVec Ideal S1024 .f32)

/-- The residual rows. -/
theorem value52 : val_main_v52 (F := Ideal) ya yr ys x gg wg wo
    = fun i => outProj ya yr ys x gg wg wo (i 0) (i 1) := by
  funext i
  rw [← val_main_v52_eq]
  unfold outProj rms scale gated
  pointwise
  rw [sum_branches]
  pointwise
  congr 2

/-- Their norm. -/
theorem value66 : val_main_v66 (F := Ideal) ya yr ys x gg wg wo gf
    = fun i => outNorm ya yr ys x gg wg wo gf (i 0) (i 1) := by
  funext i
  unfold outNorm rms scale
  pointwise [val_main_v53, val_main_v54, val_main_v55, val_main_v56, val_main_v57, val_main_v58, val_main_v59, val_main_v60, val_main_v61, val_main_v62, val_main_v63, val_main_v64, val_main_v65, val_main_v66, val_main_cst_10, val_main_cst_11, val_main_cst_12]
  rw [value52]
  pointwise

end Cert.OutProjRefIdeal.Block

namespace Cert.Proof

open Cert.OutProjRefIdeal.Read Cert.OutProjRefIdeal.Block in
/-- The output projection kernel and its reference end with equal results over the extended reals. -/
theorem outProj_algebraic : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Value.run_blocks m g
  · run_from Cert.OutProjRefIdeal.Value.run m' g'
    · rw [val_main_v52_eq, value52]
      obtain ⟨h0, h1, h2, h3, h4, h5, h6, -⟩ := hagree c
      simp only [h0, h1, h2, h3, h4, h5, h6]
      exact (Cert.OutProjIdeal.Block.final8 m c).symm
    · rw [val_main_v66_eq, value66]
      obtain ⟨h0, h1, h2, h3, h4, h5, h6, h7⟩ := hagree c
      simp only [h0, h1, h2, h3, h4, h5, h6, h7]
      exact (Cert.OutProjIdeal.Block.final9 m c).symm

end Cert.Proof

end
-- ==== Proof.AttnSpec.lean ====
module

public import Idealize.ShloMosaic.Lib.IdealHost
public import Idealize.ShloMosaic.Lib.Pointwise

/-!
What the attention computes for one query row and one head, as a function of the row's 576 scores and 576 values.

* `mean s v` divides once, at the end: the weighted sum of the values over the sum of the weights (the kernel's order).
* `meanEach s v` divides every weight by their sum first and then takes the weighted sum (the reference's order).

`mean_eq_meanEach` says that the two agree as soon as no score is `+∞` and some score is a real number.
-/

@[expose] public section

noncomputable section

open Idealize.ShloMosaic

namespace Cert.Attn

/-- The greatest of a row's scores. -/
def top (s : Fin 576 → EReal) : EReal := Finset.univ.fold max ⊥ s

/-- The weight of key `κ` before the weights are divided by their sum. -/
def wt (s : Fin 576 → EReal) (κ : Fin 576) : EReal := Ideal.exp (s κ - top s)

/-- The values weighted, the sum divided once by the sum of the weights. -/
def mean (s v : Fin 576 → EReal) : EReal := Ideal.div (∑ κ, wt s κ * v κ) (∑ κ, wt s κ)

/-- The values weighted by weights that are divided by their sum first. -/
def meanEach (s v : Fin 576 → EReal) : EReal := ∑ κ, Ideal.div (wt s κ) (∑ l, wt s l) * v κ

theorem le_top (s : Fin 576 → EReal) (κ : Fin 576) : s κ ≤ top s := by
  unfold top
  rw [Finset.le_fold_max]
  exact Or.inr ⟨κ, Finset.mem_univ _, le_rfl⟩

theorem top_lt (s : Fin 576 → EReal) (h : ∀ κ, s κ < ⊤) : top s < ⊤ := by
  unfold top
  rw [Finset.fold_max_lt]
  exact ⟨bot_lt_top, fun κ _ => h κ⟩

theorem exp_nonneg (x : EReal) : 0 ≤ Ideal.exp x := by
  induction x using EReal.rec with
  | bot => exact le_rfl
  | coe r => exact EReal.coe_nonneg.mpr (Real.exp_pos r).le
  | top => exact _root_.le_top

theorem exp_lt_top (x : EReal) (h : x < ⊤) : Ideal.exp x < ⊤ := by
  induction x using EReal.rec with
  | bot => exact EReal.zero_lt_top
  | coe r => exact EReal.coe_lt_top _
  | top => exact absurd h (lt_irrefl _)

theorem exp_pos (x : EReal) (h : ⊥ < x) : 0 < Ideal.exp x := by
  induction x using EReal.rec with
  | bot => exact absurd h (lt_irrefl _)
  | coe r => exact EReal.coe_pos.mpr (Real.exp_pos r)
  | top => exact EReal.zero_lt_top

/-- A number that is not negative and not `+∞` multiplies a sum term by term, whatever the terms are. -/
theorem sum_mul_real {ι : Type} (S : Finset ι) (f : ι → EReal) (a : EReal) (h0 : 0 ≤ a) (h1 : a ≠ ⊤) :
    (∑ i ∈ S, f i) * a = ∑ i ∈ S, f i * a := by
  classical
  induction S using Finset.induction_on with
  | empty => simp
  | insert i S hi ih =>
    rw [Finset.sum_insert hi, Finset.sum_insert hi, EReal.right_distrib_of_nonneg_of_ne_top h0 h1, ih]

theorem sum_lt_top {ι : Type} (S : Finset ι) (f : ι → EReal) (h0 : ∀ i, 0 ≤ f i) (h : ∀ i, f i < ⊤) : ∑ i ∈ S, f i < ⊤ := by
  classical
  induction S using Finset.induction_on with
  | empty => simp
  | insert i S hi ih =>
    rw [Finset.sum_insert hi]
    exact EReal.add_lt_top (h i).ne ih.ne

theorem mean_eq_meanEach (s v : Fin 576 → EReal) (h : ∀ κ, s κ < ⊤) (κ₀ : Fin 576) (h₀ : ⊥ < s κ₀) :
    mean s v = meanEach s v := by
  have hbot : ⊥ < top s := lt_of_lt_of_le h₀ (le_top s κ₀)
  have htop : top s < ⊤ := top_lt s h
  obtain ⟨m, hm⟩ : ∃ m : ℝ, top s = m := ⟨(top s).toReal, (EReal.coe_toReal htop.ne hbot.ne').symm⟩
  have hsub : ∀ κ, s κ - top s < ⊤ := fun κ => by
    rw [hm, sub_eq_add_neg, ← EReal.coe_neg]
    exact EReal.add_lt_top (h κ).ne (EReal.coe_ne_top _)
  have hsub0 : ⊥ < s κ₀ - top s := by
    rw [hm, sub_eq_add_neg, ← EReal.coe_neg]
    exact bot_lt_iff_ne_bot.mpr (EReal.add_ne_bot_iff.mpr ⟨h₀.ne', EReal.coe_ne_bot _⟩)
  have w0 : ∀ κ, 0 ≤ wt s κ := fun κ => exp_nonneg _
  have w1 : ∀ κ, wt s κ < ⊤ := fun κ => exp_lt_top _ (hsub κ)
  have hpos : 0 < ∑ κ, wt s κ :=
    lt_of_lt_of_le (exp_pos _ hsub0) (Finset.single_le_sum (f := wt s) (fun κ _ => w0 κ) (Finset.mem_univ κ₀))
  have hlt : ∑ κ, wt s κ < ⊤ := sum_lt_top _ _ w0 w1
  have hdiv : ∀ x, Ideal.div x (∑ κ, wt s κ) = x * (∑ κ, wt s κ)⁻¹ := fun x => by
    unfold Ideal.div
    rw [if_neg hpos.ne']
  have i0 : 0 ≤ (∑ κ, wt s κ)⁻¹ := EReal.inv_nonneg_of_nonneg hpos.le
  have i1 : (∑ κ, wt s κ)⁻¹ ≠ ⊤ := by
    obtain ⟨l, hl⟩ : ∃ l : ℝ, ∑ κ, wt s κ = l :=
      ⟨(∑ κ, wt s κ).toReal, (EReal.coe_toReal hlt.ne (lt_trans EReal.bot_lt_zero hpos).ne').symm⟩
    rw [hl, ← EReal.coe_inv]
    exact EReal.coe_ne_top _
  unfold mean meanEach
  rw [hdiv, sum_mul_real _ _ _ i0 i1]
  refine Finset.sum_congr rfl fun κ _ => ?_
  rw [hdiv, mul_right_comm]

end Cert.Attn

end
-- ==== Proof.AttnTile.lean ====
module

public import proofs.«01_k».proof.Proof.AttnSpec
public import proofs.«01_k».proof.Proof.Gen.KernelIdeal.Value
public import Idealize.ShloMosaic.Lib.Pipeline.ValueKit
public import Idealize.ShloMosaic.Lib.Pipeline.ReadBack

/-!
What one store of the attention kernel writes: 64 query rows of two neighbouring heads, 128 lanes. A lane of the first
head takes the first 64 rows of the computed tile and a lane of the second head the last 64, and in either half the
query is zero on the other head's lanes, so that the contraction over 128 lanes is the head's own over 64.
-/

@[expose] public section

set_option maxRecDepth 16384

noncomputable section

open Idealize.ShloMosaic Idealize.ShloMosaic.TcCoe Idealize.SL.Sem

namespace Cert.KernelIdeal.Block

open Cert.KernelIdeal Cert.KernelIdeal.Gen Cert.Attn

theorem negInf : Ideal.ofBits .f32 4286578688#32 = ⊥ := by simp [Ideal.ofBits, Ideal.ieee]

theorem lane_lt (n : ℕ) (h : n < 128) : IntOp.cmpi CmpIPredicate.slt (BitVec.ofNat 32 n) 64#32 = if n < 64 then 1#1 else 0#1 := by
  revert n; decide +kernel

theorem pick_one {α : Type} (a b : α) : Scalar.select 1#1 a b = a := rfl

theorem pick_zero {α : Type} (a b : α) : Scalar.select 0#1 a b = b := rfl

theorem halves (f : Fin 128 → EReal) : ∑ e, f e = ∑ e : Fin 64, f ⟨e, by omega⟩ + ∑ e : Fin 64, f ⟨64 + e, by omega⟩ :=
  Fin.sum_univ_add (a := 64) (b := 64) f

/-- A store's value at row `x 0` and lane `x 1`. -/
theorem tile_at (neg : FVec Ideal S1x576 .f32) (q : Vec Ideal S64x128 .bf16) (kw vw : Vec Ideal S576x128 .bf16)
    (b : Vec Ideal S1x128x576 .f32) (x : S64x128.Idx) :
    k0_pay10 (F := Ideal) k0_pay5 neg q kw vw b x
      = mean (fun κ => ∑ e : Fin 64, q (ix2 (x 0) ⟨(x 1 : ℕ) / 64 * 64 + e, by have := (x 1).isLt; simp at this; omega⟩) * Ideal.ofBits .bf16 0x3E00#16
              * kw (ix2 κ ⟨(x 1 : ℕ) / 64 * 64 + e, by have := (x 1).isLt; simp at this; omega⟩)
            + b (ix3 0 ⟨(x 1 : ℕ) / 64 * 64 + (x 0 : ℕ), by have := (x 1).isLt; have := (x 0).isLt; simp at *; omega⟩ κ) + neg (ix2 0 κ))
          (fun κ => vw (ix2 κ (x 1))) := by
  have hx1 : (x 1 : ℕ) < 128 := (x 1).isLt
  have hx0 : (x 0 : ℕ) < 64 := (x 0).isLt
  pointwise [k0_pay10, k0_pay5]
  simp only [negInf, halves, lane_lt _ hx1]
  have a1 : ∀ e : Fin 64, IntOp.cmpi CmpIPredicate.slt (BitVec.ofNat 32 (e : ℕ)) 64#32 = 1#1 := by decide +kernel
  have a2 : ∀ e : Fin 64, IntOp.cmpi CmpIPredicate.slt (BitVec.ofNat 32 (64 + (e : ℕ))) 64#32 = 0#1 := by decide +kernel
  simp only [a1, a2, pick_one, pick_zero, Finset.sum_const_zero, add_zero, zero_add]
  unfold mean wt top
  by_cases h : (x 1 : ℕ) < 64
  · simp only [if_pos h, pick_one, Nat.div_eq_of_lt h, zero_mul, zero_add]
  · simp only [if_neg h, pick_zero, show (x 1 : ℕ) / 64 = 1 by omega, one_mul]

/-- What the kernel writes at `y` of its 512 x 512 block from the block's queries `Q`, the two key blocks `K` and the two
value blocks `V` (each 1024 rows, the previous block's first) and the biases `B`; `first`: the block is a sequence's first,
so that the keys before it do not exist. -/
def blockAt (first : Prop) [Decidable first] (Q : S512x512.Idx → EReal) (K V : S1024x512.Idx → EReal) (B : S4x128x576.Idx → EReal)
    (y : S512x512.Idx) : EReal :=
  have h0 : (y 0 : ℕ) < 512 := (y 0).isLt
  have h1 : (y 1 : ℕ) < 512 := (y 1).isLt
  mean (fun κ => ∑ e : Fin 64, Q (ix2 (y 0) ⟨(y 1 : ℕ) / 64 * 64 + e, by omega⟩) * Ideal.ofBits .bf16 0x3E00#16
          * K (ix2 ⟨(y 0 : ℕ) / 64 * 64 + κ, by omega⟩ ⟨(y 1 : ℕ) / 64 * 64 + e, by omega⟩)
        + B (ix3 ⟨(y 1 : ℕ) / 128, by omega⟩ ⟨(y 1 : ℕ) / 64 % 2 * 64 + (y 0 : ℕ) % 64, by omega⟩ κ)
        + if first ∧ (κ : ℕ) < 512 - (y 0 : ℕ) / 64 * 64 then ⊥ else 0)
    (fun κ => V (ix2 ⟨(y 0 : ℕ) / 64 * 64 + κ, by omega⟩ (y 1)))

theorem bound_word (i : Fin 8) (k : Fin k0_t1_loop.trips) :
    Scalar.select (Scalar.cmpi CmpIPredicate.eq (BitVec.ofNat 32 ↑i) 0#32)
        (Scalar.subi (512#32) (Scalar.muli (Scf.iv 0#32 1#32 ↑k) 64#32)) 0#32
      = BitVec.ofNat 32 (64 * (if (i : ℕ) = 0 then 8 - (k : ℕ) else 0)) := by
  revert i k; decide +kernel

theorem sge_word (κ : Fin 576) (t : Fin 9) : IntOp.cmpi CmpIPredicate.sge (BitVec.ofNat 32 ↑κ) (BitVec.ofNat 32 (64 * ↑t))
      = if (κ : ℕ) < 64 * t then 0#1 else 1#1 := by
  revert κ t; decide +kernel

theorem mask_value : (Named.named KernelIdeal.κ "mask" 4048155338#32 : Ideal .f32) = (⊥ : EReal) := by
  rfl

/-- What is added to the scores of key `κ` of the band: `-∞` where the band lies before the sequence. -/
theorem neg_at (i : Fin 8) (k : Fin k0_t1_loop.trips) (κ : Fin 576) :
    k0_pay7 (F := Ideal) (BitVec.ofNat 32 i) (iota Kind.tc S1x576 32 [1] iota_S1x576_d1_w32) 0#32 1#32 k (ix2 0 κ)
      = if (i : ℕ) = 0 ∧ (κ : ℕ) < 512 - 64 * (k : ℕ) then ⊥ else 0 := by
  have hk : (k : ℕ) < 8 := Nat.lt_of_lt_of_le k.isLt k0_t1_abs.2.1
  pointwise [k0_pay7]
  rw [bound_word, sge_word κ ⟨if (i : ℕ) = 0 then 8 - (k : ℕ) else 0, by split <;> omega⟩, mask_value]
  show Scalar.select (if (κ : ℕ) < 64 * (if (i : ℕ) = 0 then 8 - (k : ℕ) else 0) then 0#1 else 1#1) (0 : EReal) ⊥
    = if (i : ℕ) = 0 ∧ (κ : ℕ) < 512 - 64 * (k : ℕ) then ⊥ else 0
  have e : ((κ : ℕ) < 64 * (if (i : ℕ) = 0 then 8 - (k : ℕ) else 0)) ↔ ((i : ℕ) = 0 ∧ (κ : ℕ) < 512 - 64 * (k : ℕ)) := by
    split <;> omega
  by_cases h : (i : ℕ) = 0 ∧ (κ : ℕ) < 512 - 64 * (k : ℕ)
  · rw [if_pos (e.mpr h), if_pos h]; rfl
  · rw [if_neg (fun g => h (e.mp g)), if_neg h]; rfl

theorem store_at (first : Prop) [Decidable first] (Q : S512x512.Idx → EReal) (K V : S1024x512.Idx → EReal) (B : S4x128x576.Idx → EReal)
    (neg : FVec Ideal S1x576 .f32) (q : Vec Ideal S64x128 .bf16) (kw vw : Vec Ideal S576x128 .bf16) (b : Vec Ideal S1x128x576 .f32)
    (k p : ℕ) (hk : k < 8) (hp : p < 4)
    (hq : ∀ (i : S64x128.Idx) (j : S512x512.Idx), (j 0 : ℕ) = 64 * k + (i 0 : ℕ) → (j 1 : ℕ) = 128 * p + (i 1 : ℕ) → q i = Q j)
    (hkw : ∀ (i : S576x128.Idx) (j : S1024x512.Idx), (j 0 : ℕ) = 64 * k + (i 0 : ℕ) → (j 1 : ℕ) = 128 * p + (i 1 : ℕ) → kw i = K j)
    (hvw : ∀ (i : S576x128.Idx) (j : S1024x512.Idx), (j 0 : ℕ) = 64 * k + (i 0 : ℕ) → (j 1 : ℕ) = 128 * p + (i 1 : ℕ) → vw i = V j)
    (hb : ∀ (i : S1x128x576.Idx) (j : S4x128x576.Idx), (j 0 : ℕ) = p → (j 1 : ℕ) = (i 1 : ℕ) → (j 2 : ℕ) = (i 2 : ℕ) → b i = B j)
    (hn : ∀ κ : Fin 576, neg (ix2 0 κ) = if first ∧ (κ : ℕ) < 512 - 64 * k then ⊥ else 0)
    (x : S64x128.Idx) (y : S512x512.Idx) (h0 : (y 0 : ℕ) = 64 * k + (x 0 : ℕ)) (h1 : (y 1 : ℕ) = 128 * p + (x 1 : ℕ)) :
    k0_pay10 (F := Ideal) k0_pay5 neg q kw vw b x = blockAt first Q K V B y := by
  have hx0 : (x 0 : ℕ) < 64 := (x 0).isLt
  have hx1 : (x 1 : ℕ) < 128 := (x 1).isLt
  have e1 : (y 0 : ℕ) / 64 * 64 = 64 * k := by omega
  rw [tile_at]
  unfold blockAt
  congr 1
  · funext κ
    congr 1
    · congr 1
      · refine Finset.sum_congr rfl fun e _ => ?_
        congr 1
        · congr 1
          exact hq _ _ h0 (by show (y 1 : ℕ) / 64 * 64 + (e : ℕ) = 128 * p + ((x 1 : ℕ) / 64 * 64 + (e : ℕ)); omega)
        · exact hkw _ _ (by show (y 0 : ℕ) / 64 * 64 + (κ : ℕ) = 64 * k + (κ : ℕ); omega)
            (by show (y 1 : ℕ) / 64 * 64 + (e : ℕ) = 128 * p + ((x 1 : ℕ) / 64 * 64 + (e : ℕ)); omega)
      · exact hb _ _ (by show (y 1 : ℕ) / 128 = p; omega)
          (by show (y 1 : ℕ) / 64 % 2 * 64 + (y 0 : ℕ) % 64 = (x 1 : ℕ) / 64 * 64 + (x 0 : ℕ); omega) rfl
    · rw [hn, e1]
  · funext κ
    exact hvw _ _ (by show (y 0 : ℕ) / 64 * 64 + (κ : ℕ) = 64 * k + (κ : ℕ); omega) h1

end Cert.KernelIdeal.Block

end
-- ==== Proof.AttnBlock.lean ====
module

public import proofs.«01_k».proof.Proof.AttnTile

/-!
What one grid point of the attention kernel leaves in its output block: 8 trips of the loop over the block's chunks, each
storing the four pairs of heads.
-/

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Attn

/-! Where trip `k` loads and stores. -/

theorem off1 (k : Fin k0_t1_loop.trips) : k0_off1 k = ![64 * k.val, 0] := by
  revert k; decide +kernel

theorem off2 (k : Fin k0_t1_loop.trips) : k0_off2 k = ![64 * k.val, 0] := by
  revert k; decide +kernel

theorem off3 (k : Fin k0_t1_loop.trips) : k0_off3 k = ![64 * k.val, 128] := by
  revert k; decide +kernel

theorem off4 (k : Fin k0_t1_loop.trips) : k0_off4 k = ![64 * k.val, 128] := by
  revert k; decide +kernel

theorem off5 (k : Fin k0_t1_loop.trips) : k0_off5 k = ![64 * k.val, 256] := by
  revert k; decide +kernel

theorem off6 (k : Fin k0_t1_loop.trips) : k0_off6 k = ![64 * k.val, 256] := by
  revert k; decide +kernel

theorem off7 (k : Fin k0_t1_loop.trips) : k0_off7 k = ![64 * k.val, 384] := by
  revert k; decide +kernel

theorem off8 (k : Fin k0_t1_loop.trips) : k0_off8 k = ![64 * k.val, 384] := by
  revert k; decide +kernel

/-- The unit-stride rectangle at `o` places its index `x` at `o + x`. -/
theorem emb_at {s : Shape} (o size : Fin s.rank → ℕ) (inb : ∀ a, o a + size a ≤ s.size a) (x : (Rect.unit o size inb).shape.Idx) (d : Fin s.rank) :
    ((Rect.unit o size inb).emb x d : ℕ) = o d + (x d : ℕ) := by
  show o d + 1 * (x d : ℕ) = _
  omega

/-- A load from the rectangle at `o` reads at `x` what the buffer has at `o + x`. -/
theorem load_at {s : Shape} {e : EltTy} (v : View sig .tc .vmem s e) (f : BufTy.Contents (Elt Ideal) v.ty) (o size : Fin s.rank → ℕ)
    (inb : ∀ a, o a + size a ≤ s.size a) (x : (Rect.unit o size inb).shape.Idx) (j : s.Idx) (h : ∀ d, (j d : ℕ) = o d + (x d : ℕ)) :
    View.readAt (Elt Ideal) v (Rect.unit o size inb).toLoadRect f x = v.read (Elt Ideal) f j := by
  rw [View.readAt_apply]
  congr 1
  funext d
  apply Fin.ext
  rw [h d]
  show o d + 1 * (x d : ℕ) = _
  omega

theorem rows {o : Fin 2 → ℕ} {m n : ℕ} (ho : o = ![m, n]) {f g : Fin 2 → ℕ} (h0 : g 0 = m + f 0) (h1 : g 1 = n + f 1) :
    ∀ d, g d = o d + f d := by
  rw [ho]
  exact Fin.forall_fin_two.mpr ⟨h0, h1⟩

theorem bias_row (p : ℕ) (a : S1x128x576.Idx) (b : S4x128x576.Idx) (h0 : (b 0 : ℕ) = p) (h1 : (b 1 : ℕ) = (a 1 : ℕ)) (h2 : (b 2 : ℕ) = (a 2 : ℕ)) :
    ∀ d : Fin 3, (b d : ℕ) = (![p, 0, 0] : Fin 3 → ℕ) d + (a d : ℕ) := by
  have h : (a 0 : ℕ) < 1 := (a 0).isLt
  intro d
  fin_cases d
  · show (b 0 : ℕ) = p + (a 0 : ℕ); omega
  · show (b 1 : ℕ) = 0 + (a 1 : ℕ); omega
  · show (b 2 : ℕ) = 0 + (a 2 : ℕ); omega

set_option maxHeartbeats 2000000 in
/-- Every store of trip `k` writes a part of `blockAt`. -/
theorem trip_pieces (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x128x576 .f32) (harg7 : arg7.IsWhole) (arg8 : Memref sig .tc .vmem S512x512 .f32) (harg8 : arg8.IsWhole) (arg9 : Memref sig .tc .vmem S1024x512 .bf16) (harg9 : arg9.IsWhole) (arg10 : Memref sig .tc .vmem S1024x512 .bf16) (harg10 : arg10.IsWhole) (X_arg2 : BufTy.Contents (Elt Ideal) arg2.view.ty) (X_arg7 : BufTy.Contents (Elt Ideal) arg7.view.ty) (X_arg9 : BufTy.Contents (Elt Ideal) arg9.view.ty) (X_arg10 : BufTy.Contents (Elt Ideal) arg10.view.ty) (k : Fin k0_t1_loop.trips) :
    ∀ p ∈ (trip_k0_t1 (F := Ideal) Variants.none c none i arg2 harg2 arg3 harg3 arg4 harg4 arg5 harg5 arg6 harg6 arg7 harg7 arg8 harg8 arg9 harg9 arg10 harg10 (BitVec.ofNat 32 (i 1)) (iota Kind.tc S1x576 32 [1] iota_S1x576_d1_w32) X_arg2 X_arg7 X_arg9 X_arg10 k).1,
     ∀ x : p.1.shape.Idx, p.2 x = blockAt ((i 1 : ℕ) = 0) (arg2.view.read (Elt Ideal) X_arg2) (arg9.view.read (Elt Ideal) X_arg9)
       (arg10.view.read (Elt Ideal) X_arg10) (arg7.view.read (Elt Ideal) X_arg7) (p.1.emb x) := by
  have hk : (k : ℕ) < 8 := Nat.lt_of_lt_of_le k.isLt k0_t1_abs.2.1
  unfold trip_k0_t1
  simp only [List.forall_mem_cons]
  refine ⟨fun x => ?_, fun x => ?_, fun x => ?_, fun x => ?_, fun _ h => absurd h List.not_mem_nil⟩
  · show k0_pay10 (F := Ideal) k0_pay5 (k0_pay7 (F := Ideal) (BitVec.ofNat 32 (i 1)) (iota Kind.tc S1x576 32 [1] iota_S1x576_d1_w32) 0#32 1#32 k)
      (View.readAt (Elt Ideal) arg2.view (Rect.unit (s := S512x512) (k0_off7 k) S64x128.size (k0_off7_inb k)).toLoadRect X_arg2)
      (View.readAt (Elt Ideal) arg9.view (Rect.unit (s := S1024x512) (k0_off8 k) S576x128.size (k0_off8_inb k)).toLoadRect X_arg9)
      (View.readAt (Elt Ideal) arg10.view (Rect.unit (s := S1024x512) (k0_off8 k) S576x128.size (k0_off8_inb k)).toLoadRect X_arg10)
      (View.readAt (Elt Ideal) arg7.view (Rect.unit (s := S4x128x576) ![3, 0, 0] S1x128x576.size inb_S4x128x576_S1x128x576_3_0_0).toLoadRect X_arg7) x = _
    refine store_at _ _ _ _ _ _ _ _ _ _ (k : ℕ) 3 hk (by omega) ?_ ?_ ?_ ?_ (neg_at (i 1) k) _ _ ?_ ?_
    · intro a b h0 h1; exact load_at _ _ (k0_off7 k) _ _ a b (rows (off7 k) (f := fun d => (a d : ℕ)) (g := fun d => (b d : ℕ)) h0 h1)
    · intro a b h0 h1; exact load_at _ _ (k0_off8 k) _ _ a b (rows (off8 k) (f := fun d => (a d : ℕ)) (g := fun d => (b d : ℕ)) h0 h1)
    · intro a b h0 h1; exact load_at _ _ (k0_off8 k) _ _ a b (rows (off8 k) (f := fun d => (a d : ℕ)) (g := fun d => (b d : ℕ)) h0 h1)
    · intro a b h0 h1 h2; exact load_at _ _ ![3, 0, 0] _ _ a b (bias_row 3 a b h0 h1 h2)
    · exact (emb_at _ _ _ x 0).trans (congrArg (· + (x 0 : ℕ)) (congrFun (off7 k) 0))
    · exact (emb_at _ _ _ x 1).trans (congrArg (· + (x 1 : ℕ)) (congrFun (off7 k) 1))
  · show k0_pay10 (F := Ideal) k0_pay5 (k0_pay7 (F := Ideal) (BitVec.ofNat 32 (i 1)) (iota Kind.tc S1x576 32 [1] iota_S1x576_d1_w32) 0#32 1#32 k)
      (View.readAt (Elt Ideal) arg2.view (Rect.unit (s := S512x512) (k0_off5 k) S64x128.size (k0_off5_inb k)).toLoadRect X_arg2)
      (View.readAt (Elt Ideal) arg9.view (Rect.unit (s := S1024x512) (k0_off6 k) S576x128.size (k0_off6_inb k)).toLoadRect X_arg9)
      (View.readAt (Elt Ideal) arg10.view (Rect.unit (s := S1024x512) (k0_off6 k) S576x128.size (k0_off6_inb k)).toLoadRect X_arg10)
      (View.readAt (Elt Ideal) arg7.view (Rect.unit (s := S4x128x576) ![2, 0, 0] S1x128x576.size inb_S4x128x576_S1x128x576_2_0_0).toLoadRect X_arg7) x = _
    refine store_at _ _ _ _ _ _ _ _ _ _ (k : ℕ) 2 hk (by omega) ?_ ?_ ?_ ?_ (neg_at (i 1) k) _ _ ?_ ?_
    · intro a b h0 h1; exact load_at _ _ (k0_off5 k) _ _ a b (rows (off5 k) (f := fun d => (a d : ℕ)) (g := fun d => (b d : ℕ)) h0 h1)
    · intro a b h0 h1; exact load_at _ _ (k0_off6 k) _ _ a b (rows (off6 k) (f := fun d => (a d : ℕ)) (g := fun d => (b d : ℕ)) h0 h1)
    · intro a b h0 h1; exact load_at _ _ (k0_off6 k) _ _ a b (rows (off6 k) (f := fun d => (a d : ℕ)) (g := fun d => (b d : ℕ)) h0 h1)
    · intro a b h0 h1 h2; exact load_at _ _ ![2, 0, 0] _ _ a b (bias_row 2 a b h0 h1 h2)
    · exact (emb_at _ _ _ x 0).trans (congrArg (· + (x 0 : ℕ)) (congrFun (off5 k) 0))
    · exact (emb_at _ _ _ x 1).trans (congrArg (· + (x 1 : ℕ)) (congrFun (off5 k) 1))
  · show k0_pay10 (F := Ideal) k0_pay5 (k0_pay7 (F := Ideal) (BitVec.ofNat 32 (i 1)) (iota Kind.tc S1x576 32 [1] iota_S1x576_d1_w32) 0#32 1#32 k)
      (View.readAt (Elt Ideal) arg2.view (Rect.unit (s := S512x512) (k0_off3 k) S64x128.size (k0_off3_inb k)).toLoadRect X_arg2)
      (View.readAt (Elt Ideal) arg9.view (Rect.unit (s := S1024x512) (k0_off4 k) S576x128.size (k0_off4_inb k)).toLoadRect X_arg9)
      (View.readAt (Elt Ideal) arg10.view (Rect.unit (s := S1024x512) (k0_off4 k) S576x128.size (k0_off4_inb k)).toLoadRect X_arg10)
      (View.readAt (Elt Ideal) arg7.view (Rect.unit (s := S4x128x576) ![1, 0, 0] S1x128x576.size inb_S4x128x576_S1x128x576_1_0_0).toLoadRect X_arg7) x = _
    refine store_at _ _ _ _ _ _ _ _ _ _ (k : ℕ) 1 hk (by omega) ?_ ?_ ?_ ?_ (neg_at (i 1) k) _ _ ?_ ?_
    · intro a b h0 h1; exact load_at _ _ (k0_off3 k) _ _ a b (rows (off3 k) (f := fun d => (a d : ℕ)) (g := fun d => (b d : ℕ)) h0 h1)
    · intro a b h0 h1; exact load_at _ _ (k0_off4 k) _ _ a b (rows (off4 k) (f := fun d => (a d : ℕ)) (g := fun d => (b d : ℕ)) h0 h1)
    · intro a b h0 h1; exact load_at _ _ (k0_off4 k) _ _ a b (rows (off4 k) (f := fun d => (a d : ℕ)) (g := fun d => (b d : ℕ)) h0 h1)
    · intro a b h0 h1 h2; exact load_at _ _ ![1, 0, 0] _ _ a b (bias_row 1 a b h0 h1 h2)
    · exact (emb_at _ _ _ x 0).trans (congrArg (· + (x 0 : ℕ)) (congrFun (off3 k) 0))
    · exact (emb_at _ _ _ x 1).trans (congrArg (· + (x 1 : ℕ)) (congrFun (off3 k) 1))
  · show k0_pay10 (F := Ideal) k0_pay5 (k0_pay7 (F := Ideal) (BitVec.ofNat 32 (i 1)) (iota Kind.tc S1x576 32 [1] iota_S1x576_d1_w32) 0#32 1#32 k)
      (View.readAt (Elt Ideal) arg2.view (Rect.unit (s := S512x512) (k0_off1 k) S64x128.size (k0_off1_inb k)).toLoadRect X_arg2)
      (View.readAt (Elt Ideal) arg9.view (Rect.unit (s := S1024x512) (k0_off2 k) S576x128.size (k0_off2_inb k)).toLoadRect X_arg9)
      (View.readAt (Elt Ideal) arg10.view (Rect.unit (s := S1024x512) (k0_off2 k) S576x128.size (k0_off2_inb k)).toLoadRect X_arg10)
      (View.readAt (Elt Ideal) arg7.view (Rect.unit (s := S4x128x576) ![0, 0, 0] S1x128x576.size inb_S4x128x576_S1x128x576_0_0_0).toLoadRect X_arg7) x = _
    refine store_at _ _ _ _ _ _ _ _ _ _ (k : ℕ) 0 hk (by omega) ?_ ?_ ?_ ?_ (neg_at (i 1) k) _ _ ?_ ?_
    · intro a b h0 h1; exact load_at _ _ (k0_off1 k) _ _ a b (rows (off1 k) (f := fun d => (a d : ℕ)) (g := fun d => (b d : ℕ)) h0 h1)
    · intro a b h0 h1; exact load_at _ _ (k0_off2 k) _ _ a b (rows (off2 k) (f := fun d => (a d : ℕ)) (g := fun d => (b d : ℕ)) h0 h1)
    · intro a b h0 h1; exact load_at _ _ (k0_off2 k) _ _ a b (rows (off2 k) (f := fun d => (a d : ℕ)) (g := fun d => (b d : ℕ)) h0 h1)
    · intro a b h0 h1 h2; exact load_at _ _ ![0, 0, 0] _ _ a b (bias_row 0 a b h0 h1 h2)
    · exact (emb_at _ _ _ x 0).trans (congrArg (· + (x 0 : ℕ)) (congrFun (off1 k) 0))
    · exact (emb_at _ _ _ x 1).trans (congrArg (· + (x 1 : ℕ)) (congrFun (off1 k) 1))

/-- The same of the stores of the trips before `n`. -/
theorem pieces (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S4x128x576 .f32) (harg7 : arg7.IsWhole) (arg8 : Memref sig .tc .vmem S512x512 .f32) (harg8 : arg8.IsWhole) (arg9 : Memref sig .tc .vmem S1024x512 .bf16) (harg9 : arg9.IsWhole) (arg10 : Memref sig .tc .vmem S1024x512 .bf16) (harg10 : arg10.IsWhole) (X_arg2 : BufTy.Contents (Elt Ideal) arg2.view.ty) (X_arg7 : BufTy.Contents (Elt Ideal) arg7.view.ty) (X_arg9 : BufTy.Contents (Elt Ideal) arg9.view.ty) (X_arg10 : BufTy.Contents (Elt Ideal) arg10.view.ty) (n : ℕ) (hn : n ≤ k0_t1_loop.trips) :
    ∀ p ∈ pb_k0_t1 (F := Ideal) Variants.none c none i arg2 harg2 arg3 harg3 arg4 harg4 arg5 harg5 arg6 harg6 arg7 harg7 arg8 harg8 arg9 harg9 arg10 harg10 (BitVec.ofNat 32 (i 1)) (iota Kind.tc S1x576 32 [1] iota_S1x576_d1_w32) X_arg2 X_arg7 X_arg9 X_arg10 n,
     ∀ x : p.1.shape.Idx, p.2 x = blockAt ((i 1 : ℕ) = 0) (arg2.view.read (Elt Ideal) X_arg2) (arg9.view.read (Elt Ideal) X_arg9)
       (arg10.view.read (Elt Ideal) X_arg10) (arg7.view.read (Elt Ideal) X_arg7) (p.1.emb x) := by
  induction n with
  | zero => exact fun p h => absurd h List.not_mem_nil
  | succ n ih =>
    intro p hp
    rw [pb_k0_t1_succ Variants.none c none i arg2 harg2 arg3 harg3 arg4 harg4 arg5 harg5 arg6 harg6 arg7 harg7 arg8 harg8 arg9 harg9 arg10 harg10 (BitVec.ofNat 32 (i 1)) (iota Kind.tc S1x576 32 [1] iota_S1x576_d1_w32) X_arg2 X_arg7 X_arg9 X_arg10 ⟨n, hn⟩, List.mem_append] at hp
    rcases hp with hp | hp
    · exact trip_pieces c i arg2 harg2 arg3 harg3 arg4 harg4 arg5 harg5 arg6 harg6 arg7 harg7 arg8 harg8 arg9 harg9 arg10 harg10 X_arg2 X_arg7 X_arg9 X_arg10 ⟨n, hn⟩ p hp
    · exact ih (Nat.le_of_succ_le hn) p hp

/-- The scratch after its two stores: the previous block's rows first, then the block's own. -/
theorem scratch_at (v : View sig .tc .vmem S1024x512 .bf16) (f : BufTy.Contents (Elt Ideal) v.ty) (w1 w2 : S512x512.Idx → EReal)
    (h1 : ∀ a, (![512, 0] : Fin 2 → ℕ) a + S512x512.size a ≤ S1024x512.size a) (h0 : ∀ a, (![0, 0] : Fin 2 → ℕ) a + S512x512.size a ≤ S1024x512.size a)
    (j : S1024x512.Idx) :
    v.read (Elt Ideal) (v.writes (Elt Ideal) f [⟨Rect.unit (s := S1024x512) ![512, 0] S512x512.size h1, w2⟩, ⟨Rect.unit (s := S1024x512) ![0, 0] S512x512.size h0, w1⟩]) j
      = if h : (j 0 : ℕ) < 512 then w1 (ix2 ⟨j 0, h⟩ (j 1)) else w2 (ix2 ⟨(j 0 : ℕ) - 512, by have := (j 0).isLt; simp at this; omega⟩ (j 1)) := by
  have hj0 : (j 0 : ℕ) < 1024 := (j 0).isLt
  have hj1 : (j 1 : ℕ) < 512 := (j 1).isLt
  refine (View.read_writes_apply_of_pieces v f (fun j : S1024x512.Idx => if h : (j 0 : ℕ) < 512 then w1 (ix2 ⟨j 0, h⟩ (j 1)) else w2 (ix2 ⟨(j 0 : ℕ) - 512, by have := (j 0).isLt; simp at this; omega⟩ (j 1))) _ ?_ j ?_)
  · simp only [List.forall_mem_cons]
    refine ⟨fun x => ?_, fun x => ?_, fun _ h => absurd h List.not_mem_nil⟩
    · have e0 := emb_at _ _ h1 x 0
      have e1 := emb_at _ _ h1 x 1
      have l : ¬ (((Rect.unit (s := S1024x512) ![512, 0] S512x512.size h1).emb x 0 : ℕ) < 512) := by
        rw [e0]; show ¬ (512 + (x 0 : ℕ) < 512); omega
      rw [dif_neg l]
      congr 1
      funext d
      apply Fin.ext
      fin_cases d
      · show (x 0 : ℕ) = _ - 512
        rw [e0]; show (x 0 : ℕ) = 512 + (x 0 : ℕ) - 512; omega
      · show (x 1 : ℕ) = _
        refine Eq.trans ?_ e1.symm
        show (x 1 : ℕ) = 0 + (x 1 : ℕ); omega
    · have e0 := emb_at _ _ h0 x 0
      have e1 := emb_at _ _ h0 x 1
      have hx : (x 0 : ℕ) < 512 := (x 0).isLt
      have l : ((Rect.unit (s := S1024x512) ![0, 0] S512x512.size h0).emb x 0 : ℕ) < 512 := by
        rw [e0]; show 0 + (x 0 : ℕ) < 512; omega
      rw [dif_pos l]
      congr 1
      funext d
      apply Fin.ext
      fin_cases d
      · show (x 0 : ℕ) = _
        refine Eq.trans ?_ e0.symm
        show (x 0 : ℕ) = 0 + (x 0 : ℕ); omega
      · show (x 1 : ℕ) = _
        refine Eq.trans ?_ e1.symm
        show (x 1 : ℕ) = 0 + (x 1 : ℕ); omega
  · by_cases l : (j 0 : ℕ) < 512
    · refine ⟨_, List.mem_cons_of_mem _ List.mem_cons_self, ?_⟩
      rw [Rect.mem_set_unit]
      exact Fin.forall_fin_two.mpr ⟨⟨Nat.zero_le _, by show (j 0 : ℕ) < 0 + 512; omega⟩, ⟨Nat.zero_le _, by show (j 1 : ℕ) < 0 + 512; omega⟩⟩
    · refine ⟨_, List.mem_cons_self, ?_⟩
      rw [Rect.mem_set_unit]
      exact Fin.forall_fin_two.mpr ⟨⟨by show 512 ≤ (j 0 : ℕ); omega, by show (j 0 : ℕ) < 512 + 512; omega⟩, ⟨Nat.zero_le _, by show (j 1 : ℕ) < 0 + 512; omega⟩⟩

end Cert.KernelIdeal.Block

end
-- ==== Proof.AttnKernel.lean ====
module

public import proofs.«01_k».proof.Proof.AttnBlock
public import proofs.«01_k».proof.Proof.Gen.ReferenceIdeal.Run
public import proofs.«01_k».proof.Proof.Gen.ReferenceIdeal.Read

/-!
THE ATTENTION KERNEL'S VALUE: after the run the result array holds `attK` of the arguments and of the array of biases.
-/

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Attn

variable (m : (ℓ : Loc nD τ sig) → Buf (Elt Ideal) ℓ)

/-- The row of the arrays that the kernel takes as key `κ` of the band of query row `r`. -/
def keyRow (r : Fin 16384) (κ : Fin 576) : Fin 16384 :=
  if h : (r : ℕ) % 512 / 64 * 64 + (κ : ℕ) < 512 then
    ⟨(if (r : ℕ) / 512 % 8 = 0 then (r : ℕ) / 512 else (r : ℕ) / 512 - 1) * 512 + ((r : ℕ) % 512 / 64 * 64 + (κ : ℕ)), by split <;> omega⟩
  else ⟨(r : ℕ) / 512 * 512 + ((r : ℕ) % 512 / 64 * 64 + (κ : ℕ) - 512), by omega⟩

/-- The kernel's value at `j` from the queries, keys, values and biases. -/
def attK (q k v : S16384x512.Idx → EReal) (B : S4x128x576.Idx → EReal) (j : S16384x512.Idx) : EReal :=
  have h1 : (j 1 : ℕ) < 512 := (j 1).isLt
  mean (fun κ => ∑ e : Fin 64, q (ix2 (j 0) ⟨(j 1 : ℕ) / 64 * 64 + e, by omega⟩) * Ideal.ofBits .bf16 0x3E00#16
          * k (ix2 (keyRow (j 0) κ) ⟨(j 1 : ℕ) / 64 * 64 + e, by omega⟩)
        + B (ix3 ⟨(j 1 : ℕ) / 128, by omega⟩ ⟨(j 1 : ℕ) / 64 % 2 * 64 + (j 0 : ℕ) % 64, by omega⟩ κ)
        + if (j 0 : ℕ) / 512 % 8 = 0 ∧ (κ : ℕ) < 512 - (j 0 : ℕ) % 512 / 64 * 64 then ⊥ else 0)
    (fun κ => v (ix2 (keyRow (j 0) κ) (j 1)))

/-- Which block each window takes at each point. -/
theorem idx : ∀ t : Fin cfg0.N, win0_0.index t = ![t.val, 0] ∧ win0_1.index t = ![if t.val % 8 = 0 then t.val else t.val - 1, 0]
    ∧ win0_2.index t = ![t.val, 0] ∧ win0_3.index t = ![if t.val % 8 = 0 then t.val else t.val - 1, 0]
    ∧ win0_4.index t = ![t.val, 0] ∧ win0_5.index t = ![0, 0, 0] ∧ win0_6.index t = ![t.val, 0] ∧ (grid0.coords t 1 : ℕ) = t.val % 8 :=
  (by decide +kernel : ∀ t : Fin grid0.N, _)

/-- Two blocks of rows, one above the other. -/
def two (A B : S512x512.Idx → EReal) (j : S1024x512.Idx) : EReal :=
  if h : (j 0 : ℕ) < 512 then A (ix2 ⟨j 0, h⟩ (j 1)) else B (ix2 ⟨(j 0 : ℕ) - 512, by have := (j 0).isLt; simp at this; omega⟩ (j 1))

theorem two_at (A B : S512x512.Idx → EReal) (a : S16384x512.Idx → EReal) (t t' : ℕ)
    (hA : ∀ (x : S512x512.Idx) (j : S16384x512.Idx), (j 0 : ℕ) = t' * 512 + (x 0 : ℕ) → (j 1 : ℕ) = (x 1 : ℕ) → A x = a j)
    (hB : ∀ (x : S512x512.Idx) (j : S16384x512.Idx), (j 0 : ℕ) = t * 512 + (x 0 : ℕ) → (j 1 : ℕ) = (x 1 : ℕ) → B x = a j)
    (x : S1024x512.Idx) (j : S16384x512.Idx) (n : ℕ) (hn : (x 0 : ℕ) = n)
    (h0 : (j 0 : ℕ) = if n < 512 then t' * 512 + n else t * 512 + (n - 512)) (h1 : (j 1 : ℕ) = (x 1 : ℕ)) :
    two A B x = a j := by
  subst hn
  unfold two
  by_cases h : (x 0 : ℕ) < 512
  · rw [dif_pos h]
    exact hA _ _ (h0.trans (if_pos h)) h1
  · rw [dif_neg h]
    exact hB _ _ (h0.trans (if_neg h)) h1

theorem blockAt_congr (first : Prop) [Decidable first] (Q : S512x512.Idx → EReal) (K K' V V' : S1024x512.Idx → EReal) (B : S4x128x576.Idx → EReal)
    (hK : ∀ j, K j = K' j) (hV : ∀ j, V j = V' j) (y : S512x512.Idx) : blockAt first Q K V B y = blockAt first Q K' V' B y := by
  rw [funext hK, funext hV]

/-- What point `t` leaves in its output block, from the blocks it is given. -/
theorem out_at (c : Dev nD) (t : Fin cfg0.N) (y : S512x512.Idx) :
    outsAt0 m c t y = blockAt ((grid0.coords t 1 : ℕ) = 0) (iblk m c 0 t)
      (two (iblk m c 1 t) (iblk m c 2 t))
      (two (iblk m c 3 t) (iblk m c 4 t))
      (iblk m c 5 t) y := by
  unfold outsAt0 out0_A_6
  refine (View.read_writes_apply_of_pieces _ _ (blockAt ((grid0.coords t 1 : ℕ) = 0) _ _ _ _) _
    (pieces c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) _ _ _ _ k0_t1_loop.trips le_rfl) y
    (cover0_A_6 c (grid0.coords t) _ (hs0_0 t) _ (hs0_1 t) _ (hs0_2 t) _ (hs0_3 t) _ (hs0_4 t) _ (hs0_5 t) _ (hs0_6 t) scM0_0 (Memref.isWhole_whole _) scM0_1 (Memref.isWhole_whole _) _ _ _ _ _ _ y)).trans ?_
  rw [Memref.IsWhole.read_unread, Memref.IsWhole.read_unread]
  have w : ∀ (r : Memref sig .tc .vmem S512x512 .bf16) (hr : r.IsWhole) (b : Vec Ideal S512x512 .bf16)
      (h : ∀ a, (![0, 0] : Fin 2 → ℕ) a + S512x512.size a ≤ S512x512.size a) (x : S512x512.Idx),
      View.readAt (Elt Ideal) r.view (Rect.unit (s := S512x512) ![0, 0] S512x512.size h).toLoadRect (hr.unread b) x = b x := fun r hr b h x => by
    refine (load_at _ _ ![0, 0] _ _ x x (Fin.forall_fin_two.mpr ⟨(Nat.zero_add _).symm, (Nat.zero_add _).symm⟩)).trans ?_
    rw [hr.read_unread]
  refine blockAt_congr _ _ _ _ _ _ _ (fun j => ?_) (fun j => ?_) y
  · unfold kernelRun0_A.sl.HS0_2
    rw [scratch_at]
    unfold two
    split
    · pointwise [k0_pay1]
      exact w _ _ _ _ _
    · pointwise [k0_pay2]
      exact w _ _ _ _ _
  · unfold kernelRun0_A.sl.HS1_2
    rw [scratch_at]
    unfold two
    split
    · pointwise [k0_pay3]
      exact w _ _ _ _ _
    · pointwise [k0_pay4]
      exact w _ _ _ _ _

/-- The array of biases that the kernel is given. -/
abbrev biases (c : Dev nD) : S4x128x576.Idx → EReal := V m c main_v19

/-- The kernel's value of the launch contents of the arguments. -/
abbrev result (c : Dev nD) : S16384x512.Idx → EReal :=
  attK (m ((c : Thread nD τ).loc main_arg0)) (m ((c : Thread nD τ).loc main_arg1)) (m ((c : Thread nD τ).loc main_arg2)) (biases m c)

/-! Where a point's blocks lie in the arrays. -/

theorem in0 (c : Dev nD) (t : Fin cfg0.N) (x : S512x512.Idx) (j : S16384x512.Idx) (h0 : (j 0 : ℕ) = t.val * 512 + (x 0 : ℕ)) (h1 : (j 1 : ℕ) = (x 1 : ℕ)) :
    iblk m c 0 t x = m ((c : Thread nD τ).loc main_arg0) j := by
  blk_point [iblk, V, idx t]

theorem in1 (c : Dev nD) (t : Fin cfg0.N) (x : S512x512.Idx) (j : S16384x512.Idx) (h0 : (j 0 : ℕ) = (if t.val % 8 = 0 then t.val else t.val - 1) * 512 + (x 0 : ℕ)) (h1 : (j 1 : ℕ) = (x 1 : ℕ)) :
    iblk m c 1 t x = m ((c : Thread nD τ).loc main_arg1) j := by
  blk_point [iblk, V, idx t]

theorem in2 (c : Dev nD) (t : Fin cfg0.N) (x : S512x512.Idx) (j : S16384x512.Idx) (h0 : (j 0 : ℕ) = t.val * 512 + (x 0 : ℕ)) (h1 : (j 1 : ℕ) = (x 1 : ℕ)) :
    iblk m c 2 t x = m ((c : Thread nD τ).loc main_arg1) j := by
  blk_point [iblk, V, idx t]

theorem in3 (c : Dev nD) (t : Fin cfg0.N) (x : S512x512.Idx) (j : S16384x512.Idx) (h0 : (j 0 : ℕ) = (if t.val % 8 = 0 then t.val else t.val - 1) * 512 + (x 0 : ℕ)) (h1 : (j 1 : ℕ) = (x 1 : ℕ)) :
    iblk m c 3 t x = m ((c : Thread nD τ).loc main_arg2) j := by
  blk_point [iblk, V, idx t]

theorem in4 (c : Dev nD) (t : Fin cfg0.N) (x : S512x512.Idx) (j : S16384x512.Idx) (h0 : (j 0 : ℕ) = t.val * 512 + (x 0 : ℕ)) (h1 : (j 1 : ℕ) = (x 1 : ℕ)) :
    iblk m c 4 t x = m ((c : Thread nD τ).loc main_arg2) j := by
  blk_point [iblk, V, idx t]

theorem in5 (c : Dev nD) (t : Fin cfg0.N) (x j : S4x128x576.Idx) (h0 : (j 0 : ℕ) = (x 0 : ℕ)) (h1 : (j 1 : ℕ) = (x 1 : ℕ)) (h2 : (j 2 : ℕ) = (x 2 : ℕ)) :
    iblk m c 5 t x = biases m c j := by
  have : x = j := by funext d; apply Fin.ext; fin_cases d; exacts [h0.symm, h1.symm, h2.symm]
  subst this
  blk_point [iblk, idx t]

/-- The row `key` of the band that a block takes for the query in its row `y`, in its own two blocks and in the arrays. -/
theorem keyRow_at (t : ℕ) (ht : t < 32) (y : ℕ) (hy : y < 512) (r : Fin 16384) (hr : (r : ℕ) = t * 512 + y) (κ : Fin 576) :
    (keyRow r κ : ℕ) = if y / 64 * 64 + (κ : ℕ) < 512 then (if t % 8 = 0 then t else t - 1) * 512 + (y / 64 * 64 + (κ : ℕ))
      else t * 512 + (y / 64 * 64 + (κ : ℕ) - 512) := by
  have e1 : (r : ℕ) % 512 = y := by omega
  have e2 : (r : ℕ) / 512 = t := by omega
  unfold keyRow
  simp only [e1, e2]
  split <;> rfl

/-- The value at `y` of block `t` is the kernel's value at the place `j` of `y` in the arrays. -/
theorem block_at (t : ℕ) (ht : t < 32) (q k v : S16384x512.Idx → EReal) (B B' : S4x128x576.Idx → EReal) (Q K1 K2 V1 V2 : S512x512.Idx → EReal)
    (hin0 : ∀ (x : S512x512.Idx) (j : S16384x512.Idx), (j 0 : ℕ) = t * 512 + (x 0 : ℕ) → (j 1 : ℕ) = (x 1 : ℕ) → Q x = q j)
    (hin1 : ∀ (x : S512x512.Idx) (j : S16384x512.Idx), (j 0 : ℕ) = (if t % 8 = 0 then t else t - 1) * 512 + (x 0 : ℕ) → (j 1 : ℕ) = (x 1 : ℕ) → K1 x = k j)
    (hin2 : ∀ (x : S512x512.Idx) (j : S16384x512.Idx), (j 0 : ℕ) = t * 512 + (x 0 : ℕ) → (j 1 : ℕ) = (x 1 : ℕ) → K2 x = k j)
    (hin3 : ∀ (x : S512x512.Idx) (j : S16384x512.Idx), (j 0 : ℕ) = (if t % 8 = 0 then t else t - 1) * 512 + (x 0 : ℕ) → (j 1 : ℕ) = (x 1 : ℕ) → V1 x = v j)
    (hin4 : ∀ (x : S512x512.Idx) (j : S16384x512.Idx), (j 0 : ℕ) = t * 512 + (x 0 : ℕ) → (j 1 : ℕ) = (x 1 : ℕ) → V2 x = v j)
    (hin5 : ∀ (x j : S4x128x576.Idx), (j 0 : ℕ) = (x 0 : ℕ) → (j 1 : ℕ) = (x 1 : ℕ) → (j 2 : ℕ) = (x 2 : ℕ) → B x = B' j)
    (y : S512x512.Idx) (j : S16384x512.Idx) (e0 : (j 0 : ℕ) = t * 512 + (y 0 : ℕ)) (e1 : (j 1 : ℕ) = (y 1 : ℕ)) :
    blockAt (t % 8 = 0) Q
      (two K1 K2)
      (two V1 V2)
      B y = attK q k v B' j := by
  have hy0 : (y 0 : ℕ) < 512 := (y 0).isLt
  have hy1 : (y 1 : ℕ) < 512 := (y 1).isLt
  have hk := fun κ => keyRow_at t ht (y 0) hy0 (j 0) e0 κ
  unfold attK blockAt
  dsimp only
  congr 1
  · funext κ
    congr 1
    · congr 1
      · refine Finset.sum_congr rfl fun e _ => ?_
        congr 1
        · congr 1
          exact hin0 _ _ e0 (by show (j 1 : ℕ) / 64 * 64 + (e : ℕ) = (y 1 : ℕ) / 64 * 64 + (e : ℕ); rw [e1])
        · exact two_at _ _ _ _ _ hin1 hin2 _ _ _ rfl (hk κ) (by show (j 1 : ℕ) / 64 * 64 + (e : ℕ) = (y 1 : ℕ) / 64 * 64 + (e : ℕ); rw [e1])
      · refine hin5 _ _ ?_ ?_ rfl
        · show (j 1 : ℕ) / 128 = (y 1 : ℕ) / 128; rw [e1]
        · show (j 1 : ℕ) / 64 % 2 * 64 + (j 0 : ℕ) % 64 = (y 1 : ℕ) / 64 % 2 * 64 + (y 0 : ℕ) % 64; rw [e1, e0]; omega
    · refine if_congr ?_ rfl rfl
      rw [e0]
      have a1 : (t * 512 + (y 0 : ℕ)) / 512 = t := by omega
      have a2 : (t * 512 + (y 0 : ℕ)) % 512 = (y 0 : ℕ) := by omega
      rw [a1, a2]
  · funext κ
    exact two_at _ _ _ _ _ hin3 hin4 _ _ _ rfl (hk κ) e1

/-- What the body leaves at an element of a point's block is the kernel's value at the element's place in the array. -/
theorem point (c : Dev nD) (t : Fin cfg0.N) (y : S512x512.Idx) :
    outsAt0 m c t y = result m c (((cfg0.win 6).blk t).view.emb y) := by
  have ht : t.val < 32 := lt_of_lt_of_eq t.isLt (by decide)
  obtain ⟨-, -, -, -, -, -, h6, hc⟩ := idx t
  have e0 : (((cfg0.win 6).blk t).view.emb y 0 : ℕ) = t.val * 512 + (y 0 : ℕ) := by blk_simp [idx t]
  have e1 : (((cfg0.win 6).blk t).view.emb y 1 : ℕ) = (y 1 : ℕ) := by blk_simp [idx t]
  rw [out_at]
  simp only [hc]
  exact block_at t.val ht _ _ _ _ _ _ _ _ _ _ (in0 m c t) (in1 m c t) (in2 m c t) (in3 m c t) (in4 m c t) (in5 m c t) y _ e0 e1

/-- The result array after the run. -/
theorem final (c : Dev nD) : (dats m 0 c).arrAt 6 cfg0.N = result m c := by
  refine (dats m 0 c).arrAt_eq_of_covers 6 _ (by decide +kernel) fun t _ y => ?_
  blk_simp
  rw [after0_6]
  exact point m c t y

end Cert.KernelIdeal.Block

end
-- ==== Proof.AttnBand.lean ====
/-
  THE ATTENTION REFERENCE'S BANDS: what its gathers of padded keys and values and its gather of biases read, which places of
  a band are valid, and the score of a place.
-/
module

public import proofs.«01_k».proof.Proof.AttnKernel

@[expose] public section

set_option maxRecDepth 16384

noncomputable section

open Idealize.ShloMosaic Idealize.ShloMosaic.TcCoe Idealize.SL.Sem

namespace Cert.ReferenceIdeal.Block

open Cert.ReferenceIdeal Cert.ReferenceIdeal.Gen Cert.ReferenceIdeal.Read

theorem chunk_word (c : Fin 64) (g : Fin 9) :
    Scalar.select (IntOp.cmpi .slt (IntOp.addi (BitVec.ofNat 32 c) (BitVec.ofNat 32 g)) 0#32)
      (IntOp.addi (IntOp.addi (BitVec.ofNat 32 c) (BitVec.ofNat 32 g)) 72#32) (IntOp.addi (BitVec.ofNat 32 c) (BitVec.ofNat 32 g))
      = BitVec.ofNat 32 ((c : ℕ) + g) := by
  revert c g; decide +kernel

/-- Chunk `c`'s band starts with the padded chunk `c`: its `g`-th chunk is the padded chunk `c + g`. -/
theorem chunk_at (i : S64x9x1.Idx) : val_main_v23 (F := Ideal) i = BitVec.ofNat 32 ((i 0 : ℕ) + (i 1 : ℕ)) := by
  pointwise [val_main_v23, val_main_v22, val_main_v21, val_main_v20, val_main_v19, val_main_v18, val_main_v17, val_main_v16, val_main_v15, val_main_v14, val_main_v13, val_main_v12, val_main_v11, val_main_c_1, val_main_c_2]
  exact chunk_word (i 0) (i 1)

theorem start_word (c : Fin 64) (g : Fin 9) : min (BitVec.ofNat 32 ((c : ℕ) + g)).toInt.toNat 71 = (c : ℕ) + g := by
  revert c g; decide +kernel

/-- The gather of chunks read at an index. -/
theorem gather_at (z : S4x72x64x8x64.Idx → EReal) (w : IVec S64x9x1 32) (hw : ∀ i : S64x9x1.Idx, w i = BitVec.ofNat 32 ((i 0 : ℕ) + (i 1 : ℕ)))
    (i : S4x64x9x64x8x64.Idx) (j : S4x72x64x8x64.Idx) (h0 : (j 0 : ℕ) = (i 0 : ℕ)) (h1 : (j 1 : ℕ) = (i 1 : ℕ) + (i 2 : ℕ))
    (h2 : (j 2 : ℕ) = (i 3 : ℕ)) (h3 : (j 3 : ℕ) = (i 4 : ℕ)) (h4 : (j 4 : ℕ) = (i 5 : ℕ)) :
    Host.gather gather_S4x72x64x8x64_S64x9x1_S4x64x9x64x8x64_0345_1_n_n_1_2_4164864 z w i = z j := by
  unfold Host.gather
  refine congrArg z (funext fun a => Fin.ext ?_)
  match a with
  | ⟨0, _⟩ =>
    refine Eq.trans ?_ h0.symm
    show 0 + 0 + (i 0 : ℕ) = _
    omega
  | ⟨1, _⟩ =>
    refine Eq.trans ?_ h1.symm
    show min (w _).toInt.toNat 71 + 0 + 0 = _
    rw [hw]
    exact start_word (i 1) (i 2)
  | ⟨2, _⟩ =>
    refine Eq.trans ?_ h2.symm
    show 0 + 0 + (i 3 : ℕ) = _
    omega
  | ⟨3, _⟩ =>
    refine Eq.trans ?_ h3.symm
    show 0 + 0 + (i 4 : ℕ) = _
    omega
  | ⟨4, _⟩ =>
    refine Eq.trans ?_ h4.symm
    show 0 + 0 + (i 5 : ℕ) = _
    omega

/-- A band's place is valid where it does not lie before the sequence. -/
theorem valid_word (n : Fin 4672) : IntOp.cmpi .sge (IntOp.subi (BitVec.ofNat 32 n) 512#32) 0#32 = if 512 ≤ (n : ℕ) then 1#1 else 0#1 := by
  revert n; decide +kernel

theorem valid_at (i : S64x576.Idx) : val_main_v68 (F := Ideal) i = if 512 ≤ (i 0 : ℕ) * 64 + (i 1 : ℕ) then 1#1 else 0#1 := by
  pointwise [val_main_v68, val_main_v67, val_main_v66, val_main_v65, val_main_v64, val_main_v63, val_main_v62, val_main_v61, val_main_v60, val_main_v59, val_main_v58, val_main_v57, val_main_v56, val_main_c_11, val_main_c_12, val_main_c_13]
  have h0 : (i 0 : ℕ) < 64 := (i 0).isLt
  have h1 : (i 1 : ℕ) < 576 := (i 1).isLt
  have e : IntOp.addi (IntOp.muli (BitVec.ofNat 32 ↑(i 0)) 64#32) (BitVec.ofNat 32 ↑(i 1)) = BitVec.ofNat 32 ((i 0 : ℕ) * 64 + (i 1 : ℕ)) := by
    unfold IntOp.addi IntOp.muli
    rw [BitVec.ofNat_add, BitVec.ofNat_mul]
  rw [e]
  exact valid_word ⟨(i 0 : ℕ) * 64 + (i 1 : ℕ), by omega⟩

/-- A key of a band, at a place that is valid. -/
theorem key_at (x1 : FVec Ideal S16384x512 .bf16) (i : S4x64x576x8x64.Idx) (h : 512 ≤ (i 1 : ℕ) * 64 + (i 2 : ℕ)) (j : S16384x512.Idx)
    (h0 : (j 0 : ℕ) = (i 0 : ℕ) * 4096 + ((i 1 : ℕ) * 64 + (i 2 : ℕ) - 512)) (h1 : (j 1 : ℕ) = (i 3 : ℕ) * 64 + (i 4 : ℕ)) :
    val_main_v25 (F := Ideal) x1 i = x1 j := by
  have b0 : (i 0 : ℕ) < 4 := (i 0).isLt
  have b1 : (i 1 : ℕ) < 64 := (i 1).isLt
  have b2 : (i 2 : ℕ) < 576 := (i 2).isLt
  have e : val_main_v25 (F := Ideal) x1 i = val_main_v8 (F := Ideal) x1 (ix5 (i 0) ⟨(i 1 : ℕ) + (i 2 : ℕ) / 64, by omega⟩ ⟨(i 2 : ℕ) % 64, by omega⟩ (i 3) (i 4)) := by
    unfold val_main_v25 val_main_v24
    generalize val_main_v8 (F := Ideal) x1 = z
    pointwise
    exact gather_at z _ chunk_at _ _ rfl rfl rfl rfl rfl
  rw [e]
  unfold val_main_v8
  generalize hz : val_main_v7 (F := Ideal) x1 = z
  pointwise
  rw [dif_pos (by show (8 ≤ (i 1 : ℕ) + (i 2 : ℕ) / 64 ∧ (i 1 : ℕ) + (i 2 : ℕ) / 64 - 8 < 64) ∧ (i 2 : ℕ) % 64 < 64; omega), ← hz]
  pointwise [val_main_v7, val_main_v3, val_main_v2]
  refine congrArg x1 (funext fun a => Fin.ext ?_)
  match a with
  | ⟨0, _⟩ =>
    refine Eq.trans ?_ h0.symm
    show (i 0 : ℕ) * 4096 + (((i 1 : ℕ) + (i 2 : ℕ) / 64 - 8) * 64 + (i 2 : ℕ) % 64) = _
    omega
  | ⟨1, _⟩ => exact h1.symm

/-- A band's value row, at a place that is valid. -/
theorem row_at (x2 : FVec Ideal S16384x512 .bf16) (i : S4x64x576x8x64.Idx) (h : 512 ≤ (i 1 : ℕ) * 64 + (i 2 : ℕ)) (j : S16384x512.Idx)
    (h0 : (j 0 : ℕ) = (i 0 : ℕ) * 4096 + ((i 1 : ℕ) * 64 + (i 2 : ℕ) - 512)) (h1 : (j 1 : ℕ) = (i 3 : ℕ) * 64 + (i 4 : ℕ)) :
    val_main_v33 (F := Ideal) x2 i = x2 j :=
  key_at x2 i h j h0 h1

/-- The score of a place of a band: nothing where the place is not valid. -/
theorem score_at (x0 x1 : FVec Ideal S16384x512 .bf16) (x3 : FVec Ideal S8x257 .f32) (i : S4x8x64x64x576.Idx) :
    val_main_v74 (F := Ideal) x0 x1 x3 i = if 512 ≤ (i 2 : ℕ) * 64 + (i 4 : ℕ) then
        (∑ e : Fin 64, x0 (ix2 ⟨(i 0 : ℕ) * 4096 + (i 2 : ℕ) * 64 + (i 3 : ℕ), by
              have h0 : (i 0 : ℕ) < 4 := (i 0).isLt
              have h2 : (i 2 : ℕ) < 64 := (i 2).isLt
              have h3 : (i 3 : ℕ) < 64 := (i 3).isLt
              omega⟩ ⟨(i 1 : ℕ) * 64 + e, by have h1 : (i 1 : ℕ) < 8 := (i 1).isLt; omega⟩)
            * val_main_v25 (F := Ideal) x1 (ix5 (i 0) (i 2) (i 4) (i 1) e)) * Ideal.ofBits .f32 0x3E000000#32
          + val_main_v55 (F := Ideal) x3 (ix3 (i 1) (i 3) (i 4))
      else ⊥ := by
  unfold val_main_v74 val_main_v72 val_main_v36 val_main_v34 val_main_v71 val_main_v70 val_main_v69
  generalize val_main_v25 (F := Ideal) x1 = z
  generalize val_main_v55 (F := Ideal) x3 = w
  pointwise [val_main_call3_v2, val_main_call3_v1, val_main_call3_v0, val_main_cst_14, val_main_v73, val_main_v35, val_main_cst, val_main_v6, val_main_v1, val_main_v0]
  rw [valid_at]
  by_cases h : 512 ≤ (i 2 : ℕ) * 64 + (i 4 : ℕ)
  · rw [if_pos h]
    exact congrArg (fun b => Scalar.select b _ _) (if_pos h)
  · rw [if_neg h]
    exact (congrArg (fun b => Scalar.select b _ _) (if_neg h)).trans Cert.KernelIdeal.Block.negInf

/-- The greatest score of a band. -/
theorem top_at (x0 x1 : FVec Ideal S16384x512 .bf16) (x3 : FVec Ideal S8x257 .f32) (i : S4x8x64x64.Idx) :
    val_main_v75 (F := Ideal) x0 x1 x3 i = Cert.Attn.top fun κ => val_main_v74 (F := Ideal) x0 x1 x3 (ix5 (i 0) (i 1) (i 2) (i 3) κ) := by
  unfold val_main_v75
  generalize val_main_v74 (F := Ideal) x0 x1 x3 = z
  pointwise [val_main_cst_15]
  rw [Cert.KernelIdeal.Block.negInf]
  rfl

/-- What is taken off a score before its exponential: the greatest score of its band. -/
theorem off_at (x0 x1 : FVec Ideal S16384x512 .bf16) (x3 : FVec Ideal S8x257 .f32) (i : S4x8x64x64x576.Idx) :
    val_main_v79 (F := Ideal) x0 x1 x3 i = Cert.Attn.top fun κ => val_main_v74 (F := Ideal) x0 x1 x3 (ix5 (i 0) (i 1) (i 2) (i 3) κ) := by
  refine Eq.trans ?_ (top_at x0 x1 x3 (ix4 (i 0) (i 1) (i 2) (i 3)))
  rw [val_main_v79_apply, val_main_v78_apply, val_main_v77_apply]
  show max (Ideal.ofBits .f32 0xFF800000#32) _ = _
  rw [Cert.KernelIdeal.Block.negInf]
  refine (max_eq_right bot_le).trans (congrArg _ (funext fun a => ?_))
  match a with
  | ⟨0, _⟩ => rfl
  | ⟨1, _⟩ => rfl
  | ⟨2, _⟩ => rfl
  | ⟨3, _⟩ => rfl

/-- A band's weights after the division by their sum. -/
theorem weight_at (x0 x1 : FVec Ideal S16384x512 .bf16) (x3 : FVec Ideal S8x257 .f32) (i : S4x8x64x64x576.Idx) :
    val_main_v85 (F := Ideal) x0 x1 x3 i
      = Ideal.div (Cert.Attn.wt (fun κ => val_main_v74 (F := Ideal) x0 x1 x3 (ix5 (i 0) (i 1) (i 2) (i 3) κ)) (i 4))
          (∑ l, Cert.Attn.wt (fun κ => val_main_v74 (F := Ideal) x0 x1 x3 (ix5 (i 0) (i 1) (i 2) (i 3) κ)) l) := by
  have w : ∀ k : S4x8x64x64x576.Idx, val_main_v81 (F := Ideal) x0 x1 x3 k
      = Cert.Attn.wt (fun κ => val_main_v74 (F := Ideal) x0 x1 x3 (ix5 (k 0) (k 1) (k 2) (k 3) κ)) (k 4) := fun k => by
    unfold val_main_v81 val_main_v80 Cert.Attn.wt
    rw [← off_at]
    generalize val_main_v79 (F := Ideal) x0 x1 x3 = z
    generalize val_main_v74 (F := Ideal) x0 x1 x3 = z'
    pointwise
  unfold val_main_v85 val_main_v84 val_main_v83 val_main_v82
  generalize val_main_v81 (F := Ideal) x0 x1 x3 = z at w
  pointwise [val_main_cst_17]
  simp only [w]
  rfl

/-- The reference's result from a band's value rows and weights. -/
theorem result_at (x0 x1 x2 : FVec Ideal S16384x512 .bf16) (x3 : FVec Ideal S8x257 .f32) (i : S16384x512.Idx) :
    val_main_v88 (F := Ideal) x0 x1 x2 x3 i
      = have h0 : (i 0 : ℕ) < 16384 := (i 0).isLt
        have h1 : (i 1 : ℕ) < 512 := (i 1).isLt
        ∑ κ : Fin 576, val_main_v33 (F := Ideal) x2 (ix5 ⟨(i 0 : ℕ) / 4096, by omega⟩ ⟨(i 0 : ℕ) / 64 % 64, by omega⟩ κ ⟨(i 1 : ℕ) / 64, by omega⟩ ⟨(i 1 : ℕ) % 64, by omega⟩)
          * val_main_v85 (F := Ideal) x0 x1 x3 (ix5 ⟨(i 0 : ℕ) / 4096, by omega⟩ ⟨(i 1 : ℕ) / 64, by omega⟩ ⟨(i 0 : ℕ) / 64 % 64, by omega⟩ ⟨(i 0 : ℕ) % 64, by omega⟩ κ) := by
  unfold val_main_v88 val_main_v87 val_main_v86
  generalize val_main_v85 (F := Ideal) x0 x1 x3 = z
  generalize val_main_v33 (F := Ideal) x2 = z'
  pointwise

end Cert.ReferenceIdeal.Block

end
-- ==== Proof.AttnBias.lean ====
module

public import proofs.«01_k».proof.Proof.AttnBand
public import Idealize.ShloMosaic.Lib.StableHlo.ReadAt

/-!
THE BIASES. Both programs gather the biases of the places of a band from the table before anything else. The kernel's array of them
stacks two heads over each other, the reference's does not: at matching places they are the same.
-/

@[expose] public section

set_option maxRecDepth 16384

noncomputable section

open Idealize.ShloMosaic Idealize.ShloMosaic.TcCoe Idealize.SL.Sem

namespace Cert.ReferenceIdeal.Block

open Cert.ReferenceIdeal Cert.ReferenceIdeal.Gen Cert.ReferenceIdeal.Read

/-- The kernel's bias at row `64·h' + q` of pair `p` is the reference's bias at head `2·p + h'` and query `q`. -/
theorem bias_at (m : (ℓ : Loc Cert.KernelIdeal.nD Cert.KernelIdeal.τ Cert.KernelIdeal.sig) → Buf (Elt Ideal) ℓ) (c : Dev Cert.KernelIdeal.nD)
    (i : Cert.KernelIdeal.S4x128x576.Idx) (j : S8x64x576.Idx) (h0 : (j 0 : ℕ) = (i 0 : ℕ) * 2 + (i 1 : ℕ) / 64)
    (h1 : (j 1 : ℕ) = (i 1 : ℕ) % 64) (h2 : (j 2 : ℕ) = (i 2 : ℕ)) :
    Cert.KernelIdeal.Gen.V m c Cert.KernelIdeal.main_v19 i
      = val_main_v55 (F := Ideal) (m ((c.tc : Thread Cert.KernelIdeal.nD Cert.KernelIdeal.τ).loc Cert.KernelIdeal.main_arg3)) j := by
  have b0 : (i 0 : ℕ) < 4 := (i 0).isLt
  have b1 : (i 1 : ℕ) < 128 := (i 1).isLt
  have e : j = ix3 ⟨(i 0 : ℕ) * 2 + (i 1 : ℕ) / 64, by omega⟩ ⟨(i 1 : ℕ) % 64, by omega⟩ (i 2) := by
    funext a
    match a with
    | ⟨0, _⟩ => exact Fin.ext h0
    | ⟨1, _⟩ => exact Fin.ext h1
    | ⟨2, _⟩ => exact Fin.ext h2
  rw [e]
  unfold Cert.KernelIdeal.Gen.V
  after_reads_at
  unfold val_main_v55
  refine congrArg (fun w => Host.gather gather_S8x257_S64x576x1_S8x64x576_0_1_n_n_1_2_81
    (m ((c.tc : Thread Cert.KernelIdeal.nD Cert.KernelIdeal.τ).loc Cert.KernelIdeal.main_arg3)) w _) (funext fun k => ?_)
  pointwise [val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_call2_v0, val_main_call2_v1, val_main_call2_v2, val_main_call2_v3, val_main_call2_v4, val_main_c_5, val_main_c_6,
    val_main_c_7, val_main_c_8, val_main_c_9, val_main_c_10]

/-- Every bias is an entry of the table. -/
theorem bias_mem (x3 : FVec Ideal S8x257 .f32) (j : S8x64x576.Idx) : ∃ l, val_main_v55 (F := Ideal) x3 j = x3 l :=
  ⟨_, rfl⟩

end Cert.ReferenceIdeal.Block

end
-- ==== Proof.AttnFinite.lean ====
module

public import proofs.«01_k».proof.Defs
public import Idealize.ShloMosaic.Lib.ReduceAll
public import Idealize.ShloMosaic.Lib.Pointwise

/-!
THE PRECONDITION. `real_scores` of the arguments is one: every query, every key and every entry of the bias table is a real number.
Of the values nothing is asked.
-/

@[expose] public section

set_option maxRecDepth 16384

noncomputable section

open Idealize.ShloMosaic

namespace Cert.Pre_real_scores

/-- The side conditions of the precondition's operations. -/
theorem facts : Facts := ⟨by decide, by decide, by decide, by decide, by decide⟩

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

/-- What lies below `+∞` in absolute value is a real number. -/
theorem real_of_abs (x : EReal) (h : Ideal.cmp .olt (max x (-x)) ⊤ = 1#1) : ∃ r : ℝ, x = r := by
  have h' : max x (-x) < ⊤ := by
    by_contra hn
    simp [Ideal.cmp, hn] at h
  induction x using EReal.rec with
  | bot => simp at h'
  | coe r => exact ⟨r, rfl⟩
  | top => simp at h'

theorem and_one (a b : BitVec 1) (h : IntOp.andi a b = 1#1) : a = 1#1 ∧ b = 1#1 := by
  revert a b; decide

/-- The precondition's meaning. -/
theorem real (x0 x1 x2 : FVec Ideal S16384x512 .bf16) (x3 : FVec Ideal S8x257 .f32)
    (h : @fn facts Ideal _ x0 x1 x2 x3 = fun _ => 1#1) :
    (∀ i, ∃ r : ℝ, (x0 i : EReal) = r) ∧ (∀ i, ∃ r : ℝ, (x1 i : EReal) = r) ∧ ∀ i, ∃ r : ℝ, (x3 i : EReal) = r := by
  have _ : Subsingleton S_.Idx := ⟨fun a b => funext fun k => k.elim0⟩
  obtain ⟨h01, h3⟩ := and_one _ _ (congrFun h fun k => k.elim0)
  obtain ⟨h0, h1⟩ := and_one _ _ h01
  refine ⟨fun i => real_of_abs _ ?_, fun i => real_of_abs _ ?_, fun i => real_of_abs _ ?_⟩
  · rw [← inf_bf16]
    exact Host.reduce_andi_all _ _ _ _ _ h0 i
  · rw [← inf_bf16]
    exact Host.reduce_andi_all _ _ _ _ _ h1 i
  · rw [← inf_f32]
    exact Host.reduce_andi_all _ _ _ _ _ h3 i

end Cert.Pre_real_scores

end
-- ==== Proof.AttnReference.lean ====
module

public import proofs.«01_k».proof.Proof.AttnBias
public import proofs.«01_k».proof.Proof.AttnFinite
public import Idealize.ShloMosaic.Lib.Claim

/-!
THE ATTENTION'S VALUE CLAIM: the reference's result is the kernel's value `attK` of the same arguments, as soon as the queries,
keys and biases are real numbers.

The kernel scales the queries before the product with the keys, the reference scales the product; the kernel masks by adding `⊥`,
the reference by choosing `⊥`; the kernel divides the weighted sum of the values, the reference every weight. At a masked place the
two read different values (the kernel one that stands in for the missing block, the reference a padding), both with weight 0.
-/

@[expose] public section

set_option maxRecDepth 16384

noncomputable section

open Idealize.ShloMosaic Idealize.ShloMosaic.TcCoe Idealize.SL.Sem

namespace Cert.ReferenceIdeal.Block

open Cert.ReferenceIdeal Cert.ReferenceIdeal.Gen Cert.ReferenceIdeal.Read Cert.Attn
open Cert.KernelIdeal.Block (keyRow attK)

/-- One eighth, in both formats. -/
theorem eighth_bf16 : Ideal.ofBits .bf16 0x3E00#16 = ((1 / 8 : ℝ) : EReal) := by
  simp [Ideal.ofBits, Ideal.ieee]
  rw [← EReal.coe_mul]
  norm_num

theorem eighth_f32 : Ideal.ofBits .f32 0x3E000000#32 = ((1 / 8 : ℝ) : EReal) := by
  simp [Ideal.ofBits, Ideal.ieee]
  rw [← EReal.coe_mul]
  norm_num

theorem coe_sum (S : Finset (Fin 64)) (a : Fin 64 → ℝ) : ∑ e ∈ S, ((a e : ℝ) : EReal) = ((∑ e ∈ S, a e : ℝ) : EReal) := by
  classical
  induction S using Finset.induction_on with
  | empty => simp
  | insert i S hi ih => rw [Finset.sum_insert hi, Finset.sum_insert hi, ih, EReal.coe_add]

/-- A finite sum of products of real numbers is a real number. -/
theorem sum_real (f g : Fin 64 → EReal) (hf : ∀ e, ∃ r : ℝ, f e = r) (hg : ∀ e, ∃ r : ℝ, g e = r) :
    ∃ r : ℝ, ∑ e, f e * g e = r := by
  choose a ha using hf
  choose b hb using hg
  refine ⟨∑ e, a e * b e, ?_⟩
  rw [← coe_sum]
  exact Finset.sum_congr rfl fun e _ => by rw [ha, hb, EReal.coe_mul]

/-- Scaling every query or scaling the product. -/
theorem scale (f g : Fin 64 → EReal) :
    (∑ e, f e * Ideal.ofBits .bf16 0x3E00#16 * g e) = (∑ e, f e * g e) * Ideal.ofBits .f32 0x3E000000#32 := by
  rw [eighth_bf16, eighth_f32, sum_mul_real _ _ _ (EReal.coe_nonneg.mpr (by norm_num)) (EReal.coe_ne_top _)]
  exact Finset.sum_congr rfl fun e _ => mul_right_comm _ _ _

/-- A score that is `⊥` weighs nothing. -/
theorem wt_bot (s : Fin 576 → EReal) (κ : Fin 576) (h : s κ = ⊥) : wt s κ = 0 := by
  unfold wt
  rw [h, sub_eq_add_neg, EReal.bot_add]
  rfl

/-- The sum of the weights is positive as soon as one score is real and none is `+∞`. -/
theorem sum_wt_pos (s : Fin 576 → EReal) (h : ∀ κ, s κ < ⊤) (κ₀ : Fin 576) (h₀ : ⊥ < s κ₀) : 0 < ∑ κ, wt s κ := by
  have hbot : ⊥ < top s := lt_of_lt_of_le h₀ (le_top s κ₀)
  obtain ⟨m, hm⟩ : ∃ m : ℝ, top s = m := ⟨(top s).toReal, (EReal.coe_toReal (top_lt s h).ne hbot.ne').symm⟩
  have hsub0 : ⊥ < s κ₀ - top s := by
    rw [hm, sub_eq_add_neg, ← EReal.coe_neg]
    exact bot_lt_iff_ne_bot.mpr (EReal.add_ne_bot_iff.mpr ⟨h₀.ne', EReal.coe_ne_bot _⟩)
  exact lt_of_lt_of_le (exp_pos _ hsub0) (Finset.single_le_sum (f := wt s) (fun κ _ => exp_nonneg _) (Finset.mem_univ κ₀))

/-- Two rows of values that differ at most where the score is `⊥` have the same weighted mean. -/
theorem meanEach_congr (s v v' : Fin 576 → EReal) (h : ∀ κ, s κ < ⊤) (κ₀ : Fin 576) (h₀ : ⊥ < s κ₀)
    (hv : ∀ κ, s κ ≠ ⊥ → v κ = v' κ) : meanEach s v = meanEach s v' := by
  unfold meanEach
  refine Finset.sum_congr rfl fun κ _ => ?_
  by_cases hs : s κ = ⊥
  · rw [wt_bot s κ hs]
    unfold Ideal.div
    rw [if_neg (sum_wt_pos s h κ₀ h₀).ne', zero_mul, zero_mul, zero_mul]
  · rw [hv κ hs]

/-- A band's place holds no key exactly where the kernel masks. -/
theorem masked_iff (r κ : ℕ) (hr : r < 16384) (hκ : κ < 576) :
    (r / 512 % 8 = 0 ∧ κ < 512 - r % 512 / 64 * 64) ↔ ¬ 512 ≤ r / 64 % 64 * 64 + κ := by
  omega

/-- The row that the kernel takes at a place that holds a key. -/
theorem keyRow_valid (r : Fin 16384) (κ : Fin 576) (h : 512 ≤ (r : ℕ) / 64 % 64 * 64 + (κ : ℕ)) :
    (keyRow r κ : ℕ) = (r : ℕ) / 4096 * 4096 + ((r : ℕ) / 64 % 64 * 64 + (κ : ℕ) - 512) := by
  have hr := r.isLt
  have hκ := κ.isLt
  unfold keyRow
  split
  · dsimp only
    split <;> omega
  · dsimp only
    omega

/-- A key of a band by its coordinates. -/
theorem key_ix (x : FVec Ideal S16384x512 .bf16) (b : Fin 4) (c : Fin 64) (κ : Fin 576) (h : Fin 8) (e : Fin 64) (r : Fin 16384) (l : Fin 512)
    (hv : 512 ≤ (c : ℕ) * 64 + (κ : ℕ)) (hr : (r : ℕ) = (b : ℕ) * 4096 + ((c : ℕ) * 64 + (κ : ℕ) - 512)) (hl : (l : ℕ) = (h : ℕ) * 64 + (e : ℕ)) :
    val_main_v25 (F := Ideal) x (ix5 b c κ h e) = x (ix2 r l) := key_at x (ix5 b c κ h e) hv (ix2 r l) hr hl

/-- A value of a band by its coordinates. -/
theorem row_ix (x : FVec Ideal S16384x512 .bf16) (b : Fin 4) (c : Fin 64) (κ : Fin 576) (h : Fin 8) (e : Fin 64) (r : Fin 16384) (l : Fin 512)
    (hv : 512 ≤ (c : ℕ) * 64 + (κ : ℕ)) (hr : (r : ℕ) = (b : ℕ) * 4096 + ((c : ℕ) * 64 + (κ : ℕ) - 512)) (hl : (l : ℕ) = (h : ℕ) * 64 + (e : ℕ)) :
    val_main_v33 (F := Ideal) x (ix5 b c κ h e) = x (ix2 r l) := row_at x (ix5 b c κ h e) hv (ix2 r l) hr hl

set_option maxHeartbeats 2000000 in
/-- The reference's result is the kernel's value. -/
theorem value (q k v : FVec Ideal S16384x512 .bf16) (x3 : FVec Ideal S8x257 .f32) (B : Cert.KernelIdeal.S4x128x576.Idx → EReal)
    (hB : ∀ (i : Cert.KernelIdeal.S4x128x576.Idx) (j : S8x64x576.Idx), (j 0 : ℕ) = (i 0 : ℕ) * 2 + (i 1 : ℕ) / 64 →
      (j 1 : ℕ) = (i 1 : ℕ) % 64 → (j 2 : ℕ) = (i 2 : ℕ) → B i = val_main_v55 (F := Ideal) x3 j)
    (hq : ∀ i, ∃ r : ℝ, (q i : EReal) = r) (hk : ∀ i, ∃ r : ℝ, (k i : EReal) = r) (h3 : ∀ i, ∃ r : ℝ, (x3 i : EReal) = r) :
    val_main_v88 (F := Ideal) q k v x3 = attK q k v B := by
  funext i
  rw [result_at]
  have h0 : (i 0 : ℕ) < 16384 := (i 0).isLt
  have h1 : (i 1 : ℕ) < 512 := (i 1).isLt
  dsimp only
  set s : Fin 576 → EReal := fun κ => val_main_v74 (F := Ideal) q k x3
    (ix5 ⟨(i 0 : ℕ) / 4096, by omega⟩ ⟨(i 1 : ℕ) / 64, by omega⟩ ⟨(i 0 : ℕ) / 64 % 64, by omega⟩ ⟨(i 0 : ℕ) % 64, by omega⟩ κ) with hs
  set w : Fin 576 → EReal := fun κ => val_main_v33 (F := Ideal) v
    (ix5 ⟨(i 0 : ℕ) / 4096, by omega⟩ ⟨(i 0 : ℕ) / 64 % 64, by omega⟩ κ ⟨(i 1 : ℕ) / 64, by omega⟩ ⟨(i 1 : ℕ) % 64, by omega⟩) with hw
  -- a place's score
  have sc : ∀ κ : Fin 576, s κ = if 512 ≤ (i 0 : ℕ) / 64 % 64 * 64 + (κ : ℕ) then
      (∑ e : Fin 64, q (ix2 (i 0) ⟨(i 1 : ℕ) / 64 * 64 + e, by omega⟩) * k (ix2 (keyRow (i 0) κ) ⟨(i 1 : ℕ) / 64 * 64 + e, by omega⟩))
          * Ideal.ofBits .f32 0x3E000000#32
        + val_main_v55 (F := Ideal) x3 (ix3 ⟨(i 1 : ℕ) / 64, by omega⟩ ⟨(i 0 : ℕ) % 64, by omega⟩ κ)
      else ⊥ := fun κ => by
    rw [hs]
    dsimp only
    rw [score_at]
    refine if_ctx_congr Iff.rfl (fun hv => ?_) fun _ => rfl
    refine congrArg₂ _ (congrArg₂ _ (Finset.sum_congr rfl fun e _ => congrArg₂ _ (congrArg q ?_) ?_) rfl) rfl
    · funext a
      match a with
      | ⟨0, _⟩ => exact Fin.ext (show (i 0 : ℕ) / 4096 * 4096 + (i 0 : ℕ) / 64 % 64 * 64 + (i 0 : ℕ) % 64 = (i 0 : ℕ) by omega)
      | ⟨1, _⟩ => rfl
    · exact key_ix k ⟨(i 0 : ℕ) / 4096, by omega⟩ ⟨(i 0 : ℕ) / 64 % 64, by omega⟩ κ ⟨(i 1 : ℕ) / 64, by omega⟩ e (keyRow (i 0) κ)
        ⟨(i 1 : ℕ) / 64 * 64 + e, by omega⟩ hv (keyRow_valid (i 0) κ hv) rfl
  have real : ∀ κ : Fin 576, 512 ≤ (i 0 : ℕ) / 64 % 64 * 64 + (κ : ℕ) → ∃ r : ℝ, s κ = r := fun κ hv => by
    rw [sc, if_pos hv]
    obtain ⟨a, ha⟩ := sum_real _ _ (fun e : Fin 64 => hq (ix2 (i 0) ⟨(i 1 : ℕ) / 64 * 64 + e, by omega⟩))
      (fun e : Fin 64 => hk (ix2 (keyRow (i 0) κ) ⟨(i 1 : ℕ) / 64 * 64 + e, by omega⟩))
    obtain ⟨l, hl⟩ := bias_mem x3 (ix3 ⟨(i 1 : ℕ) / 64, by omega⟩ ⟨(i 0 : ℕ) % 64, by omega⟩ κ)
    obtain ⟨b, hb⟩ := h3 l
    exact ⟨a * (1 / 8) + b, by rw [ha, hl, hb, eighth_f32, ← EReal.coe_mul, ← EReal.coe_add]⟩
  have lt : ∀ κ, s κ < ⊤ := fun κ => by
    by_cases hv : 512 ≤ (i 0 : ℕ) / 64 % 64 * 64 + (κ : ℕ)
    · obtain ⟨r, hr⟩ := real κ hv
      rw [hr]
      exact EReal.coe_lt_top r
    · rw [sc, if_neg hv]
      exact bot_lt_top
  have gt : ⊥ < s ⟨512, by omega⟩ := by
    obtain ⟨r, hr⟩ := real ⟨512, by omega⟩ (Nat.le_add_left _ _)
    rw [hr]
    exact EReal.bot_lt_coe r
  -- the reference's side is the mean in its order
  have L : (∑ κ, w κ * val_main_v85 (F := Ideal) q k x3
      (ix5 ⟨(i 0 : ℕ) / 4096, by omega⟩ ⟨(i 1 : ℕ) / 64, by omega⟩ ⟨(i 0 : ℕ) / 64 % 64, by omega⟩ ⟨(i 0 : ℕ) % 64, by omega⟩ κ))
      = meanEach s w := Finset.sum_congr rfl fun κ _ => by
    rw [weight_at]
    exact mul_comm _ _
  refine L.trans ?_
  -- the kernel's side is the mean in its order, of the same scores
  have R : attK q k v B i = mean s (fun κ => v (ix2 (keyRow (i 0) κ) (i 1))) := by
    unfold attK
    dsimp only
    refine congrArg (fun s' => mean s' _) (funext fun κ => ?_)
    have hκ := κ.isLt
    rw [sc, scale (fun e : Fin 64 => q (ix2 (i 0) ⟨(i 1 : ℕ) / 64 * 64 + e, by omega⟩))
        (fun e : Fin 64 => k (ix2 (keyRow (i 0) κ) ⟨(i 1 : ℕ) / 64 * 64 + e, by omega⟩)),
      hB (ix3 ⟨(i 1 : ℕ) / 128, by omega⟩ ⟨(i 1 : ℕ) / 64 % 2 * 64 + (i 0 : ℕ) % 64, by omega⟩ κ)
        (ix3 ⟨(i 1 : ℕ) / 64, by omega⟩ ⟨(i 0 : ℕ) % 64, by omega⟩ κ)
        (show (i 1 : ℕ) / 64 = (i 1 : ℕ) / 128 * 2 + ((i 1 : ℕ) / 64 % 2 * 64 + (i 0 : ℕ) % 64) / 64 by omega)
        (show (i 0 : ℕ) % 64 = ((i 1 : ℕ) / 64 % 2 * 64 + (i 0 : ℕ) % 64) % 64 by omega) rfl]
    by_cases hv : 512 ≤ (i 0 : ℕ) / 64 % 64 * 64 + (κ : ℕ)
    · rw [if_pos hv, if_neg fun hm => (masked_iff _ _ h0 hκ).mp hm hv, add_zero]
    · rw [if_neg hv, if_pos ((masked_iff _ _ h0 hκ).mpr hv), EReal.add_bot]
  rw [R, mean_eq_meanEach s _ lt ⟨512, by omega⟩ gt]
  refine meanEach_congr s _ _ lt ⟨512, by omega⟩ gt fun κ hne => ?_
  have hv : 512 ≤ (i 0 : ℕ) / 64 % 64 * 64 + (κ : ℕ) := by
    by_contra hn
    exact hne (by rw [sc, if_neg hn])
  exact row_ix v ⟨(i 0 : ℕ) / 4096, by omega⟩ ⟨(i 0 : ℕ) / 64 % 64, by omega⟩ κ ⟨(i 1 : ℕ) / 64, by omega⟩ ⟨(i 1 : ℕ) % 64, by omega⟩
    (keyRow (i 0) κ) (i 1) hv (keyRow_valid (i 0) κ hv) (show (i 1 : ℕ) = (i 1 : ℕ) / 64 * 64 + (i 1 : ℕ) % 64 by omega)

end Cert.ReferenceIdeal.Block

namespace Cert.Proof

/-- The attention kernel and its reference end with equal results over the extended reals, where the queries, keys and biases are
real numbers. -/
theorem attention_algebraic : Cert.algebraic_KernelIdeal_ReferenceIdeal_pre_real_scores (hKernelIdeal := Cert.KernelIdeal.Gen.facts)
    (hReferenceIdeal := Cert.ReferenceIdeal.Gen.facts) (hPre_real_scores := Cert.Pre_real_scores.facts) := by
  pair_intro
  · run_from Cert.KernelIdeal.Value.run_blocks m g
  · run_from Cert.ReferenceIdeal.Value.run m' g'
    obtain ⟨h0, h1, h2, h3⟩ := hagree c
    obtain ⟨r0, r1, r3⟩ := Cert.Pre_real_scores.real _ _ _ _ (hpre c)
    rw [Cert.ReferenceIdeal.Read.val_main_v88_eq]
    simp only [h0, h1, h2, h3]
    rw [Cert.ReferenceIdeal.Block.value _ _ _ _ (Cert.KernelIdeal.Block.biases m c)
      (fun i j => Cert.ReferenceIdeal.Block.bias_at m c i j) r0 r1 r3]
    exact (Cert.KernelIdeal.Block.final m c).symm

end Cert.Proof

end
-- ==== Proof.ExpertIdealFrame.lean ====
/-
  The expert kernel runs to its end for ANY tables that name blocks inside the arrays.

  The kernel visits its blocks in the order that three prefetched tables give: which block of rows a step reads and
  writes, whose expert's weights it uses, and how many steps there are.  A step past the last one stores nothing, so
  what the output's staging buffer holds afterwards is what it held before.  That is stated as a RELATION between the
  buffer before a step and after it (`leaves`), because before the first store nothing is known of the buffer.

  * `idle_run`: a step past the last one returns at once.
  * `rdat`: each input's buffer is left as found, the output's by `leaves`.
  * `body_obligation`: the body satisfies it at every step, by the run of the storing path or by `idle_run`.
  * `run`: the whole program.
-/
module

public import proofs.«01_k».proof.Proof.Gen.ExpertIdeal.Launch
public import proofs.«01_k».proof.Proof.Gen.ExpertIdeal.Flash.Runs
public import Idealize.ShloMosaic.Lib.Pipeline.ArrRel
public import Idealize.ShloMosaic.Lib.Pipeline.TableIdle
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.ExpertIdeal.Steps

open Cert.ExpertIdeal Cert.ExpertIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

/-- The tables' contents the pipeline may run at. -/
abbrev Tab : Type := (pcfg0 (F := Ideal)).Adm

variable (a : Tab) (m : (ℓ : Loc nD τ sig) → Buf (Elt Ideal) ℓ)

/-- The grid coordinate of a step. -/
abbrev crd (t : Fin (cfg0 a).N) : (cfg0 a).grid.Coords := (cfg0 a).grid.coords t

/-- Each window's current staging buffer at a step. -/
abbrev st0 (t : Fin (cfg0 a).N) : Memref sig .tc .vmem S256x1024 .bf16 := spec0_0.stage ((cfg0 a).slots t (0 : Fin 5))
abbrev hs0 (t : Fin (cfg0 a).N) : (st0 a t).IsWhole := hstage0_0 (((cfg0 a).slots t (0 : Fin 5)).cast nbuf0_0)
abbrev st1 (t : Fin (cfg0 a).N) : Memref sig .tc .vmem S1x1024x2816 .bf16 := spec0_1.stage ((cfg0 a).slots t (1 : Fin 5))
abbrev hs1 (t : Fin (cfg0 a).N) : (st1 a t).IsWhole := hstage0_1 (((cfg0 a).slots t (1 : Fin 5)).cast nbuf0_1)
abbrev st2 (t : Fin (cfg0 a).N) : Memref sig .tc .vmem S1x1024x2816 .bf16 := spec0_2.stage ((cfg0 a).slots t (2 : Fin 5))
abbrev hs2 (t : Fin (cfg0 a).N) : (st2 a t).IsWhole := hstage0_2 (((cfg0 a).slots t (2 : Fin 5)).cast nbuf0_2)
abbrev st3 (t : Fin (cfg0 a).N) : Memref sig .tc .vmem S1x2816x1024 .bf16 := spec0_3.stage ((cfg0 a).slots t (3 : Fin 5))
abbrev hs3 (t : Fin (cfg0 a).N) : (st3 a t).IsWhole := hstage0_3 (((cfg0 a).slots t (3 : Fin 5)).cast nbuf0_3)
abbrev st4 (t : Fin (cfg0 a).N) : Memref sig .tc .vmem S256x1024 .bf16 := spec0_4.stage ((cfg0 a).slots t (4 : Fin 5))
abbrev hs4 (t : Fin (cfg0 a).N) : (st4 a t).IsWhole := hstage0_4 (((cfg0 a).slots t (4 : Fin 5)).cast nbuf0_4)

/-- A window's block at a step, read off its array at launch. -/
def iblk (c : Dev nD) (w : Fin (cfg0 a).W) (t : Fin (cfg0 a).N) :
    (((cfg0 a).win w).xblock (crd a t)).Idx → Elt Ideal ((cfg0 a).win w).elt :=
  (((cfg0 a).win w).blk t).view.read (Elt Ideal) (m (((cfg0 a).win w).arr.view.loc (c : Thread nD τ)))

/-- The number of steps the body reads. -/
abbrev count (T2 : S1.Idx → Elt Ideal .i32) : BitVec 32 :=
  View.readAt (Elt Ideal) (tbM0_2).view (Rect.unit (s := S1) ![0] S1.size inb_S1_S1_0).toLoadRect T2
    (Shape.Idx.first (numel1_S1.symm ▸ Nat.one_pos))

/-- Step `t` is one of the counted ones: the body stores. -/
abbrev Live (t : Fin (cfg0 a).N) : Prop := k0_cond1 (crd a t) (count (a.1 2)) = 1#1

/-- What a storing step leaves in the output's buffer. -/
def stored (c : Dev nD) (t : Fin (cfg0 a).N) (h : Live a t) : S256x1024.Idx → Elt Ideal .bf16 :=
  out0_A_4 c (crd a t) (st0 a t) (hs0 a t) (st1 a t) (hs1 a t) (st2 a t) (hs2 a t) (st3 a t) (hs3 a t) (st4 a t) (hs4 a t)
    (a.1 0) (a.1 1) (a.1 2) (iblk a m c (0 : Fin 5) t) (iblk a m c (1 : Fin 5) t) (iblk a m c (2 : Fin 5) t)
    (iblk a m c (3 : Fin 5) t) h

/-- The output's buffer before and after step `t`: a storing step leaves its block, another leaves what it found. -/
def leaves (c : Dev nD) (t : Fin (cfg0 a).N) (Y X : S256x1024.Idx → Elt Ideal .bf16) : Prop :=
  (∀ h : Live a t, X = stored a m c t h) ∧ (¬ Live a t → X = Y)

set_option maxHeartbeats 4000000 in
/-- A step that is not counted returns at once, having read only the count. -/
theorem idle_run (c : Dev nD) (i : grid0.Coords) (arg4 : Memref sig .tc .vmem S256x1024 .bf16) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x2816x1024 .bf16) (harg7 : arg7.IsWhole) (arg8 : Memref sig .tc .vmem S256x1024 .bf16) (harg8 : arg8.IsWhole)
    (T2 : S1.Idx → Elt Ideal .i32) (hn : k0_cond1 i (count T2) ≠ 1#1) (K : PUnit → sProp 𝕄) :
    iprop((tbM0_2.view.loc (c : Thread nD τ) ↦{fullShare.right} T2)
        ∗ (iprop(tbM0_2.view.loc (c : Thread nD τ) ↦{fullShare.right} T2) -∗ K ⟨⟩))
      ⊢ wp frame (wpE (defs₀ (F := Ideal)) Variants.none c none) Set.univ (cc0_expert_ffn i tbM0_0 (Memref.isWhole_whole _) tbM0_1 (Memref.isWhole_whole _) tbM0_2 (Memref.isWhole_whole _) arg4 harg4 arg5 harg5 arg6 harg6 arg7 harg7 arg8 harg8) K := by
  rw [cc0_expert_ffn_eq_skeleton]; unfold cc0_expert_ffn_skel
  iintro ⟨HT2, Hk⟩
  have hT2 : tbM0_2.IsWhole := Memref.isWhole_whole _
  sl_exec (disch := first | (guard_target = ¬ (k0_cond1 _ _ = _); exact hn))
  sl_step
  iapply Hk
  iexact HT2

/-- The proof data of the pipeline on core `c`. -/
def rdat (c : Dev nD) : RDat τ (Elt Ideal) Unit ℕ (UR sig nD τ) ℕ (cfg0 a) c where
  A w := m (((cfg0 a).win w).arr.view.loc (c : Thread nD τ))
  after w t Y X := match w with
    | ⟨0, _⟩ => X = Y
    | ⟨1, _⟩ => X = Y
    | ⟨2, _⟩ => X = Y
    | ⟨3, _⟩ => X = Y
    | ⟨4, _⟩ => leaves a m c t Y X
  Φ _ := iprop(Pipeline.ΦA (cfg0 a).spec c ∗ Pipeline.ΦT pre0 a.1 c)
  q _ := fullShare
  owed _ := 0

/-- An input's buffer holds its block, fetched at this step or not. -/
theorem finds0 (c : Dev nD) (t : Fin (cfg0 a).N) (Y) (h : (rdat a m c).Finds (0 : Fin 5) t Y) : Y = iblk a m c (0 : Fin 5) t := by
  obtain ⟨d, hd⟩ := (rdat a m c).finds_in_eq_fetched (0 : Fin 5) rfl (fun _ _ _ => rfl) (fun _ _ _ h => h) t Y h
  exact hd.trans (by unfold RDat.fetched RDat.blockOf iblk; rfl)
theorem finds1 (c : Dev nD) (t : Fin (cfg0 a).N) (Y) (h : (rdat a m c).Finds (1 : Fin 5) t Y) : Y = iblk a m c (1 : Fin 5) t := by
  obtain ⟨d, hd⟩ := (rdat a m c).finds_in_eq_fetched (1 : Fin 5) rfl (fun _ _ _ => rfl) (fun _ _ _ h => h) t Y h
  exact hd.trans (by unfold RDat.fetched RDat.blockOf iblk; rfl)
theorem finds2 (c : Dev nD) (t : Fin (cfg0 a).N) (Y) (h : (rdat a m c).Finds (2 : Fin 5) t Y) : Y = iblk a m c (2 : Fin 5) t := by
  obtain ⟨d, hd⟩ := (rdat a m c).finds_in_eq_fetched (2 : Fin 5) rfl (fun _ _ _ => rfl) (fun _ _ _ h => h) t Y h
  exact hd.trans (by unfold RDat.fetched RDat.blockOf iblk; rfl)
theorem finds3 (c : Dev nD) (t : Fin (cfg0 a).N) (Y) (h : (rdat a m c).Finds (3 : Fin 5) t Y) : Y = iblk a m c (3 : Fin 5) t := by
  obtain ⟨d, hd⟩ := (rdat a m c).finds_in_eq_fetched (3 : Fin 5) rfl (fun _ _ _ => rfl) (fun _ _ _ h => h) t Y h
  exact hd.trans (by unfold RDat.fetched RDat.blockOf iblk; rfl)

/-- The tables as the region hands them to the body, one by one. -/
theorem tables_eq (c : Dev nD) (v : pre0.Contents (Elt Ideal)) :
    (Pipeline.ΦT pre0 v c : sProp 𝕄)
      = iprop((((c : Thread nD τ).loc main_arg4) ↦{fullShare.right} v 0) ∗ (((c : Thread nD τ).loc main_arg5) ↦{fullShare.right} v 1)
        ∗ (((c : Thread nD τ).loc main_arg6) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at a step, as the pipeline calls it. -/
abbrev bodyAt (t : Fin (cfg0 a).N) : Prog (TpuEff nD τ sig (Elt Ideal) Λ₀ .tc) PUnit :=
  cc0_expert_ffn (crd a t) (Memref.whole main_arg4) (Memref.isWhole_whole _) (Memref.whole main_arg5) (Memref.isWhole_whole _) (Memref.whole main_arg6) (Memref.isWhole_whole _) (st0 a t) (hs0 a t) (st1 a t) (hs1 a t) (st2 a t) (hs2 a t) (st3 a t) (hs3 a t) (st4 a t) (hs4 a t)

set_option maxHeartbeats 4000000 in
/-- A storing step. -/
theorem live_body (c : Dev nD) (t : Fin (cfg0 a).N) (h : Live a t) (d : S256x1024.Idx → Elt Ideal .bf16) (K : PUnit → sProp 𝕄) :
    iprop(Pipeline.ΦT pre0 a.1 c
        ∗ owns (c : Thread nD τ) (st0 a t) fullShare (iblk a m c (0 : Fin 5) t)
        ∗ owns (c : Thread nD τ) (st1 a t) fullShare (iblk a m c (1 : Fin 5) t)
        ∗ owns (c : Thread nD τ) (st2 a t) fullShare (iblk a m c (2 : Fin 5) t)
        ∗ owns (c : Thread nD τ) (st3 a t) fullShare (iblk a m c (3 : Fin 5) t)
        ∗ owns (c : Thread nD τ) (st4 a t) fullShare d
        ∗ (iprop(Pipeline.ΦT pre0 a.1 c
            ∗ owns (c : Thread nD τ) (st0 a t) fullShare (iblk a m c (0 : Fin 5) t)
            ∗ owns (c : Thread nD τ) (st1 a t) fullShare (iblk a m c (1 : Fin 5) t)
            ∗ owns (c : Thread nD τ) (st2 a t) fullShare (iblk a m c (2 : Fin 5) t)
            ∗ owns (c : Thread nD τ) (st3 a t) fullShare (iblk a m c (3 : Fin 5) t)
            ∗ owns (c : Thread nD τ) (st4 a t) fullShare (stored a m c t h)) -∗ K ⟨⟩))
      ⊢ wp frame (wpE (defs₀ (F := Ideal)) Variants.none c none) Set.univ (bodyAt a t) K := by
  rw [tables_eq]
  iintro ⟨⟨HT0, HT1, HT2⟩, H0, H1, H2, H3, H4, Hk⟩
  iapply ((kernelRun0_A c (crd a t) (st0 a t) (hs0 a t) (st1 a t) (hs1 a t) (st2 a t) (hs2 a t) (st3 a t) (hs3 a t) (st4 a t) (hs4 a t) (a.1 0) (a.1 1) (a.1 2) (iblk a m c (0 : Fin 5) t) (iblk a m c (1 : Fin 5) t) (iblk a m c (2 : Fin 5) t) (iblk a m c (3 : Fin 5) t) h).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  iintro ⟨H0, H1, H2, H3, HT0, HT1, HT2, ⟨%e4, H4⟩⟩
  iapply Hk
  isplitl [HT0 HT1 HT2]
  · isplitl [HT0]
    · iexact HT0
    isplitl [HT1]
    · iexact HT1
    iexact HT2
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; unfold stored out0_A_4; exact View.read_writes_of_cover _ _ _ _ _ (cover0_A_4 c _ _ _ _ _ _ _ _ _ _ _ _ _ _ _ _ _ _ _)

set_option maxHeartbeats 4000000 in
/-- The body at a step, both cases. -/
theorem sound_body (c : Dev nD) (t : Fin (cfg0 a).N) (Y : (w : Fin (cfg0 a).W) → ((cfg0 a).win w).block.Idx → Elt Ideal ((cfg0 a).win w).elt)
    (hY : ∀ w, (rdat a m c).Finds w t (Y w)) :
    iprop((rdat a m c).Φ t.castSucc ∗ (rdat a m c).owesAt () t.castSucc
        ∗ owns (c : Thread nD τ) (st0 a t) fullShare (Y (0 : Fin 5))
        ∗ owns (c : Thread nD τ) (st1 a t) fullShare (Y (1 : Fin 5))
        ∗ owns (c : Thread nD τ) (st2 a t) fullShare (Y (2 : Fin 5))
        ∗ owns (c : Thread nD τ) (st3 a t) fullShare (Y (3 : Fin 5))
        ∗ owns (c : Thread nD τ) (st4 a t) fullShare (Y (4 : Fin 5)))
      ⊢ wp frame (wpE (defs₀ (F := Ideal)) Variants.none c none) Set.univ (bodyAt a t) fun _ =>
          iprop((rdat a m c).Φ t.succ ∗ (rdat a m c).owesAt () t.succ
            ∗ (∃ X, ⌜X = Y (0 : Fin 5)⌝ ∗ owns (c : Thread nD τ) (st0 a t) fullShare X)
            ∗ (∃ X, ⌜X = Y (1 : Fin 5)⌝ ∗ owns (c : Thread nD τ) (st1 a t) fullShare X)
            ∗ (∃ X, ⌜X = Y (2 : Fin 5)⌝ ∗ owns (c : Thread nD τ) (st2 a t) fullShare X)
            ∗ (∃ X, ⌜X = Y (3 : Fin 5)⌝ ∗ owns (c : Thread nD τ) (st3 a t) fullShare X)
            ∗ (∃ X, ⌜leaves a m c t (Y (4 : Fin 5)) X⌝ ∗ owns (c : Thread nD τ) (st4 a t) fullShare X)) := by
  rewrite [show (rdat a m c).Φ t.succ = iprop(Pipeline.ΦA (cfg0 a).spec c ∗ Pipeline.ΦT pre0 a.1 c) from rfl,
    show (rdat a m c).Φ t.castSucc = iprop(Pipeline.ΦA (cfg0 a).spec c ∗ Pipeline.ΦT pre0 a.1 c) from rfl,
    show (rdat a m c).owesAt () t.succ = (rdat a m c).owesAt () t.castSucc from rfl]
  by_cases h : Live a t
  · rw [finds0 a m c t _ (hY (0 : Fin 5)), finds1 a m c t _ (hY (1 : Fin 5)), finds2 a m c t _ (hY (2 : Fin 5)),
      finds3 a m c t _ (hY (3 : Fin 5))]
    iintro ⟨⟨HA, HT⟩, Ho, H0, H1, H2, H3, H4⟩
    iapply live_body a m c t h (Y (4 : Fin 5)) _
    isplitl [HT]; · iexact HT
    isplitl [H0]; · iexact H0
    isplitl [H1]; · iexact H1
    isplitl [H2]; · iexact H2
    isplitl [H3]; · iexact H3
    isplitl [H4]; · iexact H4
    iintro ⟨HT, H0, H1, H2, H3, H4⟩
    isplitl [HA HT]
    · isplitl [HA]; · iexact HA
      iexact HT
    isplitl [Ho]; · iexact Ho
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists _; isplitr; swap
    · iexact H4
    · ipureintro; exact ⟨fun _ => rfl, fun hn => absurd h hn⟩
  · rw [tables_eq]
    iintro ⟨⟨HA, ⟨HT0, HT1, HT2⟩⟩, Ho, H0, H1, H2, H3, H4⟩
    iapply idle_run c (crd a t) _ _ _ _ _ _ _ _ _ _ (a.1 2) h _
    isplitl [HT2]; · iexact HT2
    iintro HT2
    isplitl [HA HT0 HT1 HT2]
    · isplitl [HA]; · iexact HA
      isplitl [HT0]; · iexact HT0
      isplitl [HT1]; · iexact HT1
      iexact HT2
    isplitl [Ho]; · iexact Ho
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists _; isplitr; swap
    · iexact H4
    · ipureintro; exact ⟨fun h' => absurd h' h, fun _ => rfl⟩

/-- The body satisfies the pipeline's obligation at every step. -/
theorem body_obligation (c : Dev nD) : (rdat a m c).BodyObligation (defs₀ (F := Ideal)) Variants.none () Set.univ := fun t Y hY => by
  rw [bigSep_W0, bigSep_W0]
  exact sound_body a m c t Y hY

theorem share_eq (c : Dev nD) (w : Fin (cfg0 a).W) : (rdat a m c).share w = fullShare := by unfold RDat.share; split <;> rfl

set_option backward.isDefEq.respectTransparency.types false in
set_option maxHeartbeats 4000000 in
/-- From a memory whose tables are `a`: every execution ends, every counter at zero, every array as the write-backs of
    the steps leave it, every table as before. -/
theorem run (g : Dev nD → PrngReg) (hp : ∀ (c : Dev nD) (k : Fin 3), m ((c.tc : Thread nD τ).loc (pre0.ref k)) = a.1 k) :
    θ_run (defs (F := Ideal)) (onTc (τ := τ) (main (F := Ideal))) ⟨m, fun _ => 0, g⟩
      (fun r => RDat.FramePost (cfg0 a) (rdat a m) (fun c b => m ((c.tc : Thread nD τ).loc b)) r ∧ r.2.sem = fun _ => 0) :=
  RDat.θ_run_frameP pcfgs (fun _ => a) (0 : Fin 1) launch0 defs₀ Variants.none (rdat a m) m g main
    (body_obligation a m) (share_eq a m) (fun _ _ => rfl) (fun c b => m ((c.tc : Thread nD τ).loc b))
    (Pipeline.hmainP_region _ _ _ _ m main fun c => by delta main; simp only [Prog.bind_lift, Prog.pure_eq_ret])
    (fun _ _ => rfl) hp (fun _ _ => rfl) _ (fun _ h => h)

/-- No window's array is a table. -/
theorem no_arr4 (w : Fin (cfg0 a).W) : ((cfg0 a).spec w).arr.view.ref ≠ main_arg4 :=
  (show ∀ w : Fin 5, (spec0 w).arr.view.ref ≠ main_arg4 by decide) w
theorem no_arr5 (w : Fin (cfg0 a).W) : ((cfg0 a).spec w).arr.view.ref ≠ main_arg5 :=
  (show ∀ w : Fin 5, (spec0 w).arr.view.ref ≠ main_arg5 by decide) w
theorem no_arr6 (w : Fin (cfg0 a).W) : ((cfg0 a).spec w).arr.view.ref ≠ main_arg6 :=
  (show ∀ w : Fin 5, (spec0 w).arr.view.ref ≠ main_arg6 by decide) w

set_option backward.isDefEq.respectTransparency.types false in
/-- The argument arrays end unchanged, every counter at zero. -/
theorem frame (g : Dev nD → PrngReg) (hp : ∀ (c : Dev nD) (k : Fin 3), m ((c.tc : Thread nD τ).loc (pre0.ref k)) = a.1 k) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨h.1.arr_in c (0 : Fin 5) rfl, h.1.arr_in c (1 : Fin 5) rfl, h.1.arr_in c (2 : Fin 5) rfl,
    h.1.arr_in c (3 : Fin 5) rfl,
    (h.1 c).2 main_arg4 (Pipeline.mem_restRefs_of main_arg4 (by decide) (no_arr4 a)),
    (h.1 c).2 main_arg5 (Pipeline.mem_restRefs_of main_arg5 (by decide) (no_arr5 a)),
    (h.1 c).2 main_arg6 (Pipeline.mem_restRefs_of main_arg6 (by decide) (no_arr6 a))⟩, h.2⟩) (run a m g hp)

end Cert.ExpertIdeal.Steps

end
-- ==== Proof.ExpertTables.lean ====
/-
  What the tables of the expert call say.  A routing table names, for every step, the block of 256 rows it works on; a
  second one names the expert whose rows they are; a count says how many of the 168 steps do work.

  * `InRange`: the blocks and the experts named lie inside the arrays.
  * `Routed`: moreover every counted step's block belongs to the expert named with it (each expert owns 69 blocks), and
    past the count the block stays what it was.
  * `Visited`: some counted step names the block.

  The printed predicates `in_range` and `routed` and the mask `rows_visited` say exactly these.
-/
module

public import proofs.«01_k».proof.Proof.Gen.Pre_in_range
public import proofs.«01_k».proof.Proof.Gen.Pre_routed
public import proofs.«01_k».proof.Proof.Gen.On_rows_visited
public import Idealize.ShloMosaic.Lib.ReduceAll
public import Idealize.ShloMosaic.Lib.Pointwise

@[expose] public section

set_option maxRecDepth 16384

namespace Cert.Tables

open Idealize.ShloMosaic

/-- The shape of a table: one word per step and one more, which nothing reads. -/
abbrev Words : Type := (⟨1, ![169]⟩ : Shape).Idx → BitVec 32
/-- The shape of the count. -/
abbrev Count : Type := (⟨1, ![1]⟩ : Shape).Idx → BitVec 32

/-- A table's word at a step. -/
def word (T : Words) (k : Fin 168) : BitVec 32 := T (ix1 ⟨k.val, by omega⟩)
/-- The count, read signed. -/
def steps (N : Count) : ℤ := (N (ix1 0)).toInt

/-- The blocks and the experts named lie inside the arrays. -/
def InRange (T0 T1 : Words) : Prop := ∀ k : Fin 168, (word T0 k).toNat < 552 ∧ (word T1 k).toNat < 8

/-- In range, and a counted step's block is its expert's, and past the count the block stays. -/
structure Routed (T0 T1 : Words) (N : Count) : Prop where
  inRange : InRange T0 T1
  owned : ∀ k : Fin 168, (k.val : ℤ) < steps N → (word T0 k).toNat / 69 = (word T1 k).toNat
  stays : ∀ (k : ℕ) (h : k + 1 < 168), steps N ≤ (k : ℤ) + 1 → word T0 ⟨k + 1, h⟩ = word T0 ⟨k, by omega⟩

/-- Some counted step names block `b`. -/
def Visited (T0 : Words) (N : Count) (b : ℕ) : Prop := ∃ k : Fin 168, (k.val : ℤ) < steps N ∧ (word T0 k).toNat = b

/-- Two signed comparisons give the unsigned bound. -/
theorem bound {x : BitVec 32} {n : ℕ} (hn : n < 1000) (h0 : (0#32).toInt ≤ x.toInt) (h1 : x.toInt < (BitVec.ofNat 32 n).toInt) :
    x.toNat < n := by
  rw [BitVec.toInt_eq_toNat_of_lt (x := BitVec.ofNat 32 n) (by rw [BitVec.toNat_ofNat]; omega), BitVec.toNat_ofNat] at h1
  rw [show (0#32).toInt = 0 from by decide] at h0
  have := BitVec.toInt_eq_toNat_cond x
  split at this <;> omega

/-- The word of a small number reads as it, signed. -/
theorem toInt_small {n : ℕ} (hn : n < 1000) : (BitVec.ofNat 32 n).toInt = n := by
  rw [BitVec.toInt_eq_toNat_of_lt (by rw [BitVec.toNat_ofNat]; omega), BitVec.toNat_ofNat]; omega

/-- A word below a small number reads the same signed. -/
theorem toInt_of_lt {x : BitVec 32} (h : x.toNat < 1000) : x.toInt = x.toNat := BitVec.toInt_eq_toNat_of_lt (by omega)

/-- A stretch of a table read at an index. -/
theorem slice_at {n off : ℕ} (T : Words) (h : (⟨1, ![169]⟩ : Shape).Slices ![off] ⟨1, ![n]⟩) (k : Fin n) (hk : off + k.val < 169) :
    extractStridedSlice ⟨1, ![n]⟩ ![off] T h (ix1 k) = T (ix1 ⟨off + k.val, hk⟩) := by
  unfold extractStridedSlice
  congr 1
  funext a
  match a with | ⟨0, _⟩ => rfl

/-- A stretch from the first word on. -/
theorem slice_word {n : ℕ} (T : Words) (h : (⟨1, ![169]⟩ : Shape).Slices ![0] ⟨1, ![n]⟩) (k : Fin n) (hk : k.val < 168) :
    extractStridedSlice ⟨1, ![n]⟩ ![0] T h (ix1 k) = word T ⟨k.val, hk⟩ := by
  rw [slice_at T h k (by omega)]
  unfold word
  simp only [Nat.zero_add]

/-- A stretch from the second word on. -/
theorem slice_next {n : ℕ} (T : Words) (h : (⟨1, ![169]⟩ : Shape).Slices ![1] ⟨1, ![n]⟩) (k : Fin n) (hk : k.val + 1 < 168) :
    extractStridedSlice ⟨1, ![n]⟩ ![1] T h (ix1 k) = word T ⟨k.val + 1, hk⟩ := by
  rw [slice_at T h k (by omega)]
  unfold word
  simp only [Nat.add_comm]

/-- The count's array has one index. -/
theorem one_index (y : (⟨1, ![1]⟩ : Shape).Idx) : y = ix1 0 := by
  rw [eq_ix1 y]
  exact congrArg ix1 (Subsingleton.elim (α := Fin 1) _ _)

/-- The reading of `in_range`. -/
theorem inRange_of {F : FTy → Type} [FloatOps F] (x w1 w3 w2) (T0 T1 : Words) (N : Count)
    (h : Cert.Pre_in_range.fn (F := F) x w1 w3 w2 T0 T1 N = fun _ => 1#1) : InRange T0 T1 := fun k => by
  have e := congrFun h (ix1 k)
  simp only [Pre_in_range.fn, andi, cmpi, broadcastInDim, constantI, slice_word _ _ k k.isLt, Fin.eta, IntOp.andi_eq_one,
    IntOp.cmpi_sge, IntOp.cmpi_slt] at e
  obtain ⟨⟨⟨a0, a1⟩, b0⟩, b1⟩ := e
  exact ⟨bound (by decide) a0 a1, bound (by decide) b0 b1⟩

/-- The reading of `routed`. -/
theorem routed_of {F : FTy → Type} [FloatOps F] (x w1 w3 w2) (T0 T1 : Words) (N : Count)
    (h : Cert.Pre_routed.fn (F := F) x w1 w3 w2 T0 T1 N = fun _ => 1#1) : Routed T0 T1 N := by
  have u0 : Subsingleton Cert.Pre_routed.S_.Idx := ⟨fun y z => funext fun a => a.elim0⟩
  have e := congrFun h ix0
  simp only [Pre_routed.fn, Pre_routed.fn_part1, Pre_routed.fn_part2] at e
  rw [show ∀ a b : IVec Cert.Pre_routed.S_ 1, andi a b ix0 = IntOp.andi (a ix0) (b ix0) from fun _ _ => rfl, IntOp.andi_eq_one] at e
  obtain ⟨e1, e2⟩ := e
  have f1 : ∀ k : Fin 168, _ := fun k => Host.reduce_andi_all _ _ _ _ _ e1 (ix1 k)
  have f2 : ∀ k : Fin 167, _ := fun k => Host.reduce_andi_all _ _ _ _ _ e2 (ix1 k)
  clear e1 e2 h
  have hr : InRange T0 T1 := fun k => by
    have e := f1 k
    simp only [andi, ori, cmpi, broadcastInDim, constantI, slice_word _ _ k k.isLt, Fin.eta, IntOp.andi_eq_one,
      IntOp.cmpi_sge, IntOp.cmpi_slt] at e
    obtain ⟨⟨⟨⟨a0, a1⟩, b0⟩, b1⟩, -⟩ := e
    exact ⟨bound (by decide) a0 a1, bound (by decide) b0 b1⟩
  refine ⟨hr, fun k hk => ?_, fun k hk hn => ?_⟩
  · have e := f1 k
    have h0 := (hr k).1
    have h1 := (hr k).2
    simp only [andi, ori, cmpi, addi, muli, broadcastInDim, constantI, iotaInDim, shapeCast, slice_word _ _ k k.isLt, Fin.eta,
      IntOp.andi_eq_one, IntOp.ori_eq_one, IntOp.cmpi_sge, IntOp.cmpi_slt, IntOp.cmpi_sle, one_index, IntOp.addi, IntOp.muli, ix1_0] at e
    rcases e.2 with e | ⟨e, e'⟩
    · rw [toInt_small (by omega)] at e
      exact absurd hk (not_lt.2 e)
    · have m0 : (word T1 k * 69#32).toNat = (word T1 k).toNat * 69 := by
        rw [BitVec.toNat_mul, BitVec.toNat_ofNat]; omega
      have m1 : (word T1 k * 69#32 + 69#32).toNat = (word T1 k).toNat * 69 + 69 := by
        rw [BitVec.toNat_add, m0, BitVec.toNat_ofNat]; omega
      rw [toInt_of_lt (by omega), toInt_of_lt (by omega), m0] at e
      rw [toInt_of_lt (by omega), toInt_of_lt (by omega), m1] at e'
      omega
  · have e := f2 ⟨k, by omega⟩
    simp only [ori, cmpi, addi, broadcastInDim, constantI, iotaInDim, shapeCast, slice_word T0 _ (⟨k, by omega⟩ : Fin 167) (by omega),
      slice_next T0 _ (⟨k, by omega⟩ : Fin 167) hk,
      IntOp.ori_eq_one, IntOp.cmpi_eq, IntOp.cmpi_slt, one_index, IntOp.addi, ix1_0] at e
    rcases e with e | e
    · have m1 : (BitVec.ofNat 32 k + 1#32).toNat = k + 1 := by
        rw [BitVec.toNat_add, BitVec.toNat_ofNat, BitVec.toNat_ofNat]; omega
      rw [toInt_of_lt (by omega), m1] at e
      unfold steps at hn
      omega
    · exact e

/-- A fold by `or` over one-bit words that came out 1 started at 1 or met a 1. -/
theorem or_of_fold {ι : Type} (f : ι → BitVec 1) (b : BitVec 1) (s : Finset ι) (h : s.fold IntOp.ori b f = 1#1) :
    b = 1#1 ∨ ∃ n ∈ s, f n = 1#1 := by
  classical
  induction s using Finset.induction_on with
  | empty => exact .inl h
  | insert a s ha ih =>
    rw [Finset.fold_insert ha] at h
    rcases IntOp.ori_eq_one.1 h with h | h
    · exact .inr ⟨a, Finset.mem_insert_self .., h⟩
    · rcases ih h with h | ⟨n, hn, e⟩
      · exact .inl h
      · exact .inr ⟨n, Finset.mem_insert_of_mem hn, e⟩

/-- The reading of `rows_visited`: where the mask is 1, the row's block is one that a counted step names. -/
theorem visited_of {F : FTy → Type} [FloatOps F] (x w1 w3 w2) (T0 T1 : Words) (N : Count) (i : (⟨2, ![141312, 1024]⟩ : Shape).Idx)
    (h : Cert.On_rows_visited.fn (F := F) x w1 w3 w2 T0 T1 N i = 1#1) : Visited T0 N ((i 0).val / 256) := by
  simp only [On_rows_visited.fn] at h
  pointwise at h
  rcases or_of_fold _ _ _ h with h | ⟨k, -, h⟩
  · exact absurd h (by decide)
  rw [IntOp.andi_eq_one, IntOp.cmpi_eq, IntOp.cmpi_slt, toInt_small (by omega)] at h
  have hi : (i 0).val < 141312 := (i 0).isLt
  refine ⟨k, h.2, ?_⟩
  rw [show word T0 k = BitVec.ofNat 32 ((i 0).val / 256) from h.1.symm, BitVec.toNat_ofNat]
  omega

end Cert.Tables
-- ==== Proof.ExpertIdealTables.lean ====
/-
  The expert kernel's index maps, read in the words of `Tables`: which block of rows and which expert's weights a step
  takes.  When both tables name blocks inside the arrays (`Tables.InRange`) the pipeline may run at them, so the kernel's
  frame holds from any memory whose tables do.
-/
module

public import proofs.«01_k».proof.Proof.ExpertIdealFrame
public import proofs.«01_k».proof.Proof.ExpertTables

@[expose] public section

set_option maxRecDepth 16384

noncomputable section

namespace Cert.ExpertIdeal.Steps

open Cert.ExpertIdeal Cert.ExpertIdeal.Gen Cert.Tables
open Idealize.ShloMosaic
open Idealize.ShloMosaic.TcCoe
open Idealize.SL.Sem

/-- A step's number among the 168. -/
abbrev num (i : grid0.Coords) : Fin 168 := i 0

/-- The word an index map loads from a table is the table's word at the step. -/
theorem load_word (T : Words) (i : grid0.Coords) (h) (e : (Rect.unit (s := S169) ![(Scalar.indexCast (BitVec.ofNat 32 (i 0).val)).toNat] S1.size h).shape.Idx) :
    T ((Rect.unit (s := S169) ![(Scalar.indexCast (BitVec.ofNat 32 (i 0).val)).toNat] S1.size h).emb e) = word T (num i) := by
  have hi : (i 0).val < 168 := (i 0).isLt
  have he : (e 0).val < 1 := (e 0).isLt
  unfold word
  congr 1
  funext a
  match a with
  | ⟨0, _⟩ =>
    apply Fin.ext
    show (BitVec.ofNat 32 (i 0).val).toNat + 1 * (e 0).val = (i 0).val
    rw [BitVec.toNat_ofNat]
    omega

variable (pf : pre0.Contents (Elt Ideal)) (i : grid0.Coords)

/-- The blocks the windows take at a step: the rows the routing table names, and the named expert's weights. -/
theorem map0 : cc0_transform_0 k0_off1_inb numel1_S1 pf i = ![(word (pf 0) (num i)).toNat, 0] :=
  congrArg (fun x : BitVec 32 => (![x.toNat, 0] : Fin 2 → ℕ)) (load_word (pf 0) i _ _)
theorem map1 : cc0_transform_1 k0_off1_inb numel1_S1 pf i = ![(word (pf 1) (num i)).toNat, 0, 0] :=
  congrArg (fun x : BitVec 32 => (![x.toNat, 0, 0] : Fin 3 → ℕ)) (load_word (pf 1) i _ _)
theorem map2 : cc0_transform_2 k0_off1_inb numel1_S1 pf i = ![(word (pf 1) (num i)).toNat, 0, 0] :=
  congrArg (fun x : BitVec 32 => (![x.toNat, 0, 0] : Fin 3 → ℕ)) (load_word (pf 1) i _ _)
theorem map3 : cc0_transform_3 k0_off1_inb numel1_S1 pf i = ![(word (pf 1) (num i)).toNat, 0, 0] :=
  congrArg (fun x : BitVec 32 => (![x.toNat, 0, 0] : Fin 3 → ℕ)) (load_word (pf 1) i _ _)
theorem map4 : cc0_transform_4 k0_off1_inb numel1_S1 pf i = ![(word (pf 0) (num i)).toNat, 0] :=
  congrArg (fun x : BitVec 32 => (![x.toNat, 0] : Fin 2 → ℕ)) (load_word (pf 0) i _ _)

/-- The body stores at the counted steps. -/
theorem live_iff (N : Count) : k0_cond1 i (count N) = 1#1 ↔ ((num i).val : ℤ) < steps N := by
  have hi : (i 0).val < 168 := (i 0).isLt
  unfold k0_cond1
  rw [Scalar.guard_iff]
  unfold Scalar.cmpi
  rw [IntOp.cmpi_slt, toInt_small (by omega)]
  unfold steps
  rw [show count N = N (ix1 0) from congrArg N (one_index _)]

/-- Tables in range are tables the pipeline may run at. -/
theorem ok_of (h : InRange (pf 0) (pf 1)) : ok0 pf := by
  have r : ∀ i : grid0.Coords, ∀ a, (![(word (pf 0) (num i)).toNat, 0] a + 1) * S256x1024.size a ≤ S141312x1024.size a := fun i a => by
    have := (h (num i)).1
    match a with
    | ⟨0, _⟩ => show ((word (pf 0) (num i)).toNat + 1) * 256 ≤ 141312; omega
    | ⟨1, _⟩ => show (0 + 1) * 1024 ≤ 1024; omega
  have u : ∀ i : grid0.Coords, ∀ a, (![(word (pf 1) (num i)).toNat, 0, 0] a + 1) * S1x1024x2816.size a ≤ S8x1024x2816.size a := fun i a => by
    have := (h (num i)).2
    match a with
    | ⟨0, _⟩ => show ((word (pf 1) (num i)).toNat + 1) * 1 ≤ 8; omega
    | ⟨1, _⟩ => show (0 + 1) * 1024 ≤ 1024; omega
    | ⟨2, _⟩ => show (0 + 1) * 2816 ≤ 2816; omega
  have d : ∀ i : grid0.Coords, ∀ a, (![(word (pf 1) (num i)).toNat, 0, 0] a + 1) * S1x2816x1024.size a ≤ S8x2816x1024.size a := fun i a => by
    have := (h (num i)).2
    match a with
    | ⟨0, _⟩ => show ((word (pf 1) (num i)).toNat + 1) * 1 ≤ 8; omega
    | ⟨1, _⟩ => show (0 + 1) * 2816 ≤ 2816; omega
    | ⟨2, _⟩ => show (0 + 1) * 1024 ≤ 1024; omega
  exact ⟨fun i => ⟨by rw [map0]; exact r i, .inr (Affine.block_words_dvd (s := S141312x1024) (p := EltTy.packing .bf16) (by decide) (by decide))⟩,
    fun i => ⟨by rw [map1]; exact u i, .inr (Affine.block_words_dvd (s := S8x1024x2816) (p := EltTy.packing .bf16) (by decide) (by decide))⟩,
    fun i => ⟨by rw [map2]; exact u i, .inr (Affine.block_words_dvd (s := S8x1024x2816) (p := EltTy.packing .bf16) (by decide) (by decide))⟩,
    fun i => ⟨by rw [map3]; exact d i, .inr (Affine.block_words_dvd (s := S8x2816x1024) (p := EltTy.packing .bf16) (by decide) (by decide))⟩,
    fun i => ⟨by rw [map4]; exact r i, .inr (Affine.block_words_dvd (s := S141312x1024) (p := EltTy.packing .bf16) (by decide) (by decide))⟩⟩

variable (m : (ℓ : Loc nD τ sig) → Buf (Elt Ideal) ℓ)

/-- The tables a memory holds (there is one device). -/
abbrev held : pre0.Contents (Elt Ideal) := fun k => m (((0 : Dev nD).tc : Thread nD τ).loc (pre0.ref k))

theorem held_eq (c : Dev nD) (k : Fin 3) : m ((c.tc : Thread nD τ).loc (pre0.ref k)) = held m k := by
  rw [Subsingleton.elim c 0]

/-- The tables a memory holds, when in range. -/
abbrev tab (h : InRange (held m 0) (held m 1)) : Tab := ⟨held m, ok_of (held m) h⟩

end Cert.ExpertIdeal.Steps

end
-- ==== Proof.ExpertFrame.lean ====
/-
  The expert kernel runs to its end for ANY tables that name blocks inside the arrays.

  The kernel visits its blocks in the order that three prefetched tables give: which block of rows a step reads and
  writes, whose expert's weights it uses, and how many steps there are.  A step past the last one stores nothing, so
  what the output's staging buffer holds afterwards is what it held before.  That is stated as a RELATION between the
  buffer before a step and after it (`leaves`), because before the first store nothing is known of the buffer.

  * `idle_run`: a step past the last one returns at once.
  * `rdat`: each input's buffer is left as found, the output's by `leaves`.
  * `body_obligation`: the body satisfies it at every step, by the run of the storing path or by `idle_run`.
  * `run`: the whole program.
-/
module

public import proofs.«01_k».proof.Proof.Gen.Expert.Launch
public import proofs.«01_k».proof.Proof.Gen.Expert.Flash.Runs
public import Idealize.ShloMosaic.Lib.Pipeline.ArrRel
public import Idealize.ShloMosaic.Lib.Pipeline.TableIdle
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Expert.Steps

open Cert.Expert Cert.Expert.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Bits) ℕ (UR sig nD τ) ℕ

/-- The tables' contents the pipeline may run at. -/
abbrev Tab : Type := (pcfg0 (F := Bits)).Adm

variable (a : Tab) (m : (ℓ : Loc nD τ sig) → Buf (Elt Bits) ℓ)

/-- The grid coordinate of a step. -/
abbrev crd (t : Fin (cfg0 a).N) : (cfg0 a).grid.Coords := (cfg0 a).grid.coords t

/-- Each window's current staging buffer at a step. -/
abbrev st0 (t : Fin (cfg0 a).N) : Memref sig .tc .vmem S256x1024 .bf16 := spec0_0.stage ((cfg0 a).slots t (0 : Fin 5))
abbrev hs0 (t : Fin (cfg0 a).N) : (st0 a t).IsWhole := hstage0_0 (((cfg0 a).slots t (0 : Fin 5)).cast nbuf0_0)
abbrev st1 (t : Fin (cfg0 a).N) : Memref sig .tc .vmem S1x1024x2816 .bf16 := spec0_1.stage ((cfg0 a).slots t (1 : Fin 5))
abbrev hs1 (t : Fin (cfg0 a).N) : (st1 a t).IsWhole := hstage0_1 (((cfg0 a).slots t (1 : Fin 5)).cast nbuf0_1)
abbrev st2 (t : Fin (cfg0 a).N) : Memref sig .tc .vmem S1x1024x2816 .bf16 := spec0_2.stage ((cfg0 a).slots t (2 : Fin 5))
abbrev hs2 (t : Fin (cfg0 a).N) : (st2 a t).IsWhole := hstage0_2 (((cfg0 a).slots t (2 : Fin 5)).cast nbuf0_2)
abbrev st3 (t : Fin (cfg0 a).N) : Memref sig .tc .vmem S1x2816x1024 .bf16 := spec0_3.stage ((cfg0 a).slots t (3 : Fin 5))
abbrev hs3 (t : Fin (cfg0 a).N) : (st3 a t).IsWhole := hstage0_3 (((cfg0 a).slots t (3 : Fin 5)).cast nbuf0_3)
abbrev st4 (t : Fin (cfg0 a).N) : Memref sig .tc .vmem S256x1024 .bf16 := spec0_4.stage ((cfg0 a).slots t (4 : Fin 5))
abbrev hs4 (t : Fin (cfg0 a).N) : (st4 a t).IsWhole := hstage0_4 (((cfg0 a).slots t (4 : Fin 5)).cast nbuf0_4)

/-- A window's block at a step, read off its array at launch. -/
def iblk (c : Dev nD) (w : Fin (cfg0 a).W) (t : Fin (cfg0 a).N) :
    (((cfg0 a).win w).xblock (crd a t)).Idx → Elt Bits ((cfg0 a).win w).elt :=
  (((cfg0 a).win w).blk t).view.read (Elt Bits) (m (((cfg0 a).win w).arr.view.loc (c : Thread nD τ)))

/-- The number of steps the body reads. -/
abbrev count (T2 : S1.Idx → Elt Bits .i32) : BitVec 32 :=
  View.readAt (Elt Bits) (tbM0_2).view (Rect.unit (s := S1) ![0] S1.size inb_S1_S1_0).toLoadRect T2
    (Shape.Idx.first (numel1_S1.symm ▸ Nat.one_pos))

/-- Step `t` is one of the counted ones: the body stores. -/
abbrev Live (t : Fin (cfg0 a).N) : Prop := k0_cond1 (crd a t) (count (a.1 2)) = 1#1

/-- What a storing step leaves in the output's buffer. -/
def stored (c : Dev nD) (t : Fin (cfg0 a).N) (h : Live a t) : S256x1024.Idx → Elt Bits .bf16 :=
  out0_A_4 c (crd a t) (st0 a t) (hs0 a t) (st1 a t) (hs1 a t) (st2 a t) (hs2 a t) (st3 a t) (hs3 a t) (st4 a t) (hs4 a t)
    (a.1 0) (a.1 1) (a.1 2) (iblk a m c (0 : Fin 5) t) (iblk a m c (1 : Fin 5) t) (iblk a m c (2 : Fin 5) t)
    (iblk a m c (3 : Fin 5) t) h

/-- The output's buffer before and after step `t`: a storing step leaves its block, another leaves what it found. -/
def leaves (c : Dev nD) (t : Fin (cfg0 a).N) (Y X : S256x1024.Idx → Elt Bits .bf16) : Prop :=
  (∀ h : Live a t, X = stored a m c t h) ∧ (¬ Live a t → X = Y)

set_option maxHeartbeats 4000000 in
/-- A step that is not counted returns at once, having read only the count. -/
theorem idle_run (c : Dev nD) (i : grid0.Coords) (arg4 : Memref sig .tc .vmem S256x1024 .bf16) (harg4 : arg4.IsWhole) (arg5 : Memref sig .tc .vmem S1x1024x2816 .bf16) (harg5 : arg5.IsWhole) (arg6 : Memref sig .tc .vmem S1x1024x2816 .bf16) (harg6 : arg6.IsWhole) (arg7 : Memref sig .tc .vmem S1x2816x1024 .bf16) (harg7 : arg7.IsWhole) (arg8 : Memref sig .tc .vmem S256x1024 .bf16) (harg8 : arg8.IsWhole)
    (T2 : S1.Idx → Elt Bits .i32) (hn : k0_cond1 i (count T2) ≠ 1#1) (K : PUnit → sProp 𝕄) :
    iprop((tbM0_2.view.loc (c : Thread nD τ) ↦{fullShare.right} T2)
        ∗ (iprop(tbM0_2.view.loc (c : Thread nD τ) ↦{fullShare.right} T2) -∗ K ⟨⟩))
      ⊢ wp frame (wpE (defs₀ (F := Bits)) Variants.none c none) Set.univ (cc0_expert_ffn i tbM0_0 (Memref.isWhole_whole _) tbM0_1 (Memref.isWhole_whole _) tbM0_2 (Memref.isWhole_whole _) arg4 harg4 arg5 harg5 arg6 harg6 arg7 harg7 arg8 harg8) K := by
  rw [cc0_expert_ffn_eq_skeleton]; unfold cc0_expert_ffn_skel
  iintro ⟨HT2, Hk⟩
  have hT2 : tbM0_2.IsWhole := Memref.isWhole_whole _
  sl_exec (disch := first | (guard_target = ¬ (k0_cond1 _ _ = _); exact hn))
  sl_step
  iapply Hk
  iexact HT2

/-- The proof data of the pipeline on core `c`. -/
def rdat (c : Dev nD) : RDat τ (Elt Bits) Unit ℕ (UR sig nD τ) ℕ (cfg0 a) c where
  A w := m (((cfg0 a).win w).arr.view.loc (c : Thread nD τ))
  after w t Y X := match w with
    | ⟨0, _⟩ => X = Y
    | ⟨1, _⟩ => X = Y
    | ⟨2, _⟩ => X = Y
    | ⟨3, _⟩ => X = Y
    | ⟨4, _⟩ => leaves a m c t Y X
  Φ _ := iprop(Pipeline.ΦA (cfg0 a).spec c ∗ Pipeline.ΦT pre0 a.1 c)
  q _ := fullShare
  owed _ := 0

/-- An input's buffer holds its block, fetched at this step or not. -/
theorem finds0 (c : Dev nD) (t : Fin (cfg0 a).N) (Y) (h : (rdat a m c).Finds (0 : Fin 5) t Y) : Y = iblk a m c (0 : Fin 5) t := by
  obtain ⟨d, hd⟩ := (rdat a m c).finds_in_eq_fetched (0 : Fin 5) rfl (fun _ _ _ => rfl) (fun _ _ _ h => h) t Y h
  exact hd.trans (by unfold RDat.fetched RDat.blockOf iblk; rfl)
theorem finds1 (c : Dev nD) (t : Fin (cfg0 a).N) (Y) (h : (rdat a m c).Finds (1 : Fin 5) t Y) : Y = iblk a m c (1 : Fin 5) t := by
  obtain ⟨d, hd⟩ := (rdat a m c).finds_in_eq_fetched (1 : Fin 5) rfl (fun _ _ _ => rfl) (fun _ _ _ h => h) t Y h
  exact hd.trans (by unfold RDat.fetched RDat.blockOf iblk; rfl)
theorem finds2 (c : Dev nD) (t : Fin (cfg0 a).N) (Y) (h : (rdat a m c).Finds (2 : Fin 5) t Y) : Y = iblk a m c (2 : Fin 5) t := by
  obtain ⟨d, hd⟩ := (rdat a m c).finds_in_eq_fetched (2 : Fin 5) rfl (fun _ _ _ => rfl) (fun _ _ _ h => h) t Y h
  exact hd.trans (by unfold RDat.fetched RDat.blockOf iblk; rfl)
theorem finds3 (c : Dev nD) (t : Fin (cfg0 a).N) (Y) (h : (rdat a m c).Finds (3 : Fin 5) t Y) : Y = iblk a m c (3 : Fin 5) t := by
  obtain ⟨d, hd⟩ := (rdat a m c).finds_in_eq_fetched (3 : Fin 5) rfl (fun _ _ _ => rfl) (fun _ _ _ h => h) t Y h
  exact hd.trans (by unfold RDat.fetched RDat.blockOf iblk; rfl)

/-- The tables as the region hands them to the body, one by one. -/
theorem tables_eq (c : Dev nD) (v : pre0.Contents (Elt Bits)) :
    (Pipeline.ΦT pre0 v c : sProp 𝕄)
      = iprop((((c : Thread nD τ).loc main_arg4) ↦{fullShare.right} v 0) ∗ (((c : Thread nD τ).loc main_arg5) ↦{fullShare.right} v 1)
        ∗ (((c : Thread nD τ).loc main_arg6) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at a step, as the pipeline calls it. -/
abbrev bodyAt (t : Fin (cfg0 a).N) : Prog (TpuEff nD τ sig (Elt Bits) Λ₀ .tc) PUnit :=
  cc0_expert_ffn (crd a t) (Memref.whole main_arg4) (Memref.isWhole_whole _) (Memref.whole main_arg5) (Memref.isWhole_whole _) (Memref.whole main_arg6) (Memref.isWhole_whole _) (st0 a t) (hs0 a t) (st1 a t) (hs1 a t) (st2 a t) (hs2 a t) (st3 a t) (hs3 a t) (st4 a t) (hs4 a t)

set_option maxHeartbeats 4000000 in
/-- A storing step. -/
theorem live_body (c : Dev nD) (t : Fin (cfg0 a).N) (h : Live a t) (d : S256x1024.Idx → Elt Bits .bf16) (K : PUnit → sProp 𝕄) :
    iprop(Pipeline.ΦT pre0 a.1 c
        ∗ owns (c : Thread nD τ) (st0 a t) fullShare (iblk a m c (0 : Fin 5) t)
        ∗ owns (c : Thread nD τ) (st1 a t) fullShare (iblk a m c (1 : Fin 5) t)
        ∗ owns (c : Thread nD τ) (st2 a t) fullShare (iblk a m c (2 : Fin 5) t)
        ∗ owns (c : Thread nD τ) (st3 a t) fullShare (iblk a m c (3 : Fin 5) t)
        ∗ owns (c : Thread nD τ) (st4 a t) fullShare d
        ∗ (iprop(Pipeline.ΦT pre0 a.1 c
            ∗ owns (c : Thread nD τ) (st0 a t) fullShare (iblk a m c (0 : Fin 5) t)
            ∗ owns (c : Thread nD τ) (st1 a t) fullShare (iblk a m c (1 : Fin 5) t)
            ∗ owns (c : Thread nD τ) (st2 a t) fullShare (iblk a m c (2 : Fin 5) t)
            ∗ owns (c : Thread nD τ) (st3 a t) fullShare (iblk a m c (3 : Fin 5) t)
            ∗ owns (c : Thread nD τ) (st4 a t) fullShare (stored a m c t h)) -∗ K ⟨⟩))
      ⊢ wp frame (wpE (defs₀ (F := Bits)) Variants.none c none) Set.univ (bodyAt a t) K := by
  rw [tables_eq]
  iintro ⟨⟨HT0, HT1, HT2⟩, H0, H1, H2, H3, H4, Hk⟩
  iapply ((kernelRun0_A c (crd a t) (st0 a t) (hs0 a t) (st1 a t) (hs1 a t) (st2 a t) (hs2 a t) (st3 a t) (hs3 a t) (st4 a t) (hs4 a t) (a.1 0) (a.1 1) (a.1 2) (iblk a m c (0 : Fin 5) t) (iblk a m c (1 : Fin 5) t) (iblk a m c (2 : Fin 5) t) (iblk a m c (3 : Fin 5) t) h).2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iexists _; iexact H4
  iintro ⟨H0, H1, H2, H3, HT0, HT1, HT2, ⟨%e4, H4⟩⟩
  iapply Hk
  isplitl [HT0 HT1 HT2]
  · isplitl [HT0]
    · iexact HT0
    isplitl [HT1]
    · iexact HT1
    iexact HT2
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; unfold stored out0_A_4; exact View.read_writes_of_cover _ _ _ _ _ (cover0_A_4 c _ _ _ _ _ _ _ _ _ _ _ _ _ _ _ _ _ _ _)

set_option maxHeartbeats 4000000 in
/-- The body at a step, both cases. -/
theorem sound_body (c : Dev nD) (t : Fin (cfg0 a).N) (Y : (w : Fin (cfg0 a).W) → ((cfg0 a).win w).block.Idx → Elt Bits ((cfg0 a).win w).elt)
    (hY : ∀ w, (rdat a m c).Finds w t (Y w)) :
    iprop((rdat a m c).Φ t.castSucc ∗ (rdat a m c).owesAt () t.castSucc
        ∗ owns (c : Thread nD τ) (st0 a t) fullShare (Y (0 : Fin 5))
        ∗ owns (c : Thread nD τ) (st1 a t) fullShare (Y (1 : Fin 5))
        ∗ owns (c : Thread nD τ) (st2 a t) fullShare (Y (2 : Fin 5))
        ∗ owns (c : Thread nD τ) (st3 a t) fullShare (Y (3 : Fin 5))
        ∗ owns (c : Thread nD τ) (st4 a t) fullShare (Y (4 : Fin 5)))
      ⊢ wp frame (wpE (defs₀ (F := Bits)) Variants.none c none) Set.univ (bodyAt a t) fun _ =>
          iprop((rdat a m c).Φ t.succ ∗ (rdat a m c).owesAt () t.succ
            ∗ (∃ X, ⌜X = Y (0 : Fin 5)⌝ ∗ owns (c : Thread nD τ) (st0 a t) fullShare X)
            ∗ (∃ X, ⌜X = Y (1 : Fin 5)⌝ ∗ owns (c : Thread nD τ) (st1 a t) fullShare X)
            ∗ (∃ X, ⌜X = Y (2 : Fin 5)⌝ ∗ owns (c : Thread nD τ) (st2 a t) fullShare X)
            ∗ (∃ X, ⌜X = Y (3 : Fin 5)⌝ ∗ owns (c : Thread nD τ) (st3 a t) fullShare X)
            ∗ (∃ X, ⌜leaves a m c t (Y (4 : Fin 5)) X⌝ ∗ owns (c : Thread nD τ) (st4 a t) fullShare X)) := by
  rewrite [show (rdat a m c).Φ t.succ = iprop(Pipeline.ΦA (cfg0 a).spec c ∗ Pipeline.ΦT pre0 a.1 c) from rfl,
    show (rdat a m c).Φ t.castSucc = iprop(Pipeline.ΦA (cfg0 a).spec c ∗ Pipeline.ΦT pre0 a.1 c) from rfl,
    show (rdat a m c).owesAt () t.succ = (rdat a m c).owesAt () t.castSucc from rfl]
  by_cases h : Live a t
  · rw [finds0 a m c t _ (hY (0 : Fin 5)), finds1 a m c t _ (hY (1 : Fin 5)), finds2 a m c t _ (hY (2 : Fin 5)),
      finds3 a m c t _ (hY (3 : Fin 5))]
    iintro ⟨⟨HA, HT⟩, Ho, H0, H1, H2, H3, H4⟩
    iapply live_body a m c t h (Y (4 : Fin 5)) _
    isplitl [HT]; · iexact HT
    isplitl [H0]; · iexact H0
    isplitl [H1]; · iexact H1
    isplitl [H2]; · iexact H2
    isplitl [H3]; · iexact H3
    isplitl [H4]; · iexact H4
    iintro ⟨HT, H0, H1, H2, H3, H4⟩
    isplitl [HA HT]
    · isplitl [HA]; · iexact HA
      iexact HT
    isplitl [Ho]; · iexact Ho
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists _; isplitr; swap
    · iexact H4
    · ipureintro; exact ⟨fun _ => rfl, fun hn => absurd h hn⟩
  · rw [tables_eq]
    iintro ⟨⟨HA, ⟨HT0, HT1, HT2⟩⟩, Ho, H0, H1, H2, H3, H4⟩
    iapply idle_run c (crd a t) _ _ _ _ _ _ _ _ _ _ (a.1 2) h _
    isplitl [HT2]; · iexact HT2
    iintro HT2
    isplitl [HA HT0 HT1 HT2]
    · isplitl [HA]; · iexact HA
      isplitl [HT0]; · iexact HT0
      isplitl [HT1]; · iexact HT1
      iexact HT2
    isplitl [Ho]; · iexact Ho
    isplitl [H0]
    · iexists _; isplitr; swap
      · iexact H0
      · ipureintro; rfl
    isplitl [H1]
    · iexists _; isplitr; swap
      · iexact H1
      · ipureintro; rfl
    isplitl [H2]
    · iexists _; isplitr; swap
      · iexact H2
      · ipureintro; rfl
    isplitl [H3]
    · iexists _; isplitr; swap
      · iexact H3
      · ipureintro; rfl
    iexists _; isplitr; swap
    · iexact H4
    · ipureintro; exact ⟨fun h' => absurd h' h, fun _ => rfl⟩

/-- The body satisfies the pipeline's obligation at every step. -/
theorem body_obligation (c : Dev nD) : (rdat a m c).BodyObligation (defs₀ (F := Bits)) Variants.none () Set.univ := fun t Y hY => by
  rw [bigSep_W0, bigSep_W0]
  exact sound_body a m c t Y hY

theorem share_eq (c : Dev nD) (w : Fin (cfg0 a).W) : (rdat a m c).share w = fullShare := by unfold RDat.share; split <;> rfl

set_option backward.isDefEq.respectTransparency.types false in
set_option maxHeartbeats 4000000 in
/-- From a memory whose tables are `a`: every execution ends, every counter at zero, every array as the write-backs of
    the steps leave it, every table as before. -/
theorem run (g : Dev nD → PrngReg) (hp : ∀ (c : Dev nD) (k : Fin 3), m ((c.tc : Thread nD τ).loc (pre0.ref k)) = a.1 k) :
    θ_run (defs (F := Bits)) (onTc (τ := τ) (main (F := Bits))) ⟨m, fun _ => 0, g⟩
      (fun r => RDat.FramePost (cfg0 a) (rdat a m) (fun c b => m ((c.tc : Thread nD τ).loc b)) r ∧ r.2.sem = fun _ => 0) :=
  RDat.θ_run_frameP pcfgs (fun _ => a) (0 : Fin 1) launch0 defs₀ Variants.none (rdat a m) m g main
    (body_obligation a m) (share_eq a m) (fun _ _ => rfl) (fun c b => m ((c.tc : Thread nD τ).loc b))
    (Pipeline.hmainP_region _ _ _ _ m main fun c => by delta main; simp only [Prog.bind_lift, Prog.pure_eq_ret])
    (fun _ _ => rfl) hp (fun _ _ => rfl) _ (fun _ h => h)

/-- No window's array is a table. -/
theorem no_arr4 (w : Fin (cfg0 a).W) : ((cfg0 a).spec w).arr.view.ref ≠ main_arg4 :=
  (show ∀ w : Fin 5, (spec0 w).arr.view.ref ≠ main_arg4 by decide) w
theorem no_arr5 (w : Fin (cfg0 a).W) : ((cfg0 a).spec w).arr.view.ref ≠ main_arg5 :=
  (show ∀ w : Fin 5, (spec0 w).arr.view.ref ≠ main_arg5 by decide) w
theorem no_arr6 (w : Fin (cfg0 a).W) : ((cfg0 a).spec w).arr.view.ref ≠ main_arg6 :=
  (show ∀ w : Fin 5, (spec0 w).arr.view.ref ≠ main_arg6 by decide) w

set_option backward.isDefEq.respectTransparency.types false in
/-- The argument arrays end unchanged, every counter at zero. -/
theorem frame (g : Dev nD → PrngReg) (hp : ∀ (c : Dev nD) (k : Fin 3), m ((c.tc : Thread nD τ).loc (pre0.ref k)) = a.1 k) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨h.1.arr_in c (0 : Fin 5) rfl, h.1.arr_in c (1 : Fin 5) rfl, h.1.arr_in c (2 : Fin 5) rfl,
    h.1.arr_in c (3 : Fin 5) rfl,
    (h.1 c).2 main_arg4 (Pipeline.mem_restRefs_of main_arg4 (by decide) (no_arr4 a)),
    (h.1 c).2 main_arg5 (Pipeline.mem_restRefs_of main_arg5 (by decide) (no_arr5 a)),
    (h.1 c).2 main_arg6 (Pipeline.mem_restRefs_of main_arg6 (by decide) (no_arr6 a))⟩, h.2⟩) (run a m g hp)

end Cert.Expert.Steps

end
-- ==== Proof.ExpertClaims.lean ====
/-
  The frames of the expert call's three programs: each ends, its arguments unchanged and every counter at zero.  The
  kernel's two hold where the tables are in range, which is what the printed predicates say of them.
-/
module

public import proofs.«01_k».proof.Defs
public import proofs.«01_k».proof.Proof.ExpertIdealTables
public import proofs.«01_k».proof.Proof.ExpertBitsTables
public import proofs.«01_k».proof.Proof.Gen.ExpertRefIdeal.Run

@[expose] public section

set_option maxRecDepth 16384

noncomputable section

open Idealize.ShloMosaic Idealize.ShloMosaic.TcCoe Idealize.SL.Sem

namespace Cert.Proof

theorem expert_frame : Cert.quiescent_Expert (hExpert := Cert.Expert.Gen.facts) (hPre_in_range := Cert.Pre_in_range.Gen.facts) :=
  fun m g h => Cert.Expert.Steps.frame (Cert.Expert.Steps.tab m (Cert.Tables.inRange_of _ _ _ _ _ _ _ (h 0))) m g
    (Cert.Expert.Steps.held_eq m)

theorem expert_ideal_frame : Cert.quiescent_ExpertIdeal (hExpertIdeal := Cert.ExpertIdeal.Gen.facts) (hPre_in_range := Cert.Pre_in_range.Gen.facts) :=
  fun m g h => Cert.ExpertIdeal.Steps.frame (Cert.ExpertIdeal.Steps.tab m (Cert.Tables.inRange_of _ _ _ _ _ _ _ (h 0))) m g
    (Cert.ExpertIdeal.Steps.held_eq m)

theorem expert_ideal_routed_frame : Cert.quiescent_ExpertIdeal_pre_routed (hExpertIdeal := Cert.ExpertIdeal.Gen.facts) (hPre_routed := Cert.Pre_routed.Gen.facts) :=
  fun m g h => Cert.ExpertIdeal.Steps.frame (Cert.ExpertIdeal.Steps.tab m (Cert.Tables.routed_of _ _ _ _ _ _ _ (h 0)).inRange) m g
    (Cert.ExpertIdeal.Steps.held_eq m)

theorem expert_ref_frame : Cert.quiescent_ExpertRefIdeal (hExpertRefIdeal := Cert.ExpertRefIdeal.Gen.facts) :=
  fun m g _ => (θ_run _ _ _).mono (fun r h => ⟨fun c => (h c).2, sem_eq_zero_of_no_sems rfl _⟩) (Cert.ExpertRefIdeal.Value.run (F := Ideal) m g)

theorem expert_ref_routed_frame : Cert.quiescent_ExpertRefIdeal_pre_routed (hExpertRefIdeal := Cert.ExpertRefIdeal.Gen.facts) (hPre_routed := Cert.Pre_routed.Gen.facts) :=
  fun m g _ => (θ_run _ _ _).mono (fun r h => ⟨fun c => (h c).2, sem_eq_zero_of_no_sems rfl _⟩) (Cert.ExpertRefIdeal.Value.run (F := Ideal) m g)

end Cert.Proof

end
-- ==== Proof.ExpertSpec.lean ====
/-
  THE EXPERT CALL, the value both programs compute (over the extended reals): every row through the SwiGLU of the expert
  whose row it is. The rows lie in eight runs of 17664, one per expert.
-/
module

public import proofs.«01_k».proof.Proof.FfnSpec

@[expose] public section

noncomputable section

namespace Cert.ExpertSpec

open Idealize.ShloMosaic Cert.FfnSpec

/-- The value of one element: row `r` through expert `e`, at output feature `n`. -/
def through (x : (⟨2, ![141312, 1024]⟩ : Shape).Idx → EReal) (w1 w3 : (⟨3, ![8, 1024, 2816]⟩ : Shape).Idx → EReal)
    (w2 : (⟨3, ![8, 2816, 1024]⟩ : Shape).Idx → EReal) (r : Fin 141312) (e : Fin 8) (n : Fin 1024) : EReal :=
  ∑ k : Fin 2816,
    swiglu (∑ j : Fin 1024, x (ix2 r j) * w1 (ix3 e j k)) (∑ j : Fin 1024, x (ix2 r j) * w3 (ix3 e j k)) * w2 (ix3 e k n)

/-- The call's value: each row through the expert that owns it. -/
def ffn (x : (⟨2, ![141312, 1024]⟩ : Shape).Idx → EReal) (w1 w3 : (⟨3, ![8, 1024, 2816]⟩ : Shape).Idx → EReal)
    (w2 : (⟨3, ![8, 2816, 1024]⟩ : Shape).Idx → EReal) : (⟨2, ![141312, 1024]⟩ : Shape).Idx → EReal :=
  fun i => through x w1 w3 w2 (i 0) ⟨(i 0).val / 17664, by have h : (i 0).val < 141312 := (i 0).isLt; omega⟩ (i 1)

end Cert.ExpertSpec

end
-- ==== Proof.ExpertBlock.lean ====
/-
  WHAT A STORING STEP OF THE EXPERT KERNEL LEAVES, from the blocks it is given: the block of rows through the expert whose
  weights the step holds.
-/
module

public import proofs.«01_k».proof.Proof.ExpertIdealTables
public import proofs.«01_k».proof.Proof.ExpertSpec
public import Idealize.ShloMosaic.Lib.Pipeline.ValueKit

@[expose] public section

set_option maxRecDepth 16384

noncomputable section

namespace Cert.ExpertIdeal.Steps

open Cert.ExpertIdeal Cert.ExpertIdeal.Gen Cert.Tables Cert.FfnSpec
open Idealize.ShloMosaic
open Idealize.ShloMosaic.TcCoe
open Idealize.SL.Sem

variable (c : Dev nD) (i : grid0.Coords) (r0 : Memref sig .tc .vmem S256x1024 .bf16) (h0 : r0.IsWhole)
  (r1 : Memref sig .tc .vmem S1x1024x2816 .bf16) (h1 : r1.IsWhole) (r2 : Memref sig .tc .vmem S1x1024x2816 .bf16) (h2 : r2.IsWhole)
  (r3 : Memref sig .tc .vmem S1x2816x1024 .bf16) (h3 : r3.IsWhole) (r4 : Memref sig .tc .vmem S256x1024 .bf16) (h4 : r4.IsWhole)
  (T0 T1 : S169.Idx → Elt Ideal .i32) (T2 : S1.Idx → Elt Ideal .i32)
  (x0 : S256x1024.Idx → Elt Ideal .bf16) (x1 x2 : S1x1024x2816.Idx → Elt Ideal .bf16) (x3 : S1x2816x1024.Idx → Elt Ideal .bf16)

/-- An expert's up weights read as a matrix: the block's one leading index dropped. -/
theorem flat_up (r : Memref sig .tc .vmem S1x1024x2816 .bf16) (x : S1x1024x2816.Idx → Elt Ideal .bf16) (hs) (hn) :
    View.read (Elt Ideal) ((r.view.slice (Rect.unit (s := S1x1024x2816) ![0, 0, 0] ![1, 1024, 2816] hs)).reshape S1024x2816 hn) (r.view.rep x)
      = fun y => x (ix3 0 (y 0) (y 1)) := by
  funext y
  have e : View.read (Elt Ideal) r.view (r.view.rep x) = x := View.read_rep _ _
  refine Eq.trans ?_ (congrFun e (ix3 0 (y 0) (y 1)))
  show View.read (Elt Ideal) r.view (r.view.rep x)
    ((Rect.unit (s := S1x1024x2816) ![0, 0, 0] ![1, 1024, 2816] hs).emb (Shape.reshapeEquiv hn y)) = _
  congr 1
  have q : Shape.reshapeEquiv hn y = (ix3 0 (y 0) (y 1) : S1x1024x2816.Idx) :=
    Shape.reshapeEquiv_eq_of_rowMajor hn (by
      rw [Shape.rowMajor_val_three, Shape.rowMajor_val_two]
      show (0 * 1024 + (y 0).val) * 2816 + (y 1).val = (y 0).val * 2816 + (y 1).val
      omega)
  funext a
  apply Fin.ext
  refine (congrArg (fun z : S1x1024x2816.Idx => ![0, 0, 0] a + 1 * (z a).val) q).trans ?_
  match a with
  | ⟨0, _⟩ => rfl
  | ⟨1, _⟩ => show 0 + 1 * (y 0).val = (y 0).val; omega
  | ⟨2, _⟩ => show 0 + 1 * (y 1).val = (y 1).val; omega

/-- The same of the down weights. -/
theorem flat_down (r : Memref sig .tc .vmem S1x2816x1024 .bf16) (x : S1x2816x1024.Idx → Elt Ideal .bf16) (hs) (hn) :
    View.read (Elt Ideal) ((r.view.slice (Rect.unit (s := S1x2816x1024) ![0, 0, 0] ![1, 2816, 1024] hs)).reshape S2816x1024 hn) (r.view.rep x)
      = fun y => x (ix3 0 (y 0) (y 1)) := by
  funext y
  have e : View.read (Elt Ideal) r.view (r.view.rep x) = x := View.read_rep _ _
  refine Eq.trans ?_ (congrFun e (ix3 0 (y 0) (y 1)))
  show View.read (Elt Ideal) r.view (r.view.rep x)
    ((Rect.unit (s := S1x2816x1024) ![0, 0, 0] ![1, 2816, 1024] hs).emb (Shape.reshapeEquiv hn y)) = _
  congr 1
  have q : Shape.reshapeEquiv hn y = (ix3 0 (y 0) (y 1) : S1x2816x1024.Idx) :=
    Shape.reshapeEquiv_eq_of_rowMajor hn (by
      rw [Shape.rowMajor_val_three, Shape.rowMajor_val_two]
      show (0 * 2816 + (y 0).val) * 1024 + (y 1).val = (y 0).val * 1024 + (y 1).val
      omega)
  funext a
  apply Fin.ext
  refine (congrArg (fun z : S1x2816x1024.Idx => ![0, 0, 0] a + 1 * (z a).val) q).trans ?_
  match a with
  | ⟨0, _⟩ => rfl
  | ⟨1, _⟩ => show 0 + 1 * (y 0).val = (y 0).val; omega
  | ⟨2, _⟩ => show 0 + 1 * (y 1).val = (y 1).val; omega

set_option maxHeartbeats 2000000 in
/-- What the storing path leaves, at an element: the row of the block through the weights. -/
theorem out_at (h : k0_cond1 i (count T2) = 1#1) (y : S256x1024.Idx) :
    out0_A_4 c i r0 h0 r1 h1 r2 h2 r3 h3 r4 h4 T0 T1 T2 x0 x1 x2 x3 h y
      = ∑ k : Fin 2816, swiglu (∑ j : Fin 1024, x0 (ix2 (y 0) j) * x1 (ix3 0 j k)) (∑ j : Fin 1024, x0 (ix2 (y 0) j) * x2 (ix3 0 j k))
          * x3 (ix3 0 k (y 1)) := by
  unfold out0_A_4 kernelRun0_A
  frame_out
  rw [show View.read (Elt Ideal) r0.view (r0.view.rep x0) = x0 from View.read_rep _ _]
  simp only [flat_up, flat_down]
  rw [sum_runs]
  pointwise [k0_pay1, k0_pay2, k0_pay3, k0_pay4, k0_pay5, k0_pay6, k0_pay7, k0_pay8, k0_pay9, k0_pay10]
  simp only [swiglu, zero_sub]

/-! Where a step's blocks lie in the arrays. -/

variable (a : Tab) (m : (ℓ : Loc nD τ sig) → Buf (Elt Ideal) ℓ) (t : Fin (cfg0 a).N)

theorem in0 (x : S256x1024.Idx) (j : S141312x1024.Idx) (e0 : (j 0).val = (word (a.1 0) (num (crd a t))).toNat * 256 + (x 0).val)
    (e1 : (j 1).val = (x 1).val) : iblk a m c (0 : Fin 5) t x = m ((c : Thread nD τ).loc main_arg0) j := by
  show m ((c : Thread nD τ).loc main_arg0) ((((cfg0 a).win (0 : Fin 5)).blk t).view.emb x) = _
  congr 1
  funext d
  apply Fin.ext
  show cc0_transform_0 k0_off1_inb numel1_S1 a.1 (crd a t) d * S256x1024.size d + 1 * (x d).val = (j d).val
  rw [map0]
  match d with
  | ⟨0, _⟩ => show (word (a.1 0) (num (crd a t))).toNat * 256 + 1 * (x 0).val = (j 0).val; omega
  | ⟨1, _⟩ => show 0 * 1024 + 1 * (x 1).val = (j 1).val; omega

theorem in1 (x : S1x1024x2816.Idx) (j : S8x1024x2816.Idx) (e0 : (j 0).val = (word (a.1 1) (num (crd a t))).toNat + (x 0).val)
    (e1 : (j 1).val = (x 1).val) (e2 : (j 2).val = (x 2).val) : iblk a m c (1 : Fin 5) t x = m ((c : Thread nD τ).loc main_arg1) j := by
  show m ((c : Thread nD τ).loc main_arg1) ((((cfg0 a).win (1 : Fin 5)).blk t).view.emb x) = _
  congr 1
  funext d
  apply Fin.ext
  show cc0_transform_1 k0_off1_inb numel1_S1 a.1 (crd a t) d * S1x1024x2816.size d + 1 * (x d).val = (j d).val
  rw [map1]
  match d with
  | ⟨0, _⟩ => show (word (a.1 1) (num (crd a t))).toNat * 1 + 1 * (x 0).val = (j 0).val; omega
  | ⟨1, _⟩ => show 0 * 1024 + 1 * (x 1).val = (j 1).val; omega
  | ⟨2, _⟩ => show 0 * 2816 + 1 * (x 2).val = (j 2).val; omega

theorem in2 (x : S1x1024x2816.Idx) (j : S8x1024x2816.Idx) (e0 : (j 0).val = (word (a.1 1) (num (crd a t))).toNat + (x 0).val)
    (e1 : (j 1).val = (x 1).val) (e2 : (j 2).val = (x 2).val) : iblk a m c (2 : Fin 5) t x = m ((c : Thread nD τ).loc main_arg2) j := by
  show m ((c : Thread nD τ).loc main_arg2) ((((cfg0 a).win (2 : Fin 5)).blk t).view.emb x) = _
  congr 1
  funext d
  apply Fin.ext
  show cc0_transform_2 k0_off1_inb numel1_S1 a.1 (crd a t) d * S1x1024x2816.size d + 1 * (x d).val = (j d).val
  rw [map2]
  match d with
  | ⟨0, _⟩ => show (word (a.1 1) (num (crd a t))).toNat * 1 + 1 * (x 0).val = (j 0).val; omega
  | ⟨1, _⟩ => show 0 * 1024 + 1 * (x 1).val = (j 1).val; omega
  | ⟨2, _⟩ => show 0 * 2816 + 1 * (x 2).val = (j 2).val; omega

theorem in3 (x : S1x2816x1024.Idx) (j : S8x2816x1024.Idx) (e0 : (j 0).val = (word (a.1 1) (num (crd a t))).toNat + (x 0).val)
    (e1 : (j 1).val = (x 1).val) (e2 : (j 2).val = (x 2).val) : iblk a m c (3 : Fin 5) t x = m ((c : Thread nD τ).loc main_arg3) j := by
  show m ((c : Thread nD τ).loc main_arg3) ((((cfg0 a).win (3 : Fin 5)).blk t).view.emb x) = _
  congr 1
  funext d
  apply Fin.ext
  show cc0_transform_3 k0_off1_inb numel1_S1 a.1 (crd a t) d * S1x2816x1024.size d + 1 * (x d).val = (j d).val
  rw [map3]
  match d with
  | ⟨0, _⟩ => show (word (a.1 1) (num (crd a t))).toNat * 1 + 1 * (x 0).val = (j 0).val; omega
  | ⟨1, _⟩ => show 0 * 2816 + 1 * (x 1).val = (j 1).val; omega
  | ⟨2, _⟩ => show 0 * 1024 + 1 * (x 2).val = (j 2).val; omega

/-- A result element's place in the array: its block's row and column. -/
theorem place (y : S256x1024.Idx) : ((((((cfg0 a).win (4 : Fin 5)).blk t).view.emb y : S141312x1024.Idx) 0).val
      = (word (a.1 0) (num (crd a t))).toNat * 256 + (y 0).val)
    ∧ (((((cfg0 a).win (4 : Fin 5)).blk t).view.emb y : S141312x1024.Idx) 1).val = (y 1).val := by
  constructor
  · show cc0_transform_4 k0_off1_inb numel1_S1 a.1 (crd a t) 0 * 256 + 1 * (y 0).val = _
    rw [map4]
    show (word (a.1 0) (num (crd a t))).toNat * 256 + 1 * (y 0).val = _
    omega
  · show cc0_transform_4 k0_off1_inb numel1_S1 a.1 (crd a t) 1 * 1024 + 1 * (y 1).val = _
    rw [map4]
    show 0 * 1024 + 1 * (y 1).val = _
    omega

/-- The call's value of the launch contents of the arguments. -/
abbrev result : FVec Ideal S141312x1024 .bf16 :=
  ExpertSpec.ffn (m ((c : Thread nD τ).loc main_arg0)) (m ((c : Thread nD τ).loc main_arg1)) (m ((c : Thread nD τ).loc main_arg2))
    (m ((c : Thread nD τ).loc main_arg3))

/-- A storing step leaves the call's value of the rows its block names, where these are its expert's. -/
theorem stored_at (h : Live a t) (hr : Routed (a.1 0) (a.1 1) (a.1 2)) (y : S256x1024.Idx) :
    stored a m c t h y = result c m ((((cfg0 a).win (4 : Fin 5)).blk t).view.emb y) := by
  obtain ⟨p0, p1⟩ := place a t y
  have hb := (hr.inRange (num (crd a t))).1
  have he := (hr.inRange (num (crd a t))).2
  have ho := hr.owned (num (crd a t)) ((live_iff _ _).1 h)
  have hy : (y 0).val < 256 := (y 0).isLt
  unfold stored
  refine (out_at c (crd a t) _ _ _ _ _ _ _ _ _ _ _ _ _ _ _ _ _ h y).trans ?_
  unfold result ExpertSpec.ffn ExpertSpec.through
  refine Finset.sum_congr rfl fun k _ => ?_
  have a0 : ∀ j : Fin 1024, iblk a m c (0 : Fin 5) t (ix2 (y 0) j) = m ((c : Thread nD τ).loc main_arg0) (ix2 (((((cfg0 a).win (4 : Fin 5)).blk t).view.emb y : S141312x1024.Idx) 0) j) :=
    fun j => in0 c a m t _ _ p0 rfl
  have e : ((((((cfg0 a).win (4 : Fin 5)).blk t).view.emb y : S141312x1024.Idx) 0).val) / 17664 = (word (a.1 1) (num (crd a t))).toNat + 0 := by
    omega
  rw [in3 c a m t (ix3 0 k (y 1)) (ix3 ⟨_, by omega⟩ k (((((cfg0 a).win (4 : Fin 5)).blk t).view.emb y : S141312x1024.Idx) 1)) e rfl p1]
  congr 2
  · exact Finset.sum_congr rfl fun j _ => by rw [a0 j, in1 c a m t (ix3 0 j k) (ix3 ⟨_, by omega⟩ j k) e rfl rfl]
  · exact Finset.sum_congr rfl fun j _ => by rw [a0 j, in2 c a m t (ix3 0 j k) (ix3 ⟨_, by omega⟩ j k) e rfl rfl]

end Cert.ExpertIdeal.Steps

end
-- ==== Proof.ExpertKernel.lean ====
/-
  THE EXPERT KERNEL'S RESULT ARRAY.  A block is written back when the next step names another one.  By then its buffer
  holds the call's value of the block's rows: a counted step has just stored it (`stored_at`), or the step is past the
  count, names the block of the step before, and has left that step's buffer alone (`settled`).  A block some counted
  step names is written back at the end of that step's run of equal blocks (`written`).  So every row of such a block
  ends at the call's value, whatever the array held before.
-/
module

public import proofs.«01_k».proof.Proof.ExpertBlock

@[expose] public section

set_option maxRecDepth 16384

noncomputable section

namespace Cert.ExpertIdeal.Steps

open Cert.ExpertIdeal Cert.ExpertIdeal.Gen Cert.Tables
open Idealize.ShloMosaic
open Idealize.ShloMosaic.TcCoe
open Idealize.SL.Sem
open Idealize.ShloMosaic.Pipeline (RDat Dat)

variable (a : Tab) (m : (ℓ : Loc nD τ sig) → Buf (Elt Ideal) ℓ) (c : Dev nD)

/-- The grid has one axis: a step's coordinate is its number. -/
theorem num_val (t : Fin (cfg0 a).N) : (num (crd a t)).val = t.val := by
  have ht : t.val < 168 := t.isLt
  show t.val / 1 % 168 = t.val
  omega

/-- The result's block at a step, by the table. -/
theorem index_at (t : Fin (cfg0 a).N) : ((cfg0 a).win (4 : Fin 5)).index t = ![(word (a.1 0) (num (crd a t))).toNat, 0] := map4 a.1 (crd a t)

/-- A result element's place depends on the step through its block alone. -/
theorem place_congr (t u : Fin (cfg0 a).N) (h : word (a.1 0) (num (crd a t)) = word (a.1 0) (num (crd a u))) (y : S256x1024.Idx) :
    (((cfg0 a).win (4 : Fin 5)).blk t).view.emb y = (((cfg0 a).win (4 : Fin 5)).blk u).view.emb y := by
  obtain ⟨t0, t1⟩ := place a t y
  obtain ⟨u0, u1⟩ := place a u y
  refine (funext fun d => Fin.ext ?_ : ((((cfg0 a).win (4 : Fin 5)).blk t).view.emb y : S141312x1024.Idx) = _)
  match d with
  | ⟨0, _⟩ => exact t0.trans ((congrArg (fun b : BitVec 32 => b.toNat * 256 + (y 0).val) h).trans u0.symm)
  | ⟨1, _⟩ => exact t1.trans u1.symm

/-- A step past the count names the block of the step before. -/
theorem same_word (hr : Routed (a.1 0) (a.1 1) (a.1 2)) (k : ℕ) (hk : k + 1 < (cfg0 a).N) (hn : ¬ Live a ⟨k + 1, hk⟩) :
    word (a.1 0) (num (crd a ⟨k + 1, hk⟩)) = word (a.1 0) (num (crd a ⟨k, Nat.lt_of_succ_lt hk⟩)) := by
  have hs : steps (a.1 2) ≤ (k : ℤ) + 1 := by
    by_contra hc
    refine hn ((live_iff _ _).2 ?_)
    rw [num_val]
    show ((k + 1 : ℕ) : ℤ) < _
    rw [Int.natCast_succ]
    exact not_le.1 hc
  have e := hr.stays k hk hs
  rw [show num (crd a ⟨k + 1, hk⟩) = ⟨k + 1, hk⟩ from Fin.ext (num_val a _),
    show num (crd a ⟨k, Nat.lt_of_succ_lt hk⟩) = ⟨k, by have : k + 1 < 168 := hk; omega⟩ from Fin.ext (num_val a _)]
  exact e

/-- After any step the buffer holds the call's value of its block's rows, if there is a counted step at all. -/
theorem settled (hr : Routed (a.1 0) (a.1 1) (a.1 2)) (hs : 0 < steps (a.1 2)) :
    ∀ (n : ℕ) (hn : n < (cfg0 a).N) (X : S256x1024.Idx → Elt Ideal .bf16), (rdat a m c).Leaves (4 : Fin 5) ⟨n, hn⟩ X →
      ∀ y : S256x1024.Idx, X y = result c m ((((cfg0 a).win (4 : Fin 5)).blk ⟨n, hn⟩).view.emb y) := by
  intro n
  induction n with
  | zero =>
    intro hn X hX y
    obtain ⟨Y, -, h1, -⟩ := hX
    have hl : Live a ⟨0, hn⟩ := (live_iff _ _).2 (by rw [num_val]; exact hs)
    rw [h1 hl]
    exact stored_at c a m _ hl hr y
  | succ k ih =>
    intro hn X hX y
    obtain ⟨Y, hY, h1, h2⟩ := hX
    by_cases hl : Live a ⟨k + 1, hn⟩
    · rw [h1 hl]
      exact stored_at c a m _ hl hr y
    · rw [h2 hl, place_congr a _ _ (same_word a hr k hn hl) y]
      rcases ((rdat a m c).finds_of_pos (w := (4 : Fin 5)) (t := ⟨k + 1, hn⟩) rfl (Nat.succ_ne_zero k) Y).1 hY with hf | hL
      · exfalso
        have hf' : ((cfg0 a).win (4 : Fin 5)).flush ⟨k, Nat.lt_of_succ_lt hn⟩ = true := hf
        unfold Pipeline.Window.flush at hf'
        rw [Bool.and_eq_true, Bool.or_eq_true, decide_eq_true_eq, decide_eq_true_eq] at hf'
        rcases hf'.2 with h | ⟨_, h⟩
        · exact absurd h (Nat.ne_of_lt hn)
        · exact h (by rw [index_at, index_at, same_word a hr k hn hl])
      · exact ih (Nat.lt_of_succ_lt hn) Y hL y

/-- Some step that writes its block back names the block a given step names: the last of the run of equal blocks. -/
theorem written (d : ℕ) : ∀ t : Fin (cfg0 a).N, (cfg0 a).N - t.val = d →
    ∃ u : Fin (cfg0 a).N, ((cfg0 a).win (4 : Fin 5)).flush u = true ∧ ((cfg0 a).win (4 : Fin 5)).index u = ((cfg0 a).win (4 : Fin 5)).index t := by
  induction d with
  | zero => intro t ht; have := t.isLt; omega
  | succ d ih =>
    intro t ht
    by_cases hf : ((cfg0 a).win (4 : Fin 5)).flush t = true
    · exact ⟨t, hf, rfl⟩
    · have hf' := hf
      unfold Pipeline.Window.flush at hf'
      rw [Bool.and_eq_true, Bool.or_eq_true, decide_eq_true_eq, decide_eq_true_eq] at hf'
      have h1 : t.val + 1 < (cfg0 a).N := by
        have := t.isLt
        rcases Nat.lt_or_ge (t.val + 1) (cfg0 a).N with h | h
        · exact h
        · exact absurd ⟨rfl, .inl (by show t.val + 1 = (cfg0 a).N; omega)⟩ hf'
      have h2 : ((cfg0 a).win (4 : Fin 5)).index ⟨t.val + 1, h1⟩ = ((cfg0 a).win (4 : Fin 5)).index t := by
        by_contra h
        exact hf' ⟨rfl, .inr ⟨h1, h⟩⟩
      obtain ⟨u, hu, e⟩ := ih ⟨t.val + 1, h1⟩ (by show (cfg0 a).N - (t.val + 1) = d; omega)
      exact ⟨u, hu, e.trans h2⟩

/-- The result array at the end, at an element of a block some counted step names. -/
theorem array_at (hr : Routed (a.1 0) (a.1 1) (a.1 2)) (r : PUnit × MemSt nD τ sig (Elt Ideal))
    (h : RDat.FramePost (cfg0 a) (rdat a m) (fun c b => m ((c.tc : Thread nD τ).loc b)) r)
    (i : S141312x1024.Idx) (hv : Visited (a.1 0) (a.1 2) ((i 0).val / 256)) :
    r.2.mem ((c.tc : Thread nD τ).loc main_v0) i = result c m i := by
  obtain ⟨k, hk, hb⟩ := hv
  have hs : 0 < steps (a.1 2) := lt_of_le_of_lt (Int.natCast_nonneg _) hk
  obtain ⟨after, hL, hA⟩ := h.exists_exact c
  have hA4 : r.2.mem ((c.tc : Thread nD τ).loc main_v0) = ((rdat a m c).withAfter after).arrAt (4 : Fin 5) (cfg0 a).N := hA (4 : Fin 5)
  rw [hA4]
  obtain ⟨u, hu, e⟩ := written a _ ⟨k.val, k.isLt⟩ rfl
  rw [index_at, index_at] at e
  have eu : (word (a.1 0) (num (crd a u))).toNat = (i 0).val / 256 := by
    have := congrFun e 0
    rw [show num (crd a ⟨k.val, k.isLt⟩) = k from Fin.ext (num_val a _)] at this
    exact this.trans hb
  refine Dat.arrAt_apply_of_mem ((rdat a m c).withAfter after) (4 : Fin 5) (result c m) (fun t ht => ?_) (cfg0 a).N u i u.isLt hu ?_
  · funext y
    exact settled a m c hr hs t.val t.isLt _ (hL (4 : Fin 5) t ht) y
  · have e2 : (((cfg0 a).win (4 : Fin 5)).blk u).view.emb (ix2 ⟨(i 0).val % 256, Nat.mod_lt _ (by decide)⟩ (i 1) : S256x1024.Idx) = i := by
      obtain ⟨p0, p1⟩ := place a u (ix2 ⟨(i 0).val % 256, Nat.mod_lt _ (by decide)⟩ (i 1))
      refine (funext fun d => Fin.ext ?_ : ((((cfg0 a).win (4 : Fin 5)).blk u).view.emb (ix2 ⟨(i 0).val % 256, Nat.mod_lt _ (by decide)⟩ (i 1)) : S141312x1024.Idx) = i)
      match d with
      | ⟨0, _⟩ => exact p0.trans (by rw [eu]; show (i 0).val / 256 * 256 + (i 0).val % 256 = (i 0).val; omega)
      | ⟨1, _⟩ => exact p1
    rw [← e2]
    exact View.emb_mem_set _ _

set_option backward.isDefEq.respectTransparency.types false in
/-- The kernel's run: every element of a block some counted step names ends at the call's value, the arguments as before. -/
theorem run_value (g : Dev nD → PrngReg) (hp : ∀ (c : Dev nD) (k : Fin 3), m ((c.tc : Thread nD τ).loc (pre0.ref k)) = a.1 k)
    (hr : Routed (a.1 0) (a.1 1) (a.1 2)) :
    θ_run (defs (F := Ideal)) (onTc (τ := τ) (main (F := Ideal))) ⟨m, fun _ => 0, g⟩ (fun r => ∀ c : Dev nD,
      (∀ i : S141312x1024.Idx, Visited (a.1 0) (a.1 2) ((i 0).val / 256) → r.2.mem ((c.tc : Thread nD τ).loc main_v0) i = result c m i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨array_at a m c hr r h.1,
    h.1.arr_in c (0 : Fin 5) rfl, h.1.arr_in c (1 : Fin 5) rfl, h.1.arr_in c (2 : Fin 5) rfl, h.1.arr_in c (3 : Fin 5) rfl,
    (h.1 c).2 main_arg4 (Pipeline.mem_restRefs_of main_arg4 (by decide) (no_arr4 a)),
    (h.1 c).2 main_arg5 (Pipeline.mem_restRefs_of main_arg5 (by decide) (no_arr5 a)),
    (h.1 c).2 main_arg6 (Pipeline.mem_restRefs_of main_arg6 (by decide) (no_arr6 a))⟩) (run a m g hp)

end Cert.ExpertIdeal.Steps

end
-- ==== Proof.ExpertReference.lean ====
/-
  THE EXPERT REFERENCE'S VALUE is the call's value (`ExpertSpec.ffn`) of its arguments: the rows regrouped by expert,
  three products batched over the experts and a SwiGLU between them. Then the claim: on the rows of every block that a
  counted step names, kernel and reference end with equal results.
-/
module

public import proofs.«01_k».proof.Defs
public import proofs.«01_k».proof.Proof.ExpertKernel
public import proofs.«01_k».proof.Proof.Gen.ExpertRefIdeal.Run
public import Idealize.ShloMosaic.Lib.Claim

@[expose] public section

set_option maxRecDepth 16384

noncomputable section

open Idealize.ShloMosaic Idealize.ShloMosaic.TcCoe Idealize.SL.Sem

namespace Cert.ExpertRefIdeal.Block

open Cert.ExpertRefIdeal Cert.ExpertRefIdeal.Gen Cert.FfnSpec

/-- The reference's result, element by element. -/
theorem value (x : FVec Ideal S141312x1024 .bf16) (w1 w3 : FVec Ideal S8x1024x2816 .bf16) (w2 : FVec Ideal S8x2816x1024 .bf16) :
    (truncf .bf16 (shapeCast _ (Host.dotGeneral dot_S8x17664x2816_S8x2816x1024_S8x17664x1024_2_1_1_2_0_0 none (mulf (mulf (Host.dotGeneral dot_S8x17664x1024_S8x1024x2816_S8x17664x2816_2_1_1_2_0_0 none (shapeCast _ (extf .f32 x bitsLt_bf16_f32) shapeCasts_S141312x1024_S8x17664x1024) (extf .f32 w1 bitsLt_bf16_f32)) (Host.divf (broadcastInDim S8x17664x2816 ![] bcast_S_S8x17664x2816 (constant S_ .f32 0x3F800000#32)) (addf (broadcastInDim S8x17664x2816 ![] bcast_S_S8x17664x2816 (constant S_ .f32 0x3F800000#32)) (Host.exp (Host.negf (Host.dotGeneral dot_S8x17664x1024_S8x1024x2816_S8x17664x2816_2_1_1_2_0_0 none (shapeCast _ (extf .f32 x bitsLt_bf16_f32) shapeCasts_S141312x1024_S8x17664x1024) (extf .f32 w1 bitsLt_bf16_f32))))))) (Host.dotGeneral dot_S8x17664x1024_S8x1024x2816_S8x17664x2816_2_1_1_2_0_0 none (shapeCast _ (extf .f32 x bitsLt_bf16_f32) shapeCasts_S141312x1024_S8x17664x1024) (extf .f32 w3 bitsLt_bf16_f32))) (extf .f32 w2 bitsLt_bf16_f32)) shapeCasts_S8x17664x1024_S141312x1024) bitsLt_bf16_f32 : FVec Ideal S141312x1024 .bf16)
      = ExpertSpec.ffn x w1 w3 w2 := by
  funext i
  have hi : (i 0).val < 141312 := (i 0).isLt
  unfold ExpertSpec.ffn ExpertSpec.through swiglu
  pointwise

end Cert.ExpertRefIdeal.Block

namespace Cert.Proof

/-- The expert kernel and its reference end with equal results, over the extended reals, on the rows the steps visit. -/
theorem expert_algebraic : Cert.algebraic_ExpertIdeal_ExpertRefIdeal_on_rows_visited_pre_routed (hExpertIdeal := Cert.ExpertIdeal.Gen.facts)
    (hExpertRefIdeal := Cert.ExpertRefIdeal.Gen.facts) (hPre_routed := Cert.Pre_routed.Gen.facts)
    (hOn_rows_visited := Cert.On_rows_visited.Gen.facts) := by
  intro m g m' g' hpre hagree
  have hr := Cert.Tables.routed_of _ _ _ _ _ _ _ (hpre 0)
  refine ⟨fun c => Cert.ExpertIdeal.Steps.result c m, ?_, ?_⟩
  · refine (θ_run Cert.ExpertIdeal.defs _ _).mono (fun r h c => ⟨fun i hi => (h c).1 i ?_, (h c).2⟩)
      (Cert.ExpertIdeal.Steps.run_value (Cert.ExpertIdeal.Steps.tab m hr.inRange) m g (Cert.ExpertIdeal.Steps.held_eq m) hr)
    obtain rfl : c = 0 := Subsingleton.elim _ _
    exact Cert.Tables.visited_of _ _ _ _ _ _ _ i hi
  · refine (θ_run Cert.ExpertRefIdeal.defs _ _).mono (fun r h c => ⟨fun i _ => congrFun ((h c).1.trans ?_) i, (h c).2⟩)
      (Cert.ExpertRefIdeal.Value.run (F := Ideal) m' g')
    rw [Cert.ExpertRefIdeal.Block.value, (hagree c).1, (hagree c).2.1, (hagree c).2.2.1, (hagree c).2.2.2.1]

end Cert.Proof

end
-- ==== Proof.RouteSpec.lean ====
/-
  THE ROUTING, over the extended reals: which two of a row's eight logits are chosen, the two gates, and the counts that
  place a row among the rows of its tile. Then the facts about choosing: the least position among the greatest entries, and
  the first two places of a stable sort.
-/
module

public import Idealize.ShloMosaic.Lib.SortPrefix
public import proofs.«01_k».proof.Proof.NormSpec

@[expose] public section

set_option maxRecDepth 16384

noncomputable section

namespace Cert.RouteSpec

open Idealize.ShloMosaic Cert.NormSpec
open scoped Classical

/-- The logit of expert `e` at row `n`: the normalised row times the router's column. -/
def logit (x : (⟨2, ![16384, 1024]⟩ : Shape).Idx → EReal) (g : (⟨1, ![1024]⟩ : Shape).Idx → EReal)
    (w : (⟨2, ![1024, 8]⟩ : Shape).Idx → EReal) (n : Fin 16384) (e : Fin 8) : EReal :=
  ∑ k : Fin 1024, rms 0x44800000#32 (fun l => x (ix2 n l)) (fun l => g (ix1 l)) k * w (ix2 k e)

/-- The greatest of eight entries. -/
def greatest (v : Fin 8 → EReal) : EReal := Finset.univ.fold max ⊥ v

/-- Entry `e` is the greatest, and of equal ones the earliest. -/
def Top (v : Fin 8 → EReal) (e : Fin 8) : Prop := ∀ b, v b ≤ v e ∧ (b < e → v b < v e)

/-- The entries without the first choice. -/
def rest (v : Fin 8 → EReal) (b : Fin 8) : EReal := if Top v b then ⊥ else v b

/-- Expert `e` is one of the two chosen. -/
def Routed (v : Fin 8 → EReal) (e : Fin 8) : Prop := Top v e ∨ Top (rest v) e

/-- The second logit's exponential relative to the first. -/
def ratio (v : Fin 8 → EReal) : EReal := Ideal.exp (greatest (rest v) - greatest v)

/-- The gate: the softmax of the two chosen logits, zero elsewhere. -/
def gate (v : Fin 8 → EReal) (e : Fin 8) : EReal :=
  if Top v e then Ideal.div 1 (1 + ratio v) else if Top (rest v) e then Ideal.div (ratio v) (1 + ratio v) else 0

/-- How many of a tile's rows are routed to an expert. -/
def count (q : Fin 256 → Prop) : ℕ := ∑ i, if q i then 1 else 0

/-- How many of them come before row `r`. -/
def before (q : Fin 256 → Prop) (r : Fin 256) : ℕ := ∑ i, if i < r ∧ q i then 1 else 0

/-- A count rounded up to a multiple of sixteen. -/
def seg (n : ℕ) : ℕ := (n + 15) / 16 * 16

/-- Where expert `e`'s rows begin in the tile's buffer. -/
def offset (c : Fin 8 → ℕ) (e : Fin 8) : ℕ := ∑ j, if j < e then seg (c j) else 0

/-- Row `i` of tile `T`. -/
def rowOf (T : Fin 64) (i : Fin 256) : Fin 16384 := ⟨T.val * 256 + i.val, by omega⟩

/-- The tile a row lies in. -/
def tileAt (n : Fin 16384) : Fin 64 := ⟨n.val / 256, by omega⟩

/-- A row's place in its tile. -/
def rowAt (n : Fin 16384) : Fin 256 := ⟨n.val % 256, by omega⟩

theorem tileAt_rowOf (T : Fin 64) (i : Fin 256) : tileAt (rowOf T i) = T :=
  Fin.ext (by show (T.val * 256 + i.val) / 256 = T.val; omega)

theorem rowAt_rowOf (T : Fin 64) (i : Fin 256) : rowAt (rowOf T i) = i :=
  Fin.ext (by show (T.val * 256 + i.val) % 256 = i.val; omega)

theorem rowOf_at (n : Fin 16384) : rowOf (tileAt n) (rowAt n) = n :=
  Fin.ext (by show n.val / 256 * 256 + n.val % 256 = n.val; omega)

/-- The rows of tile `T` routed to expert `e`. -/
def tile (v : Fin 16384 → Fin 8 → EReal) (T : Fin 64) (e : Fin 8) (i : Fin 256) : Prop := Routed (v (rowOf T i)) e

/-- A row's place among its expert's rows, `-1` where it is not routed. -/
def rankWord (v : Fin 16384 → Fin 8 → EReal) (T : Fin 64) (i : Fin 256) (e : Fin 8) : BitVec 32 :=
  if tile v T e i then BitVec.ofNat 32 (before (tile v T e) i) else -1#32

/-- A row's place in the tile's buffer, `-1` where it is not routed. -/
def posWord (v : Fin 16384 → Fin 8 → EReal) (T : Fin 64) (i : Fin 256) (e : Fin 8) : BitVec 32 :=
  if tile v T e i then BitVec.ofNat 32 (offset (fun j => count (tile v T j)) e + before (tile v T e) i) else -1#32

/-- The count as a word. -/
def countWord (v : Fin 16384 → Fin 8 → EReal) (T : Fin 64) (e : Fin 8) : BitVec 32 := BitVec.ofNat 32 (count (tile v T e))

/-- The places in the tiles' buffers, experts first. -/
abbrev places (v : Fin 16384 → Fin 8 → EReal) : (⟨2, ![8, 16384]⟩ : Shape).Idx → BitVec 32 :=
  fun i => posWord v (tileAt (i 1)) (rowAt (i 1)) (i 0)

/-- The places among the experts' rows. -/
abbrev ranks (v : Fin 16384 → Fin 8 → EReal) : (⟨2, ![16384, 8]⟩ : Shape).Idx → BitVec 32 :=
  fun i => rankWord v (tileAt (i 0)) (rowAt (i 0)) (i 1)

/-- The gates. -/
abbrev gates (v : Fin 16384 → Fin 8 → EReal) : (⟨2, ![16384, 8]⟩ : Shape).Idx → EReal := fun i => gate (v (i 0)) (i 1)

/-- The counts, the same on every lane. -/
abbrev counts (v : Fin 16384 → Fin 8 → EReal) : (⟨3, ![64, 8, 128]⟩ : Shape).Idx → BitVec 32 :=
  fun i => countWord v (i 0) (i 1)

theorem places_at (v : Fin 16384 → Fin 8 → EReal) (T : Fin 64) (e : Fin 8) (r : Fin 256) :
    places v (ix2 e (rowOf T r)) = posWord v T r e := by
  show posWord v (tileAt (rowOf T r)) (rowAt (rowOf T r)) e = _
  rw [tileAt_rowOf, rowAt_rowOf]

theorem ranks_at (v : Fin 16384 → Fin 8 → EReal) (T : Fin 64) (r : Fin 256) (e : Fin 8) :
    ranks v (ix2 (rowOf T r) e) = rankWord v T r e := by
  show rankWord v (tileAt (rowOf T r)) (rowAt (rowOf T r)) e = _
  rw [tileAt_rowOf, rowAt_rowOf]

theorem le_greatest (v : Fin 8 → EReal) (b : Fin 8) : v b ≤ greatest v :=
  (Finset.le_fold_max (b := (⊥ : EReal)) (v b)).mpr (Or.inr ⟨b, Finset.mem_univ b, le_rfl⟩)

theorem greatest_le (v : Fin 8 → EReal) (c : EReal) (h : ∀ b, v b ≤ c) : greatest v ≤ c :=
  (Finset.fold_max_le (b := (⊥ : EReal)) c).mpr ⟨bot_le, fun b _ => h b⟩

/-- The first choice's entry is the greatest. -/
theorem Top.eq_greatest {v : Fin 8 → EReal} {e : Fin 8} (h : Top v e) : v e = greatest v :=
  le_antisymm (le_greatest v e) (greatest_le v _ fun b => (h b).1)

/-- The first choice is the least position that holds the greatest entry. -/
theorem top_iff (v : Fin 8 → EReal) (e : Fin 8) : Top v e ↔ v e = greatest v ∧ ∀ b < e, v b ≠ greatest v := by
  constructor
  · intro h
    refine ⟨h.eq_greatest, fun b hb he => ?_⟩
    have := (h b).2 hb
    rw [he, h.eq_greatest] at this
    exact lt_irrefl _ this
  · rintro ⟨h1, h2⟩ b
    rw [h1]
    exact ⟨le_greatest v b, fun hb => lt_of_le_of_ne (le_greatest v b) (h2 b hb)⟩

theorem Top.unique {v : Fin 8 → EReal} {a b : Fin 8} (ha : Top v a) (hb : Top v b) : a = b := by
  rcases lt_trichotomy a b with h | h | h
  · exact absurd ((hb a).2 h) (not_lt.mpr (ha b).1)
  · exact h
  · exact absurd ((ha b).2 h) (not_lt.mpr (hb a).1)

theorem exists_top (v : Fin 8 → EReal) : ∃ e, Top v e := by
  obtain ⟨m, -, hm⟩ := Finset.exists_max_image Finset.univ v ⟨0, Finset.mem_univ _⟩
  have hne : (Finset.univ.filter fun b => v b = v m).Nonempty := ⟨m, by simp⟩
  refine ⟨(Finset.univ.filter fun b => v b = v m).min' hne, fun b => ?_⟩
  have he := (Finset.mem_filter.mp ((Finset.univ.filter fun b => v b = v m).min'_mem hne)).2
  rw [he]
  refine ⟨hm b (Finset.mem_univ b), fun hb => lt_of_le_of_ne (hm b (Finset.mem_univ b)) fun h => ?_⟩
  exact absurd (Finset.min'_le _ b (by simp [h])) (not_le.mpr hb)

/-- The least marked position, eight where none is marked: equal to `e` when `e` is marked and none before it. -/
theorem least_marked : ∀ (p : Fin 8 → Bool) (e : Fin 8),
    IntOp.cmpi CmpIPredicate.eq (BitVec.ofNat 32 e.val)
      (Finset.univ.fold IntOp.minsi 2147483647#32 fun b : Fin 8 => if p b = true then BitVec.ofNat 32 b.val else 8#32)
      = if p e = true ∧ ∀ b < e, p b = false then 1#1 else 0#1 := by
  decide +kernel

/-- The kernel's choice of the least position at the greatest entry. -/
theorem choose_eq (v : Fin 8 → EReal) (M : EReal) (hM : M = greatest v) (e : Fin 8) :
    IntOp.cmpi CmpIPredicate.eq (BitVec.ofNat 32 e.val)
      (Finset.univ.fold IntOp.minsi 2147483647#32 fun b : Fin 8 => if v b = M then BitVec.ofNat 32 b.val else 8#32)
      = if Top v e then 1#1 else 0#1 := by
  have h := least_marked (fun b => decide (v b = M)) e
  simp only [decide_eq_true_eq, decide_eq_false_iff_not] at h
  rw [h]
  refine if_congr ?_ rfl rfl
  rw [top_iff, hM]

/-- The second choice is another entry than the first, where the entries are above `⊥`. -/
theorem second_ne {v : Fin 8 → EReal} (hv : ∀ b, v b ≠ ⊥) {a c : Fin 8} (ha : Top v a) (hc : Top (rest v) c) : c ≠ a := by
  rintro rfl
  have hb : ∃ b : Fin 8, b ≠ c := ⟨c + 1, (by decide : ∀ c : Fin 8, c + 1 ≠ c) c⟩
  obtain ⟨b, hb⟩ := hb
  have h1 := (hc b).1
  rw [rest, rest, if_pos ha, if_neg fun ht => hb (Top.unique ht ha)] at h1
  exact hv b (le_bot_iff.mp h1)

theorem not_both {v : Fin 8 → EReal} (hv : ∀ b, v b ≠ ⊥) {e : Fin 8} (h1 : Top v e) (h2 : Top (rest v) e) : False :=
  second_ne hv h1 h2 rfl

theorem greatest_rest {v : Fin 8 → EReal} (hv : ∀ b, v b ≠ ⊥) {c : Fin 8} (hc : Top (rest v) c) :
    v c = greatest (rest v) := by
  rw [← hc.eq_greatest, rest, if_neg fun h => not_both hv h hc]

/-- A stable sort's order matters only for a later element against an earlier one. -/
theorem sortedFrom_late {n : ℕ} (R R' : Fin n → Fin n → Bool) (h : ∀ a b, a < b → R b a = R' b a) :
    sortedFrom R = sortedFrom R' := by
  have key : ∀ l : List (Fin n), l.Pairwise (· < ·) → stableSort R l = stableSort R' l := by
    intro l
    induction l with
    | nil => exact fun _ => rfl
    | cons a l ih =>
      intro hl
      rw [List.pairwise_cons] at hl
      unfold stableSort
      rw [ih hl.2]
      exact insertBefore_congr R R' a _ fun b hb => h a b (hl.1 b ((perm_stableSort R' l).mem_iff.mp hb))
  have e : sortPositions n R = sortPositions n R' := key _ (List.pairwise_lt_finRange n)
  funext k
  unfold sortedFrom
  rw [List.get_of_eq e]
  rfl

/-- The first two places of the stable descending sort are the two choices. -/
theorem sorted_two {v : Fin 8 → EReal} (hv : ∀ b, v b ≠ ⊥) {a c : Fin 8} (ha : Top v a) (hc : Top (rest v) c) :
    sortedFrom (fun k k' => Ideal.cmp .ogt (v k) (v k') == 1#1) (0 : Fin 8) = a
      ∧ sortedFrom (fun k k' => Ideal.cmp .ogt (v k) (v k') == 1#1) (1 : Fin 8) = c := by
  have hlt : ∀ x y : EReal, (Ideal.cmp .ogt x y == 1#1) = decide (y < x) := fun x y => by
    by_cases h : y < x <;> simp [Ideal.cmp, h]
  have hB := StrictTotalBefore.of_key_then_position (n := 8) (fun x y : EReal => decide (y < x)) v (by simp)
    (fun x y z h1 h2 => by simp only [decide_eq_true_eq] at *; exact h2.trans h1)
    (fun x y => by
      simp only [decide_eq_true_eq]
      rcases lt_trichotomy x y with h | h | h
      · exact Or.inr (Or.inr h)
      · exact Or.inr (Or.inl h)
      · exact Or.inl h)
  rw [sortedFrom_late _ (fun k k' => decide (v k' < v k) || (decide (v k = v k') && decide (k < k'))) fun a b hab => by
    rw [hlt, decide_eq_false (not_lt.mpr hab.le), Bool.and_false, Bool.or_false]]
  have hne := second_ne hv ha hc
  have r1 : ∀ p, (decide (v a < v p) || (decide (v p = v a) && decide (p < a))) = false := fun p => by
    simp only [Bool.or_eq_false_iff, Bool.and_eq_false_iff, decide_eq_false_iff_not]
    refine ⟨not_lt.mpr (ha p).1, ?_⟩
    by_cases hp : p < a
    · exact Or.inl ((ha p).2 hp).ne
    · exact Or.inr hp
  have hr : ∀ p, p ≠ a → rest v p = v p := fun p hp => by rw [rest, if_neg fun h => hp (h.unique ha)]
  have r2 : ∀ p, p ≠ a → (decide (v c < v p) || (decide (v p = v c) && decide (p < c))) = false := fun p hp => by
    have h := hc p
    rw [hr p hp, hr c hne] at h
    simp only [Bool.or_eq_false_iff, Bool.and_eq_false_iff, decide_eq_false_iff_not]
    refine ⟨not_lt.mpr h.1, ?_⟩
    by_cases hp : p < c
    · exact Or.inl (h.2 hp).ne
    · exact Or.inr hp
  have main := hB.sortedFrom_eq_of_prefix (k := 2) (by decide) ![a, c]
    (by
      intro i j hij
      fin_cases i <;> fin_cases j
      · rfl
      · exact absurd hij hne.symm
      · exact absurd hij hne
      · rfl)
    (by
      intro i j hij
      fin_cases i <;> fin_cases j
      · exact absurd hij (lt_irrefl _)
      · exact r1 c
      · exact absurd hij (by decide)
      · exact absurd hij (lt_irrefl _))
    (by
      intro i p hp
      fin_cases i
      · exact r1 p
      · exact r2 p (hp 0).symm)
  exact ⟨main 0, main 1⟩

theorem word_bot : Ideal.ofBits .f32 0xFF800000#32 = ⊥ := by simp [Ideal.ofBits, Ideal.ieee]

theorem select_bit {α : Type} (p : Prop) [Decidable p] (a b : α) : Scalar.select (if p then 1#1 else 0#1) a b = if p then a else b := by
  by_cases h : p <;> simp [Scalar.select, h]

theorem or_bit (p q : Prop) [Decidable p] [Decidable q] : IntOp.ori (if p then 1#1 else 0#1) (if q then 1#1 else 0#1) = if p ∨ q then 1#1 else 0#1 := by
  by_cases hp : p <;> by_cases hq : q <;> simp [hp, hq, IntOp.ori]

theorem count_le (q : Fin 256 → Prop) : RouteSpec.count q ≤ 256 :=
  (Finset.sum_le_card_nsmul Finset.univ _ 1 fun i _ => by split <;> omega).trans (by simp)

end Cert.RouteSpec

end
-- ==== Proof.RouteReference.lean ====
/-
  THE ROUTING REFERENCE'S CHOICES: its logits, its two greatest of each row with their positions, and the gates the softmax
  of the two gives.
-/
module

public import proofs.«01_k».proof.Proof.Gen.RouteRefIdeal.Read
public import proofs.«01_k».proof.Proof.RouteSpec
public import Idealize.ShloMosaic.Lib.Pointwise

@[expose] public section

set_option maxRecDepth 16384

noncomputable section

open Idealize.ShloMosaic Idealize.ShloMosaic.TcCoe Idealize.SL.Sem

namespace Cert.RouteRefIdeal.Block

open Cert.RouteRefIdeal Cert.RouteRefIdeal.Gen Cert.NormSpec Cert.RouteSpec Cert.RouteRefIdeal.Read
open scoped Classical

variable (x : FVec Ideal S16384x1024 .f32) (g : FVec Ideal S1024 .f32) (w : FVec Ideal S1024x8 .f32)

/-- The reference's logits. -/
theorem logits_at (n : Fin 16384) (e : Fin 8) : val_main_v13 (F := Ideal) x g w (ix2 n e) = logit x g w n e := by
  unfold logit rms scale
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The order of a row's entries the selection sorts by. -/
abbrev order (v : Fin 8 → EReal) (k : Fin 2) : Fin 8 :=
  sortedFrom (fun p q => Ideal.cmp .ogt (v p) (v q) == 1#1) (⟨k.val, by omega⟩ : Fin 8)

theorem along_row (n : Fin 16384) (k p : Fin 8) : (ix2 n k : (⟨2, ![16384, 8]⟩ : Shape).Idx).along 1 p = ix2 n p := by
  funext a
  fin_cases a <;> rfl

theorem slice_at {α : Type} (f : S16384x8.Idx → α) (n : Fin 16384) (k : Fin 2) :
    extractStridedSlice S16384x2 (fun _ => 0) f sliceFits_S16384x8_S16384x2 (ix2 n k) = f (ix2 n ⟨k.val, by omega⟩) := by
  refine congrArg f (funext fun a => Fin.ext ?_)
  match a with
  | ⟨0, _⟩ => exact Nat.zero_add _
  | ⟨1, _⟩ => exact Nat.zero_add _

theorem sort_at {β : Type} (y : FVec Ideal S16384x8 .f32) (z : S16384x8.Idx → β) (n : Fin 16384) (p : Fin 8) :
    (Host.sort2 S16384x8 1 (fun l r => FloatOps.cmpfTotal (F := Ideal) (φ := .f32) .gt l.1 r.1) y z).1 (ix2 n p)
        = y (ix2 n (sortedFrom (fun q r => Ideal.cmp .ogt (y (ix2 n q)) (y (ix2 n r)) == 1#1) p))
      ∧ (Host.sort2 S16384x8 1 (fun l r => FloatOps.cmpfTotal (F := Ideal) (φ := .f32) .gt l.1 r.1) y z).2 (ix2 n p)
        = z (ix2 n (sortedFrom (fun q r => Ideal.cmp .ogt (y (ix2 n q)) (y (ix2 n r)) == 1#1) p)) := by
  have e : (fun q r : Fin 8 => FloatOps.cmpfTotal (F := Ideal) (φ := .f32) .gt (y ((ix2 n p : S16384x8.Idx).along 1 q))
      (y ((ix2 n p : S16384x8.Idx).along 1 r)) == 1#1) = fun q r => Ideal.cmp .ogt (y (ix2 n q)) (y (ix2 n r)) == 1#1 := by
    funext q r
    rw [along_row, along_row]
    rfl
  unfold Host.sort2
  rw [dif_pos (show 1 < S16384x8.rank by decide)]
  exact ⟨(congrArg (fun R : Fin 8 → Fin 8 → Bool => y ((ix2 n p : S16384x8.Idx).along 1 (sortedFrom R p))) e).trans
      (congrArg y (along_row n p _)),
    (congrArg (fun R : Fin 8 → Fin 8 → Bool => z ((ix2 n p : S16384x8.Idx).along 1 (sortedFrom R p))) e).trans
      (congrArg z (along_row n p _))⟩

theorem topK_at (y : FVec Ideal S16384x8 .f32) (n : Fin 16384) (k : Fin 2) :
    (Host.topK S16384x2 1 (FloatOps.cmpfTotal (F := Ideal) (φ := .f32) .gt) y sliceFits_S16384x8_S16384x2).1 (ix2 n k)
        = y (ix2 n (order (fun p => y (ix2 n p)) k))
      ∧ (Host.topK S16384x2 1 (FloatOps.cmpfTotal (F := Ideal) (φ := .f32) .gt) y sliceFits_S16384x8_S16384x2).2 (ix2 n k)
        = BitVec.ofNat 32 (order (fun p => y (ix2 n p)) k).val := by
  have h := sort_at y (fun i : S16384x8.Idx => if hd : 1 < S16384x8.rank then iotaInDim S16384x8 32 ⟨1, hd⟩ i else 0#32) n
    ⟨k.val, by omega⟩
  refine ⟨(slice_at _ n k).trans h.1, (slice_at _ n k).trans (h.2.trans ?_)⟩
  exact (dif_pos (show 1 < S16384x8.rank by decide)).trans rfl

/-- The two greatest logits. -/
theorem values_at (n : Fin 16384) (k : Fin 2) :
    val_main_values (F := Ideal) x g w (ix2 n k) = logit x g w n (order (logit x g w n) k) := by
  refine (topK_at (val_main_v13 (F := Ideal) x g w) n k).1.trans ?_
  simp only [logits_at]

/-- Their positions. -/
theorem indices_at (n : Fin 16384) (k : Fin 2) :
    val_main_indices (F := Ideal) x g w (ix2 n k) = BitVec.ofNat 32 (order (logit x g w n) k).val := by
  refine (topK_at (val_main_v13 (F := Ideal) x g w) n k).2.trans ?_
  simp only [logits_at]

theorem fold_two {α : Type} (op : α → α → α) [Std.Commutative op] [Std.Associative op] (b : α) (f : Fin 2 → α) :
    Finset.univ.fold op b f = op (f 0) (op (f 1) b) := rfl

theorem word_zero : Ideal.ofBits .f32 0#32 = 0 := by simp [Ideal.ofBits, Ideal.ieee]

theorem eq_place : ∀ a b : Fin 8, IntOp.cmpi CmpIPredicate.eq (BitVec.ofNat 32 a.val) (BitVec.ofNat 32 b.val)
    = if a = b then 1#1 else 0#1 := by
  decide

section row

variable (n : Fin 16384) (a c : Fin 8) (ha : Top (logit x g w n) a) (hc : Top (rest (logit x g w n)) c)
  (hv : ∀ b, ∃ r : ℝ, logit x g w n b = r)
include ha hc hv

theorem above_bot (b : Fin 8) : logit x g w n b ≠ ⊥ := by
  obtain ⟨r, hr⟩ := hv b
  rw [hr]
  exact EReal.coe_ne_bot r

theorem order_at : order (logit x g w n) 0 = a ∧ order (logit x g w n) 1 = c :=
  sorted_two (above_bot x g w n a c ha hc hv) ha hc

theorem v16_at : val_main_v16 (F := Ideal) x g w (ix1 n) = greatest (logit x g w n) := by
  have h : val_main_v16 (F := Ideal) x g w (ix1 n) = max (Ideal.ofBits .f32 0xFF800000#32)
      (Finset.univ.fold max (Ideal.ofBits .f32 0xFF800000#32) fun k : Fin 2 => val_main_values (F := Ideal) x g w (ix2 n k)) := by
    unfold val_main_v16 val_main_v15 val_main_v14
    generalize val_main_values (F := Ideal) x g w = y
    pointwise [val_main_cst_2, val_main_cst_3]
  obtain ⟨e0, e1⟩ := order_at x g w n a c ha hc hv
  have hle := (ha c).1
  rw [h, word_bot, fold_two, values_at, values_at, e0, e1, max_bot_left, max_bot_right, max_eq_left hle, ha.eq_greatest]

theorem v20_at : val_main_v20 (F := Ideal) x g w (ix2 n 0) = 1
    ∧ val_main_v20 (F := Ideal) x g w (ix2 n 1) = ratio (logit x g w n) := by
  have h : ∀ k : Fin 2, val_main_v20 (F := Ideal) x g w (ix2 n k)
      = Ideal.exp (val_main_values (F := Ideal) x g w (ix2 n k) - val_main_v16 (F := Ideal) x g w (ix1 n)) := fun k => by
    unfold val_main_v20 val_main_v19 val_main_v18 val_main_v17
    generalize val_main_values (F := Ideal) x g w = y
    generalize val_main_v16 (F := Ideal) x g w = z
    pointwise
  obtain ⟨e0, e1⟩ := order_at x g w n a c ha hc hv
  rw [h, h, v16_at x g w n a c ha hc hv, values_at, values_at, e0, e1]
  constructor
  · obtain ⟨r, hr⟩ := hv a
    rw [← ha.eq_greatest, hr, ← EReal.coe_sub, sub_self, Ideal.exp_coe, Real.exp_zero, EReal.coe_one]
  · rw [greatest_rest (above_bot x g w n a c ha hc hv) hc, ratio]

/-- The two gates. -/
theorem v24_at : val_main_v24 (F := Ideal) x g w (ix2 n 0) = Ideal.div 1 (1 + ratio (logit x g w n))
    ∧ val_main_v24 (F := Ideal) x g w (ix2 n 1) = Ideal.div (ratio (logit x g w n)) (1 + ratio (logit x g w n)) := by
  have h : ∀ k : Fin 2, val_main_v24 (F := Ideal) x g w (ix2 n k)
      = Ideal.div (val_main_v20 (F := Ideal) x g w (ix2 n k))
        (Ideal.ofBits .f32 0#32 + ∑ j : Fin 2, val_main_v20 (F := Ideal) x g w (ix2 n j)) := fun k => by
    unfold val_main_v24 val_main_v23 val_main_v22 val_main_v21
    generalize val_main_v20 (F := Ideal) x g w = y
    pointwise [val_main_cst_4]
  obtain ⟨e0, e1⟩ := v20_at x g w n a c ha hc hv
  rw [h, h, Fin.sum_univ_two, e0, e1, word_zero, zero_add]
  exact ⟨rfl, rfl⟩

/-- Whether the choice of rank `k` is expert `e`. -/
theorem v30_at (e : Fin 8) : val_main_v30 (F := Ideal) x g w (ix3 n 0 e) = (if Top (logit x g w n) e then 1#1 else 0#1)
    ∧ val_main_v30 (F := Ideal) x g w (ix3 n 1 e) = if Top (rest (logit x g w n)) e then 1#1 else 0#1 := by
  have h : ∀ k : Fin 2, val_main_v30 (F := Ideal) x g w (ix3 n k e)
      = IntOp.cmpi CmpIPredicate.eq (val_main_indices (F := Ideal) x g w (ix2 n k)) (BitVec.ofNat 32 e.val) := fun k => by
    unfold val_main_v30 val_main_v29 val_main_v28 val_main_v27 val_main_v25 val_main_v26
    generalize val_main_indices (F := Ideal) x g w = y
    pointwise
  obtain ⟨e0, e1⟩ := order_at x g w n a c ha hc hv
  rw [h, h, indices_at, indices_at, e0, e1, eq_place, eq_place]
  exact ⟨if_congr ⟨fun he => he ▸ ha, fun he => ha.unique he⟩ rfl rfl,
    if_congr ⟨fun he => he ▸ hc, fun he => hc.unique he⟩ rfl rfl⟩

/-- Which experts a row is routed to. -/
theorem v31_at (e : Fin 8) : val_main_v31 (F := Ideal) x g w (ix2 n e) = if Routed (logit x g w n) e then 1#1 else 0#1 := by
  have h : val_main_v31 (F := Ideal) x g w (ix2 n e)
      = Finset.univ.fold IntOp.ori 0#1 fun k : Fin 2 => val_main_v30 (F := Ideal) x g w (ix3 n k e) := by
    unfold val_main_v31
    generalize val_main_v30 (F := Ideal) x g w = y
    pointwise [val_main_c]
  obtain ⟨e0, e1⟩ := v30_at x g w n a c ha hc hv e
  rw [h, fold_two, e0, e1, show IntOp.ori (if Top (rest (logit x g w n)) e then 1#1 else 0#1) 0#1
    = if Top (rest (logit x g w n)) e then 1#1 else 0#1 by split <;> rfl, or_bit]
  exact if_congr Iff.rfl rfl rfl

/-- The gates of a row. -/
theorem v34_at (e : Fin 8) : val_main_v34 (F := Ideal) x g w (ix2 n e) = gate (logit x g w n) e := by
  have h : val_main_v34 (F := Ideal) x g w (ix2 n e) = Ideal.ofBits .f32 0#32
      + ∑ k : Fin 2, Scalar.select (val_main_v30 (F := Ideal) x g w (ix3 n k e)) (val_main_v24 (F := Ideal) x g w (ix2 n k))
        (Ideal.ofBits .f32 0#32) := by
    unfold val_main_v34 val_main_v33 val_main_call0_v2 val_main_call0_v1 val_main_v32
    generalize val_main_v30 (F := Ideal) x g w = y
    generalize val_main_v24 (F := Ideal) x g w = z
    pointwise [val_main_cst_6, val_main_call0_v0, val_main_cst_5]
    exact Finset.sum_congr rfl fun k _ => congrArg _ word_zero
  obtain ⟨e0, e1⟩ := v30_at x g w n a c ha hc hv e
  obtain ⟨d0, d1⟩ := v24_at x g w n a c ha hc hv
  rw [h, Fin.sum_univ_two, e0, e1, d0, d1, word_zero, zero_add, select_bit, select_bit, gate]
  by_cases h1 : Top (logit x g w n) e
  · rw [if_pos h1, if_pos h1, if_neg fun h2 => not_both (above_bot x g w n a c ha hc hv) h1 h2, add_zero]
  · rw [if_neg h1, if_neg h1, zero_add]

end row

end Cert.RouteRefIdeal.Block

end
-- ==== Proof.RouteSums.lean ====
/-
  SUMS OF WORDS: a sum over a window that ends at the entry, a reduction over one axis, and the words of counted rows.
-/
module

public import Idealize.ShloMosaic.Lib.StableHlo
public import Mathlib.Data.BitVec
public import Idealize.ShloMosaic.Lib.Pointwise
public import proofs.«01_k».proof.Proof.RouteSpec

@[expose] public section

set_option maxRecDepth 16384

noncomputable section

open Idealize.ShloMosaic

namespace Cert.RouteSums

/-- A left fold of additions is the start plus the sum. -/
theorem fold_add {ι : Type} (f : ι → BitVec 32) (l : List ι) : ∀ v : BitVec 32,
    l.foldl (fun r n => IntOp.addi r (f n)) v = v + (l.map f).sum := by
  induction l with
  | nil => intro v; simp
  | cons a l ih =>
    intro v
    rw [List.foldl_cons, ih, List.map_cons, List.sum_cons, ← add_assoc]
    rfl

/-- A window as long as the axis that ends at entry `r` covers the entries up to `r`. -/
theorem window_sum {N : ℕ} (r : Fin (N + 1)) (g : Fin (N + 1) → BitVec 32) :
    (∑ k : Fin (N + 1), if h : N ≤ r.val + k.val ∧ r.val + k.val - N < N + 1 then g ⟨r.val + k.val - N, h.2⟩ else 0)
      = ∑ i : Fin (N + 1), if i ≤ r then g i else 0 := by
  have hr := r.isLt
  have e : ∀ k : Fin (N + 1), (if h : N ≤ r.val + k.val ∧ r.val + k.val - N < N + 1 then g ⟨r.val + k.val - N, h.2⟩ else 0)
      = if N ≤ r.val + k.val then g ⟨r.val + k.val - N, by have := k.isLt; omega⟩ else 0 := fun k => by
    have hk := k.isLt
    by_cases h : N ≤ r.val + k.val
    · rw [dif_pos ⟨h, by omega⟩, if_pos h]
    · rw [dif_neg fun q => h q.1, if_neg h]
  rw [Finset.sum_congr rfl fun k _ => e k, ← Finset.sum_filter, ← Finset.sum_filter]
  refine Finset.sum_bij' (fun k _ => ⟨r.val + k.val - N, by have := k.isLt; omega⟩)
    (fun i hi => ⟨i.val + N - r.val, by
      have h1 : i ≤ r := (Finset.mem_filter.mp hi).2
      rw [Fin.le_def] at h1
      omega⟩) ?_ ?_ ?_ ?_ ?_
  · intro k hk
    have hk' := k.isLt
    refine Finset.mem_filter.mpr ⟨Finset.mem_univ _, ?_⟩
    rw [Fin.le_def]
    show r.val + k.val - N ≤ r.val
    omega
  · intro i hi
    have h1 : i ≤ r := (Finset.mem_filter.mp hi).2
    rw [Fin.le_def] at h1
    refine Finset.mem_filter.mpr ⟨Finset.mem_univ _, ?_⟩
    show N ≤ r.val + (i.val + N - r.val)
    omega
  · intro k hk
    have h1 : N ≤ r.val + k.val := (Finset.mem_filter.mp hk).2
    refine Fin.ext ?_
    show r.val + k.val - N + N - r.val = k.val
    omega
  · intro i hi
    have h1 : i ≤ r := (Finset.mem_filter.mp hi).2
    rw [Fin.le_def] at h1
    refine Fin.ext ?_
    show r.val + (i.val + N - r.val) - N = i.val
    omega
  · intro k _
    rfl

/-- The running sum down the second axis of three. -/
theorem running3 (x : IVec ⟨3, ![64, 256, 8]⟩ 32) (init : IVec ⟨0, ![]⟩ 32) (h0 : ∀ i, init i = 0#32)
    (h : (⟨3, ![64, 256, 8]⟩ : Shape).ReduceWindows ![1, 256, 1] ![1, 1, 1] ![0, 255, 0] ![0, 0, 0] ⟨3, ![64, 256, 8]⟩)
    (hu : 0 < (⟨0, ![]⟩ : Shape).numel) (T : Fin 64) (r : Fin 256) (e : Fin 8) :
    Host.reduceWindow IntOp.addi ![1, 256, 1] ![1, 1, 1] ![0, 255, 0] ![0, 0, 0] x init h hu (ix3 T r e)
      = ∑ i : Fin 256, if i ≤ r then x (ix3 T i e) else 0 := by
  unfold Host.reduceWindow
  rw [fold_add, h0, ← Fin.sum_univ_def]
  refine (zero_add _).trans ?_
  rw [← window_sum (N := 255) r fun i => x (ix3 T i e)]
  refine Fintype.sum_equiv ((⟨3, ![1, 256, 1]⟩ : Shape).rowMajor.symm.trans
    ⟨fun w => w 1, fun k => ix3 (0 : Fin 1) k (0 : Fin 1), fun w => ?_, fun k => rfl⟩) _ _ fun n => ?_
  · rw [eq_ix3 w]
    exact congrArg₂ (fun a b => ix3 a (w 1) b) (Subsingleton.elim _ _) (Subsingleton.elim _ _)
  have w0 : ((⟨3, ![1, 256, 1]⟩ : Shape).rowMajor.symm n 0).val = 0 := Nat.lt_one_iff.mp ((⟨3, ![1, 256, 1]⟩ : Shape).rowMajor.symm n 0).isLt
  have w1 : ((⟨3, ![1, 256, 1]⟩ : Shape).rowMajor.symm n 1).val < 256 := ((⟨3, ![1, 256, 1]⟩ : Shape).rowMajor.symm n 1).isLt
  have w2 : ((⟨3, ![1, 256, 1]⟩ : Shape).rowMajor.symm n 2).val = 0 := Nat.lt_one_iff.mp ((⟨3, ![1, 256, 1]⟩ : Shape).rowMajor.symm n 2).isLt
  have hT := T.isLt
  have hr := r.isLt
  have he := e.isLt
  by_cases hk : 255 ≤ r.val + ((⟨3, ![1, 256, 1]⟩ : Shape).rowMajor.symm n 1).val
  · rw [dif_pos fun a => by
      match a with
      | ⟨0, _⟩ => exact ⟨Nat.zero_le _, show T.val * 1 + ((⟨3, ![1, 256, 1]⟩ : Shape).rowMajor.symm n 0).val - 0 < 64 by omega⟩
      | ⟨1, _⟩ => exact ⟨show 255 ≤ r.val * 1 + ((⟨3, ![1, 256, 1]⟩ : Shape).rowMajor.symm n 1).val by omega, show r.val * 1 + ((⟨3, ![1, 256, 1]⟩ : Shape).rowMajor.symm n 1).val - 255 < 256 by omega⟩
      | ⟨2, _⟩ => exact ⟨Nat.zero_le _, show e.val * 1 + ((⟨3, ![1, 256, 1]⟩ : Shape).rowMajor.symm n 2).val - 0 < 8 by omega⟩, dif_pos ⟨hk, by omega⟩]
    refine congrArg x (funext fun a => Fin.ext ?_)
    match a with
    | ⟨0, _⟩ => show T.val * 1 + ((⟨3, ![1, 256, 1]⟩ : Shape).rowMajor.symm n 0).val - 0 = T.val; omega
    | ⟨1, _⟩ => show r.val * 1 + ((⟨3, ![1, 256, 1]⟩ : Shape).rowMajor.symm n 1).val - 255 = r.val + ((⟨3, ![1, 256, 1]⟩ : Shape).rowMajor.symm n 1).val - 255; omega
    | ⟨2, _⟩ => show e.val * 1 + ((⟨3, ![1, 256, 1]⟩ : Shape).rowMajor.symm n 2).val - 0 = e.val; omega
  · rw [dif_neg fun q => hk (by
      have h1 : 255 ≤ r.val * 1 + ((⟨3, ![1, 256, 1]⟩ : Shape).rowMajor.symm n 1).val := (q 1).1
      omega), dif_neg fun q => hk q.1]
    rfl

/-- The running sum along the second axis of two. -/
theorem running2 (x : IVec ⟨2, ![64, 8]⟩ 32) (init : IVec ⟨0, ![]⟩ 32) (h0 : ∀ i, init i = 0#32)
    (h : (⟨2, ![64, 8]⟩ : Shape).ReduceWindows ![1, 8] ![1, 1] ![0, 7] ![0, 0] ⟨2, ![64, 8]⟩)
    (hu : 0 < (⟨0, ![]⟩ : Shape).numel) (T : Fin 64) (e : Fin 8) :
    Host.reduceWindow IntOp.addi ![1, 8] ![1, 1] ![0, 7] ![0, 0] x init h hu (ix2 T e)
      = ∑ i : Fin 8, if i ≤ e then x (ix2 T i) else 0 := by
  unfold Host.reduceWindow
  rw [fold_add, h0, ← Fin.sum_univ_def]
  refine (zero_add _).trans ?_
  rw [← window_sum (N := 7) e fun i => x (ix2 T i)]
  refine Fintype.sum_equiv ((⟨2, ![1, 8]⟩ : Shape).rowMajor.symm.trans
    ⟨fun w => w 1, fun k => ix2 (0 : Fin 1) k, fun w => ?_, fun k => rfl⟩) _ _ fun n => ?_
  · rw [eq_ix2 w]
    exact congrArg (fun a => ix2 a (w 1)) (Subsingleton.elim _ _)
  have w0 : ((⟨2, ![1, 8]⟩ : Shape).rowMajor.symm n 0).val = 0 := Nat.lt_one_iff.mp ((⟨2, ![1, 8]⟩ : Shape).rowMajor.symm n 0).isLt
  have w1 : ((⟨2, ![1, 8]⟩ : Shape).rowMajor.symm n 1).val < 8 := ((⟨2, ![1, 8]⟩ : Shape).rowMajor.symm n 1).isLt
  have hT := T.isLt
  have he := e.isLt
  by_cases hk : 7 ≤ e.val + ((⟨2, ![1, 8]⟩ : Shape).rowMajor.symm n 1).val
  · rw [dif_pos fun a => by
      match a with
      | ⟨0, _⟩ => exact ⟨Nat.zero_le _, show T.val * 1 + ((⟨2, ![1, 8]⟩ : Shape).rowMajor.symm n 0).val - 0 < 64 by omega⟩
      | ⟨1, _⟩ => exact ⟨show 7 ≤ e.val * 1 + ((⟨2, ![1, 8]⟩ : Shape).rowMajor.symm n 1).val by omega, show e.val * 1 + ((⟨2, ![1, 8]⟩ : Shape).rowMajor.symm n 1).val - 7 < 8 by omega⟩, dif_pos ⟨hk, by omega⟩]
    refine congrArg x (funext fun a => Fin.ext ?_)
    match a with
    | ⟨0, _⟩ => show T.val * 1 + ((⟨2, ![1, 8]⟩ : Shape).rowMajor.symm n 0).val - 0 = T.val; omega
    | ⟨1, _⟩ => show e.val * 1 + ((⟨2, ![1, 8]⟩ : Shape).rowMajor.symm n 1).val - 7 = e.val + ((⟨2, ![1, 8]⟩ : Shape).rowMajor.symm n 1).val - 7; omega
  · rw [dif_neg fun q => hk (by
      have h1 : 7 ≤ e.val * 1 + ((⟨2, ![1, 8]⟩ : Shape).rowMajor.symm n 1).val := (q 1).1
      omega), dif_neg fun q => hk q.1]
    rfl

/-- The word of a sum is the sum of the words. -/
theorem word_sum {ι : Type} (S : Finset ι) (f : ι → ℕ) :
    ∑ i ∈ S, BitVec.ofNat 32 (f i) = BitVec.ofNat 32 (∑ i ∈ S, f i) := by
  classical
  induction S using Finset.induction_on with
  | empty => rfl
  | insert i S hi ih => rw [Finset.sum_insert hi, Finset.sum_insert hi, ih, BitVec.ofNat_add]

/-- The running sum less the entry's own is the sum of the entries before it. -/
theorem sum_before {N : ℕ} (f : Fin N → ℕ) (r : Fin N) :
    IntOp.subi (∑ i, if i ≤ r then BitVec.ofNat 32 (f i) else 0) (BitVec.ofNat 32 (f r))
      = BitVec.ofNat 32 (∑ i, if i < r then f i else 0) := by
  have e1 : ∀ i, (if i ≤ r then BitVec.ofNat 32 (f i) else 0) = BitVec.ofNat 32 (if i ≤ r then f i else 0) := fun i => by
    split <;> rfl
  have e2 : (∑ i, if i ≤ r then f i else 0) = (∑ i, if i < r then f i else 0) + f r := by
    rw [show f r = ∑ i, if i = r then f i else 0 from ((Finset.sum_ite_eq' Finset.univ r f).trans (if_pos (Finset.mem_univ r))).symm,
      ← Finset.sum_add_distrib]
    refine Finset.sum_congr rfl fun i _ => ?_
    rcases lt_trichotomy i r with h | h | h
    · simp [h, h.le, h.ne]
    · simp [h]
    · simp [not_le.mpr h, not_lt.mpr h.le, h.ne']
  simp only [e1]
  rw [word_sum, e2, BitVec.ofNat_add]
  exact add_sub_cancel_right _ _

/-- The rounded count, divided with the remainder's sign put right, as words. -/
theorem seg_word : ∀ n : Fin 257,
    IntOp.muli (Scalar.select
      (IntOp.andi
        (IntOp.cmpi .ne (signi (s := ⟨0, ![]⟩) (fun _ => IntOp.addi (BitVec.ofNat 32 n.val) 15#32) ix0)
          (signi (s := ⟨0, ![]⟩) (fun _ => 16#32) ix0))
        (IntOp.cmpi .ne (IntOp.remsi .host (IntOp.addi (BitVec.ofNat 32 n.val) 15#32) 16#32) 0#32))
      (IntOp.subi (IntOp.divsi .host (IntOp.addi (BitVec.ofNat 32 n.val) 15#32) 16#32) 1#32)
      (IntOp.divsi .host (IntOp.addi (BitVec.ofNat 32 n.val) 15#32) 16#32)) 16#32
      = BitVec.ofNat 32 ((n.val + 15) / 16 * 16) := by
  decide +kernel

end Cert.RouteSums

end
-- ==== Proof.RouteFinite.lean ====
/-
  THE ROUTING'S PRECONDITION. `real_weights` of the arguments is one: every entry of the gain and the router is a real
  number. Then every logit is one, whatever the rows: a row with an infinite entry has the scale 0.
-/
module

public import proofs.«01_k».proof.Defs
public import proofs.«01_k».proof.Proof.AttnFinite
public import proofs.«01_k».proof.Proof.RouteSpec

@[expose] public section

set_option maxRecDepth 16384

noncomputable section

open Idealize.ShloMosaic

namespace Cert.Pre_real_weights

open Cert.NormSpec Cert.RouteSpec

/-- The side conditions of the precondition's operations. -/
theorem facts : Facts := ⟨by decide, by decide, by decide, by decide, by decide⟩

/-- The precondition's meaning. -/
theorem real (x : FVec Ideal S16384x1024 .f32) (g : FVec Ideal S1024 .f32) (w : FVec Ideal S1024x8 .f32)
    (h : @fn facts Ideal _ x g w = fun _ => 1#1) :
    (∀ i, ∃ r : ℝ, (g i : EReal) = r) ∧ ∀ i, ∃ r : ℝ, (w i : EReal) = r := by
  have _ : Subsingleton S_.Idx := ⟨fun a b => funext fun k => k.elim0⟩
  obtain ⟨h1, h2⟩ := Pre_real_scores.and_one _ _ (congrFun h fun k => k.elim0)
  refine ⟨fun i => Pre_real_scores.real_of_abs _ ?_, fun i => Pre_real_scores.real_of_abs _ ?_⟩
  · rw [← Pre_real_scores.inf_f32]
    exact Host.reduce_andi_all _ _ _ _ _ h1 i
  · rw [← Pre_real_scores.inf_f32]
    exact Host.reduce_andi_all _ _ _ _ _ h2 i

theorem real_sum {n : ℕ} (a : Fin n → ℝ) : ∑ k, ((a k : ℝ) : EReal) = ((∑ k, a k : ℝ) : EReal) := by
  suffices h : ∀ S : Finset (Fin n), ∑ k ∈ S, ((a k : ℝ) : EReal) = ((∑ k ∈ S, a k : ℝ) : EReal) from h _
  intro S
  induction S using Finset.induction_on with
  | empty => simp
  | insert i S hi ih => rw [Finset.sum_insert hi, Finset.sum_insert hi, ih, EReal.coe_add]

theorem word_1024 : Ideal.ofBits .f32 0x44800000#32 = ((1024 : ℝ) : EReal) := by
  simp [Ideal.ofBits, Ideal.ieee]
  rw [← EReal.coe_mul]
  norm_num

theorem word_eps : ∃ r : ℝ, 0 < r ∧ Ideal.ofBits .f32 0x358637BD#32 = ((r : ℝ) : EReal) := by
  refine ⟨8796093 * (2 ^ 43)⁻¹, by norm_num, ?_⟩
  simp [Ideal.ofBits, Ideal.ieee]

/-- A row's scale is a real number: the mean of its squares plus `ε` is positive. -/
theorem scale_real (v : Fin 1024 → EReal) (hv : ∀ k, ∃ r : ℝ, v k = r) : ∃ r : ℝ, scale 0x44800000#32 v = r := by
  choose a ha using hv
  obtain ⟨ε, hε, he⟩ := word_eps
  have hs : (∑ l, v l * v l) = ((∑ l, a l * a l : ℝ) : EReal) := by
    rw [← real_sum]
    exact Finset.sum_congr rfl fun l _ => by rw [ha, EReal.coe_mul]
  have h0 : 0 ≤ ∑ l, a l * a l := Finset.sum_nonneg fun l _ => mul_self_nonneg _
  have hp : 0 < (∑ l, a l * a l) * (1 / 1024) + ε := by positivity
  refine ⟨(Real.sqrt ((∑ l, a l * a l) * (1 / 1024) + ε))⁻¹, ?_⟩
  rw [scale, hs, word_1024, he, Ideal.div_coe (by norm_num), ← EReal.coe_mul, ← EReal.coe_add, Ideal.rsqrt_coe,
    if_neg (not_lt.mpr hp.le), if_neg hp.ne']

theorem square_nonneg (v : EReal) : 0 ≤ v * v := by
  induction v with
  | bot => rw [EReal.bot_mul_bot]; exact le_top
  | top => rw [EReal.top_mul_top]; exact le_top
  | coe r => rw [← EReal.coe_mul]; exact EReal.coe_nonneg.mpr (mul_self_nonneg r)

/-- A row with an infinite entry has the scale 0. -/
theorem scale_zero (v : Fin 1024 → EReal) (k : Fin 1024) (hk : v k * v k = ⊤) : scale 0x44800000#32 v = 0 := by
  obtain ⟨ε, -, he⟩ := word_eps
  have hs : (∑ l, v l * v l) = ⊤ :=
    top_le_iff.mp (hk ▸ Finset.single_le_sum (f := fun l => v l * v l) (fun l _ => square_nonneg (v l)) (Finset.mem_univ k))
  rw [scale, hs, word_1024, he, Ideal.div_coe (by norm_num), EReal.top_mul_coe_of_pos (by norm_num), EReal.top_add_coe]
  rfl

/-- A row's normalised entries are real numbers, whatever the row. -/
theorem scaled_real (v : Fin 1024 → EReal) : ∃ a : Fin 1024 → ℝ, ∀ k, v k * scale 0x44800000#32 v = a k := by
  by_cases hv : ∀ k, ∃ r : ℝ, v k = r
  · obtain ⟨s, hs⟩ := scale_real v hv
    choose a ha using hv
    exact ⟨fun k => a k * s, fun k => by rw [hs, ha, EReal.coe_mul]⟩
  · obtain ⟨k, hk⟩ := not_forall.mp hv
    have ht : v k * v k = ⊤ := by
      cases h : v k with
      | bot => exact EReal.bot_mul_bot
      | top => exact EReal.top_mul_top
      | coe r => exact absurd ⟨r, h⟩ hk
    exact ⟨fun _ => 0, fun l => by rw [scale_zero v k ht, mul_zero, EReal.coe_zero]⟩

/-- Every logit is a real number. -/
theorem logit_real (x : FVec Ideal S16384x1024 .f32) (g : FVec Ideal S1024 .f32) (w : FVec Ideal S1024x8 .f32)
    (h : @fn facts Ideal _ x g w = fun _ => 1#1) (n : Fin 16384) (e : Fin 8) : ∃ r : ℝ, logit x g w n e = r := by
  obtain ⟨hg, hw⟩ := real x g w h
  obtain ⟨a, ha⟩ := scaled_real fun l => x (ix2 n l)
  choose b hb using hg
  choose c hc using hw
  refine ⟨∑ k : Fin 1024, a k * b (ix1 k) * c (ix2 k e), ?_⟩
  rw [← real_sum, logit]
  refine Finset.sum_congr rfl fun k _ => ?_
  rw [rms, ha, hb, hc, EReal.coe_mul, EReal.coe_mul]

end Cert.Pre_real_weights

end
-- ==== Proof.RouteBlock.lean ====
/-
  ONE TILE OF THE ROUTING KERNEL: each stage of the body read at an index, from the tile's logits to the four stored values.
-/
module

public import proofs.«01_k».proof.Proof.Gen.RouteIdeal.Skeleton
public import Idealize.ShloMosaic.Lib.Pipeline.ValueKit
public import Idealize.ShloMosaic.Lib.Pointwise
public import proofs.«01_k».proof.Proof.RouteSpec

@[expose] public section

set_option maxRecDepth 16384

noncomputable section

open Idealize.ShloMosaic Idealize.ShloMosaic.TcCoe Idealize.SL.Sem

namespace Cert.RouteIdeal.Block

open Cert.RouteIdeal Cert.RouteIdeal.Gen Cert.NormSpec Cert.RouteSpec
open scoped Classical

/-! ## Words and naturals -/

theorem word_neg_one : Ideal.ofBits .f32 0xBF800000#32 = ((-1 : ℝ) : EReal) := by
  simp [Ideal.ofBits, Ideal.ieee]
  rw [← EReal.coe_mul]
  norm_num

theorem word_fifteen : Ideal.ofBits .f32 0x41700000#32 = ((15 : ℝ) : EReal) := by
  simp [Ideal.ofBits, Ideal.ieee]
  rw [← EReal.coe_mul]
  norm_num

theorem word_sixteenth : Ideal.ofBits .f32 0x3D800000#32 = ((1 / 16 : ℝ) : EReal) := by
  simp [Ideal.ofBits, Ideal.ieee]
  rw [← EReal.coe_mul]
  norm_num

theorem word_sixteen : Ideal.ofBits .f32 0x41800000#32 = ((16 : ℝ) : EReal) := by
  simp [Ideal.ofBits, Ideal.ieee]
  rw [← EReal.coe_mul]
  norm_num

/-- A natural as an extended real. -/
abbrev nat (n : ℕ) : EReal := ((n : ℝ) : EReal)

theorem nat_add (a b : ℕ) : nat a + nat b = nat (a + b) := by rw [nat, nat, nat, ← EReal.coe_add, Nat.cast_add]

theorem nat_sum {ι : Type} (S : Finset ι) (f : ι → ℕ) : ∑ i ∈ S, nat (f i) = nat (∑ i ∈ S, f i) := by
  induction S using Finset.induction_on with
  | empty => simp [nat]
  | insert i S hi ih => rw [Finset.sum_insert hi, Finset.sum_insert hi, ih, nat_add]

theorem nat_ite (p : Prop) [Decidable p] : (if p then (1 : EReal) else 0) = nat (if p then 1 else 0) := by
  split <;> simp [nat]

/-- A small natural's conversion to a word. -/
theorem word_nat (n : ℕ) (h : n < 2 ^ 31) : Ideal.fptosi 32 (nat n) = BitVec.ofNat 32 n := by
  rw [Ideal.fptosi, nat, Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num; omega
  rw [e, BitVec.ofInt_natCast]

theorem word_minus : Ideal.fptosi 32 (Ideal.ofBits .f32 0xBF800000#32) = -1#32 := by
  rw [word_neg_one, Ideal.fptosi, Ideal.toIntClamped_coe, if_neg (by norm_num)]
  have e : ⌈(-1 : ℝ)⌉ = -1 := by
    rw [show (-1 : ℝ) = ((-1 : ℤ) : ℝ) by norm_num, Int.ceil_intCast]
  rw [e]
  decide

/-- Rounding a count up to a multiple of sixteen. -/
theorem round_up (n : ℕ) :
    Ideal.liftRound Int.floor ((nat n + Ideal.ofBits .f32 0x41700000#32) * Ideal.ofBits .f32 0x3D800000#32)
      * Ideal.ofBits .f32 0x41800000#32 = nat (seg n) := by
  rw [word_fifteen, word_sixteenth, word_sixteen, nat, ← EReal.coe_add, ← EReal.coe_mul]
  have e : ⌊((n : ℝ) + 15) * (1 / 16)⌋ = (((n + 15) / 16 : ℕ) : ℤ) := by
    rw [Int.floor_eq_iff]
    have h1 : (n + 15) / 16 * 16 ≤ n + 15 := Nat.div_mul_le_self _ _
    have h2 : n + 15 < ((n + 15) / 16 + 1) * 16 := by omega
    have h1' : (((n + 15) / 16 : ℕ) : ℝ) * 16 ≤ n + 15 := by exact_mod_cast h1
    have h2' : (n : ℝ) + 15 < ((((n + 15) / 16 : ℕ) : ℝ) + 1) * 16 := by exact_mod_cast h2
    constructor
    · rw [Int.cast_natCast]; linarith
    · rw [Int.cast_natCast]; linarith
  show (((⌊((n : ℝ) + 15) * (1 / 16)⌋ : ℤ) : ℝ) : EReal) * ((16 : ℝ) : EReal) = _
  rw [e, ← EReal.coe_mul, RouteSpec.seg, nat, Int.cast_natCast, Nat.cast_mul]
  norm_num

/-- Comparing two positions as words. -/
theorem lt_word (a b : Fin 256) : IntOp.cmpi CmpIPredicate.slt (BitVec.ofNat 32 a.val) (BitVec.ofNat 32 b.val)
    = if a < b then 1#1 else 0#1 := by
  have ha := a.isLt
  have hb := b.isLt
  have e : (BitVec.ofNat 32 a.val).slt (BitVec.ofNat 32 b.val) = decide (a < b) := by
    rw [BitVec.slt, BitVec.toInt_ofNat', BitVec.toInt_ofNat']
    refine decide_eq_decide.mpr ?_
    rw [Fin.lt_def, Int.bmod_eq_of_le (by omega) (by omega), Int.bmod_eq_of_le (by omega) (by omega)]
    omega
  by_cases h : a < b <;> simp [IntOp.cmpi, e, h]

theorem eq_word (a b : Fin 256) : IntOp.cmpi CmpIPredicate.eq (BitVec.ofNat 32 a.val) (BitVec.ofNat 32 b.val)
    = if a = b then 1#1 else 0#1 := by
  have ha := a.isLt
  have hb := b.isLt
  by_cases h : a = b
  · subst h; simp [IntOp.cmpi]
  · have : ¬ (BitVec.ofNat 32 a.val = BitVec.ofNat 32 b.val) := fun e => h (Fin.ext (by
      have := congrArg BitVec.toNat e
      rw [BitVec.toNat_ofNat, BitVec.toNat_ofNat, Nat.mod_eq_of_lt (by omega), Nat.mod_eq_of_lt (by omega)] at this
      exact this))
    simp only [IntOp.cmpi, beq_eq_false_iff_ne.mpr this, if_neg h]
    rfl

/-! ## The two choices -/

section choices

variable (v0 : Vec Ideal S256x1024 .f32) (v1 : Vec Ideal S1x1024 .f32) (v15 : Vec Ideal S8x1024 .f32)

/-- The eight logits of the tile's row `r`. -/
def col (r : Fin 256) (e : Fin 8) : EReal := k0_pay6 v0 v1 v15 (ix2 e r)

theorem col_eq (r : Fin 256) (e : Fin 8) : col v0 v1 v15 r e =
    ∑ k : Fin 1024, rms 0x44800000#32 (fun l => v0 (ix2 r l)) (fun l => v1 (ix2 (0 : Fin 1) l)) k * v15 (ix2 e k) := by
  refine Eq.trans ?_ (Finset.sum_congr rfl fun k _ => mul_comm (v15 (ix2 e k)) _)
  unfold col rms scale
  pointwise [k0_pay6]

theorem pay7 (a : Fin 1) (r : Fin 256) : k0_pay7 v0 v1 v15 (ix2 a r) = greatest (col v0 v1 v15 r) := by
  unfold k0_pay7 greatest col
  generalize k0_pay6 v0 v1 v15 = L
  pointwise
  rw [word_bot]

theorem pay8 (e : Fin 8) (r : Fin 256) : k0_pay8 v0 v1 v15 (ix2 e r) = if Top (col v0 v1 v15 r) e then 1#1 else 0#1 := by
  rw [← choose_eq _ _ (pay7 v0 v1 v15 0 r) e]
  unfold k0_pay8 col
  generalize k0_pay7 v0 v1 v15 = M
  generalize k0_pay6 v0 v1 v15 = L
  pointwise

theorem pay9 (e : Fin 8) (r : Fin 256) : k0_pay9 v0 v1 v15 (ix2 e r) = rest (col v0 v1 v15 r) e := by
  have h : k0_pay9 v0 v1 v15 (ix2 e r)
      = Scalar.select (k0_pay8 v0 v1 v15 (ix2 e r)) (Ideal.ofBits .f32 0xFF800000#32) (col v0 v1 v15 r e) := by
    unfold k0_pay9 col
    rfl
  rw [h, pay8, select_bit, word_bot]
  rfl

theorem pay10 (a : Fin 1) (r : Fin 256) : k0_pay10 v0 v1 v15 (ix2 a r) = greatest (rest (col v0 v1 v15 r)) := by
  have h : k0_pay10 v0 v1 v15 (ix2 a r)
      = Finset.univ.fold max (Ideal.ofBits .f32 0xFF800000#32) fun x : Fin 8 => k0_pay9 v0 v1 v15 (ix2 x r) := by
    unfold k0_pay10
    generalize k0_pay9 v0 v1 v15 = L
    pointwise
  rw [h, word_bot]
  simp only [pay9]
  rfl

theorem pay11 (e : Fin 8) (r : Fin 256) :
    k0_pay11 v0 v1 v15 (ix2 e r) = if Top (rest (col v0 v1 v15 r)) e then 1#1 else 0#1 := by
  rw [← choose_eq _ _ (pay10 v0 v1 v15 0 r) e]
  simp only [← pay9]
  unfold k0_pay11
  generalize k0_pay10 v0 v1 v15 = M
  generalize k0_pay9 v0 v1 v15 = L
  pointwise

theorem pay12 (a : Fin 1) (r : Fin 256) : k0_pay12 v0 v1 v15 (ix2 a r)
    = greatest (rest (col v0 v1 v15 r)) - greatest (col v0 v1 v15 r) := by
  rw [← pay10 v0 v1 v15 a r, ← pay7 v0 v1 v15 a r]
  rfl

/-- The gate, rows along the second axis. -/
theorem pay14 (e : Fin 8) (r : Fin 256) :
    k0_pay14 (k0_pay8 v0 v1 v15) (k0_pay11 v0 v1 v15) (k0_pay12 v0 v1 v15) (ix2 e r) = gate (col v0 v1 v15 r) e := by
  have h : k0_pay14 (k0_pay8 v0 v1 v15) (k0_pay11 v0 v1 v15) (k0_pay12 v0 v1 v15) (ix2 e r)
      = Scalar.select (k0_pay8 v0 v1 v15 (ix2 e r)) (Ideal.div 1 (1 + Ideal.exp (k0_pay12 v0 v1 v15 (ix2 0 r))))
        (Scalar.select (k0_pay11 v0 v1 v15 (ix2 e r))
          (Ideal.div (Ideal.exp (k0_pay12 v0 v1 v15 (ix2 0 r))) (1 + Ideal.exp (k0_pay12 v0 v1 v15 (ix2 0 r)))) 0) := by
    generalize k0_pay8 v0 v1 v15 = A
    generalize k0_pay11 v0 v1 v15 = B
    generalize k0_pay12 v0 v1 v15 = C
    pointwise [k0_pay14]
  rw [h, pay8, pay11, pay12, select_bit, select_bit]
  rfl

end choices

/-! ## The counts -/

section counts

variable (A B : IVec S8x256 1) (q : Fin 8 → Fin 256 → Prop)
  (hq : ∀ (e : Fin 8) (r : Fin 256), k0_pay13 A B (ix2 e r) = if q e r then 1#1 else 0#1)
include hq

theorem pay15 (e : Fin 8) (r : Fin 256) : k0_pay15 (F := Ideal) A B (ix2 e r) = nat (if q e r then 1 else 0) := by
  have h : k0_pay15 (F := Ideal) A B (ix2 e r) = Scalar.select (k0_pay13 A B (ix2 e r)) 1 0 := by
    generalize hC : k0_pay13 A B = C
    unfold k0_pay15
    rw [hC]
    pointwise
  rw [h, hq, select_bit, nat_ite]

theorem pay16 (e : Fin 8) (a : Fin 1) : k0_pay16 (F := Ideal) A B (ix2 e a) = nat (count (q e)) := by
  have h : k0_pay16 (F := Ideal) A B (ix2 e a) = ∑ x : Fin 256, k0_pay15 (F := Ideal) A B (ix2 e x) := by
    unfold k0_pay16
    generalize k0_pay15 (F := Ideal) A B = L
    pointwise
  rw [h, RouteSpec.count, ← nat_sum]
  exact Finset.sum_congr rfl fun r _ => pay15 A B q hq e r

theorem pay17 (e : Fin 8) (r : Fin 256) : k0_pay17 (F := Ideal) A B (ix2 e r) = nat (before (q e) r) := by
  have h : k0_pay17 (F := Ideal) A B (ix2 e r) = ∑ x : Fin 256,
      Scalar.select (IntOp.cmpi CmpIPredicate.slt (BitVec.ofNat 32 x.val) (BitVec.ofNat 32 r.val))
        (k0_pay15 (F := Ideal) A B (ix2 e x)) 0 := by
    unfold k0_pay17
    generalize k0_pay15 (F := Ideal) A B = L
    pointwise
  rw [h, RouteSpec.before, ← nat_sum]
  refine Finset.sum_congr rfl fun x _ => ?_
  rw [lt_word, select_bit, pay15 A B q hq]
  by_cases h1 : x < r <;> simp [h1, nat]

theorem pay18 (e : Fin 8) (a : Fin 1) : k0_pay18 (F := Ideal) A B (ix2 e a) = nat (seg (count (q e))) := by
  rw [← round_up, ← pay16 A B q hq e a]
  generalize hC : k0_pay16 (F := Ideal) A B = C
  unfold k0_pay18
  rw [hC]
  rfl

theorem pay20 (e : Fin 8) (a : Fin 1) :
    k0_pay20 (F := Ideal) (k0_pay18 A B) (iota .tc S8x1 32 [0] iota_S8x1_d0_w32) (k0_pay19 A B) (ix2 e a)
      = nat (offset (fun j => count (q j)) e) := by
  rw [RouteSpec.offset, ← nat_sum, Fin.sum_univ_eight]
  have h : ∀ j : Fin 8, nat (if j < e then seg (count (q j)) else 0)
      = if j < e then k0_pay18 (F := Ideal) A B (ix2 j (0 : Fin 1)) else 0 := fun j => by
    rw [pay18 A B q hq]
    split <;> simp [nat]
  simp only [h]
  unfold k0_pay19
  generalize k0_pay18 (F := Ideal) A B = L
  pointwise [k0_pay20]
  fin_cases e <;> simp [Scalar.select, IntOp.cmpi]

end counts

/-! ## The four stored blocks -/

theorem before_le (q : Fin 256 → Prop) (r : Fin 256) : RouteSpec.before q r ≤ 256 :=
  (Finset.sum_le_card_nsmul Finset.univ _ 1 fun i _ => by split <;> omega).trans (by simp)

theorem offset_le (c : Fin 8 → ℕ) (hc : ∀ j, c j ≤ 256) (e : Fin 8) : RouteSpec.offset c e ≤ 4096 :=
  (Finset.sum_le_card_nsmul Finset.univ _ 512 fun j _ => by
    have := hc j
    unfold RouteSpec.seg
    split <;> omega).trans (by simp)

section stores

variable (v0 : Vec Ideal S256x1024 .f32) (v1 : Vec Ideal S1x1024 .f32) (v15 : Vec Ideal S8x1024 .f32)

/-- Whether the tile's row `r` is routed to expert `e`. -/
def routed (e : Fin 8) (r : Fin 256) : Prop := Routed (col v0 v1 v15 r) e

theorem pay13 (e : Fin 8) (r : Fin 256) : k0_pay13 (k0_pay8 v0 v1 v15) (k0_pay11 v0 v1 v15) (ix2 e r)
    = if routed v0 v1 v15 e r then 1#1 else 0#1 := by
  have h : k0_pay13 (k0_pay8 v0 v1 v15) (k0_pay11 v0 v1 v15) (ix2 e r)
      = IntOp.ori (k0_pay8 v0 v1 v15 (ix2 e r)) (k0_pay11 v0 v1 v15 (ix2 e r)) := rfl
  rw [h, pay8, pay11, or_bit]
  unfold routed Routed
  congr

/-- The rows' places in the tile's buffer. -/
theorem store3 (e : Fin 8) (r : Fin 256) :
    k0_pay1 (F := Ideal) (k0_pay13 (k0_pay8 v0 v1 v15) (k0_pay11 v0 v1 v15)) (k0_pay17 (k0_pay8 v0 v1 v15) (k0_pay11 v0 v1 v15))
      (k0_pay20 (k0_pay18 (k0_pay8 v0 v1 v15) (k0_pay11 v0 v1 v15)) (iota .tc S8x1 32 [0] iota_S8x1_d0_w32)
        (k0_pay19 (k0_pay8 v0 v1 v15) (k0_pay11 v0 v1 v15))) (ix2 e r)
      = if routed v0 v1 v15 e r then BitVec.ofNat 32 (RouteSpec.offset (fun j => RouteSpec.count (routed v0 v1 v15 j)) e
          + RouteSpec.before (routed v0 v1 v15 e) r) else -1#32 := by
  have h : ∀ (C : IVec S8x256 1) (R : FVec Ideal S8x256 .f32) (O : FVec Ideal S8x1 .f32), k0_pay1 C R O (ix2 e r)
      = Ideal.fptosi 32 (Scalar.select (C (ix2 e r)) (O (ix2 e 0) + R (ix2 e r)) (Ideal.ofBits .f32 0xBF800000#32)) := by
    intro C R O
    pointwise [k0_pay1]
    rfl
  rw [h, pay13, select_bit, pay17 _ _ _ (pay13 v0 v1 v15), pay20 _ _ _ (pay13 v0 v1 v15), nat_add]
  have h1 := offset_le (fun j => RouteSpec.count (routed v0 v1 v15 j)) (fun j => count_le _) e
  have h2 := before_le (routed v0 v1 v15 e) r
  split
  · exact word_nat _ (by omega)
  · exact word_minus

theorem identity (f : Fin 256 → EReal) (r : Fin 256) :
    (∑ x : Fin 256, Scalar.select (IntOp.cmpi CmpIPredicate.eq (BitVec.ofNat 32 r.val) (BitVec.ofNat 32 x.val)) (f x) 0)
      = f r := by
  simp only [eq_word, select_bit]
  exact (Finset.sum_ite_eq Finset.univ r f).trans (if_pos (Finset.mem_univ r))

/-- The rows' places among their experts' rows. -/
theorem store4 (r : Fin 256) (e : Fin 8) :
    k0_pay4 (k0_pay13 (k0_pay8 v0 v1 v15) (k0_pay11 v0 v1 v15)) (k0_pay17 (F := Ideal) (k0_pay8 v0 v1 v15) (k0_pay11 v0 v1 v15))
      (ix2 r e)
      = if routed v0 v1 v15 e r then BitVec.ofNat 32 (RouteSpec.before (routed v0 v1 v15 e) r) else -1#32 := by
  have h : ∀ (C : IVec S8x256 1) (R : FVec Ideal S8x256 .f32), k0_pay4 C R (ix2 r e)
      = Ideal.fptosi 32 (∑ x : Fin 256,
        Scalar.select (IntOp.cmpi CmpIPredicate.eq (BitVec.ofNat 32 r.val) (BitVec.ofNat 32 x.val))
          (Scalar.select (C (ix2 e x)) (R (ix2 e x)) (Ideal.ofBits .f32 0xBF800000#32)) 0) := by
    intro C R
    pointwise [k0_pay4, k0_pay3]
    rfl
  rw [h, identity, pay13, select_bit, pay17 _ _ _ (pay13 v0 v1 v15)]
  have h2 := before_le (routed v0 v1 v15 e) r
  split
  · exact word_nat _ (by omega)
  · exact word_minus

/-- The gates. -/
theorem store5 (r : Fin 256) (e : Fin 8) :
    k0_pay5 (k0_pay14 (k0_pay8 v0 v1 v15) (k0_pay11 v0 v1 v15) (k0_pay12 v0 v1 v15)) (ix2 r e) = gate (col v0 v1 v15 r) e := by
  have h : ∀ G : FVec Ideal S8x256 .f32, k0_pay5 G (ix2 r e) = ∑ x : Fin 256,
      Scalar.select (IntOp.cmpi CmpIPredicate.eq (BitVec.ofNat 32 r.val) (BitVec.ofNat 32 x.val)) (G (ix2 e x)) 0 := by
    intro G
    pointwise [k0_pay5, k0_pay3]
  rw [h, identity, pay14]

/-- The counts. -/
theorem store6 (a : Fin 1) (e : Fin 8) (l : Fin 128) :
    k0_pay2 (F := Ideal) (k0_pay16 (k0_pay8 v0 v1 v15) (k0_pay11 v0 v1 v15)) (ix3 a e l)
      = BitVec.ofNat 32 (RouteSpec.count (routed v0 v1 v15 e)) := by
  have h : ∀ C : FVec Ideal S8x1 .f32, k0_pay2 C (ix3 a e l) = Ideal.fptosi 32 (C (ix2 e 0)) := by
    intro C
    pointwise [k0_pay2]
    rfl
  rw [h, pay16 _ _ _ (pay13 v0 v1 v15)]
  have h2 := count_le (routed v0 v1 v15 e)
  exact word_nat _ (by omega)

end stores

end Cert.RouteIdeal.Block

end
-- ==== Proof.RouteKernel.lean ====
/-
  THE ROUTING KERNEL'S VALUES: after the run its four result arrays hold, tile by tile, the places, the ranks, the gates
  and the counts (`RouteSpec`) of the rows' logits. Each grid point routes one tile of 256 rows.
-/
module

public import proofs.«01_k».proof.Proof.Gen.RouteIdeal.Value
public import proofs.«01_k».proof.Proof.RouteBlock

@[expose] public section

set_option maxRecDepth 16384

noncomputable section

open Idealize.ShloMosaic Idealize.ShloMosaic.TcCoe Idealize.SL.Sem
open Idealize.ShloMosaic.Pipeline (Dat)

namespace Cert.RouteIdeal.Block

open Cert.RouteIdeal Cert.RouteIdeal.Gen Cert.NormSpec Cert.RouteSpec

variable (m : (ℓ : Loc nD τ sig) → Buf (Elt Ideal) ℓ)

/-- Which block each window takes at each point: rows advance with the point, gain and router stay. -/
theorem idx : ∀ t : Fin cfg0.N, win0_0.index t = ![t.val, 0] ∧ win0_1.index t = ![0, 0] ∧ win0_2.index t = ![0, 0]
    ∧ win0_3.index t = ![0, t.val] ∧ win0_4.index t = ![t.val, 0] ∧ win0_5.index t = ![t.val, 0]
    ∧ win0_6.index t = ![t.val, 0, 0] :=
  (by decide +kernel : ∀ t : Fin grid0.N, _)

/-- The logits of the launch contents of the arguments. -/
abbrev logits (c : Dev nD) : Fin 16384 → Fin 8 → EReal :=
  logit (m ((c : Thread nD τ).loc main_arg0)) (m ((c : Thread nD τ).loc main_arg1)) (m ((c : Thread nD τ).loc main_arg2))

/-- The tile of a point. -/
abbrev tileOf (t : Fin cfg0.N) : Fin 64 := ⟨t.val, (show t.val < grid0.N from t.isLt).trans_le (by decide)⟩

/-- The tile's logits are its rows' logits. -/
theorem col_blocks (c : Dev nD) (t : Fin cfg0.N) (r : Fin 256) :
    col (iblk m c 0 t) (iblk m c 1 t) (iblk m c 2 t) r = logits m c (rowOf (tileOf t) r) := by
  funext e
  rw [col_eq]
  unfold logits logit
  refine Finset.sum_congr rfl fun k _ => ?_
  have h0 : ∀ l : Fin 1024, iblk m c 0 t (ix2 r l) = m ((c : Thread nD τ).loc main_arg0) (ix2 (rowOf (tileOf t) r) l) := by
    intro l
    unfold rowOf
    blk_point [iblk, V, idx t]
  have h1 : ∀ l : Fin 1024, iblk m c 1 t (ix2 (0 : Fin 1) l) = m ((c : Thread nD τ).loc main_arg1) (ix1 l) := by
    intro l
    blk_point [iblk, V, idx t]
  have h2 : iblk m c 2 t (ix2 e k) = m ((c : Thread nD τ).loc main_arg2) (ix2 k e) := by
    blk_point [iblk, V, idx t]
  simp only [h0, h1, h2]

/-- So are the rows routed to an expert. -/
theorem routed_blocks (c : Dev nD) (t : Fin cfg0.N) :
    routed (iblk m c 0 t) (iblk m c 1 t) (iblk m c 2 t) = tile (logits m c) (tileOf t) := by
  funext e r
  unfold routed tile
  rw [col_blocks]

/-- The places in the tile's buffer. -/
theorem final3 (c : Dev nD) : (dats m 0 c).arrAt 3 cfg0.N = places (logits m c) := by
  refine (dats m 0 c).arrAt_eq_of_covers 3 _ (by decide +kernel) fun t _ y => ?_
  obtain ⟨e, r, rfl⟩ : ∃ (e : Fin 8) (r : Fin 256), y = ix2 e r := ⟨y 0, y 1, eq_ix2 y⟩
  blk_simp
  rw [after0_3]; unfold_out out0_3
  frame_out
  refine (store3 _ _ _ e r).trans ?_
  rw [routed_blocks]
  refine (places_at _ (tileOf t) e r).symm.trans (congrArg _ ?_)
  unfold rowOf
  funext a
  refine Fin.ext ?_
  fin_cases a <;> blk_simp <;> simp [idx t]

/-- The places among the experts' rows. -/
theorem final4 (c : Dev nD) : (dats m 0 c).arrAt 4 cfg0.N = ranks (logits m c) := by
  refine (dats m 0 c).arrAt_eq_of_covers 4 _ (by decide +kernel) fun t _ y => ?_
  obtain ⟨r, e, rfl⟩ : ∃ (r : Fin 256) (e : Fin 8), y = ix2 r e := ⟨y 0, y 1, eq_ix2 y⟩
  blk_simp
  rw [after0_4]; unfold_out out0_4
  frame_out
  refine (store4 _ _ _ r e).trans ?_
  rw [routed_blocks]
  refine (ranks_at _ (tileOf t) r e).symm.trans (congrArg _ ?_)
  unfold rowOf
  funext a
  refine Fin.ext ?_
  fin_cases a <;> blk_simp <;> simp [idx t]

/-- The gates. -/
theorem final5 (c : Dev nD) : (dats m 0 c).arrAt 5 cfg0.N = gates (logits m c) := by
  refine (dats m 0 c).arrAt_eq_of_covers 5 _ (by decide +kernel) fun t _ y => ?_
  obtain ⟨r, e, rfl⟩ : ∃ (r : Fin 256) (e : Fin 8), y = ix2 r e := ⟨y 0, y 1, eq_ix2 y⟩
  blk_simp
  rw [after0_5]; unfold_out out0_5
  frame_out
  refine (store5 _ _ _ r e).trans ?_
  rw [col_blocks]
  refine congrArg (gates (logits m c)) (a₁ := ix2 (rowOf (tileOf t) r) e) ?_
  unfold rowOf
  funext a
  refine Fin.ext ?_
  fin_cases a <;> blk_simp <;> simp [idx t]

/-- The counts. -/
theorem final6 (c : Dev nD) : (dats m 0 c).arrAt 6 cfg0.N = counts (logits m c) := by
  refine (dats m 0 c).arrAt_eq_of_covers 6 _ (by decide +kernel) fun t _ y => ?_
  obtain ⟨a, e, l, rfl⟩ : ∃ (a : Fin 1) (e : Fin 8) (l : Fin 128), y = ix3 a e l := ⟨y 0, y 1, y 2, eq_ix3 y⟩
  blk_simp
  rw [after0_6]; unfold_out out0_6
  frame_out
  refine (store6 _ _ _ a e l).trans ?_
  rw [routed_blocks]
  refine congrArg (counts (logits m c)) (a₁ := ix3 (tileOf t) e l) ?_
  funext b
  refine Fin.ext ?_
  fin_cases b <;> blk_simp <;> simp [idx t]

end Cert.RouteIdeal.Block

end
-- ==== Proof.RoutePlaces.lean ====
/-
  THE ROUTING REFERENCE'S PLACES AND ITS VALUE CLAIM: the counts of each tile, the exclusive running counts that rank a row
  among its expert's rows, the rounded counts' running sum that starts each expert's rows, and the four results against the
  kernel's.
-/
module

public import proofs.«01_k».proof.Defs
public import proofs.«01_k».proof.Proof.RouteReference
public import proofs.«01_k».proof.Proof.RouteSums
public import proofs.«01_k».proof.Proof.RouteFinite
public import proofs.«01_k».proof.Proof.RouteKernel
public import proofs.«01_k».proof.Proof.Gen.RouteRefIdeal.Run
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.RouteRefIdeal.Block

open Cert.RouteRefIdeal Cert.RouteRefIdeal.Gen Cert.NormSpec Cert.RouteSpec Cert.RouteRefIdeal.Read
open scoped Classical

variable (x : FVec Ideal S16384x1024 .f32) (g : FVec Ideal S1024 .f32) (w : FVec Ideal S1024x8 .f32)
  (hv : ∀ n b, ∃ r : ℝ, logit x g w n b = r)
include hv

/-- The routed bit of any row. -/
theorem routed_at (n : Fin 16384) (e : Fin 8) :
    val_main_v31 (F := Ideal) x g w (ix2 n e) = if Routed (logit x g w n) e then 1#1 else 0#1 := by
  obtain ⟨a, ha⟩ := exists_top (logit x g w n)
  obtain ⟨c, hc⟩ := exists_top (rest (logit x g w n))
  exact v31_at x g w n a c ha hc (hv n) e

/-- The gates. -/
theorem value34 : val_main_v34 (F := Ideal) x g w = gates (logit x g w) := by
  funext i
  obtain ⟨n, e, rfl⟩ : ∃ (n : Fin 16384) (e : Fin 8), i = ix2 n e := ⟨i 0, i 1, eq_ix2 i⟩
  obtain ⟨a, ha⟩ := exists_top (logit x g w n)
  obtain ⟨c, hc⟩ := exists_top (rest (logit x g w n))
  exact v34_at x g w n a c ha hc (hv n) e

/-- The routed bits as words, tile by tile. -/
theorem v36_at (T : Fin 64) (i : Fin 256) (e : Fin 8) :
    val_main_v36 (F := Ideal) x g w (ix3 T i e) = BitVec.ofNat 32 (if tile (logit x g w) T e i then 1 else 0) := by
  have hi : idx_main_v36 (ix3 T i e) = ix2 (rowOf T i) e := by
    have h1 := i.isLt
    have h2 := e.isLt
    funext a
    refine Fin.ext ?_
    match a with
    | ⟨0, _⟩ =>
      show ((T.val * 256 + i.val) * 8 + e.val) / 8 = T.val * 256 + i.val
      omega
    | ⟨1, _⟩ =>
      show ((T.val * 256 + i.val) * 8 + e.val) % 8 = e.val
      omega
  rw [val_main_v36_apply, hi, val_main_v35_apply, routed_at x g w hv]
  unfold tile
  split <;> rfl

omit hv in
theorem fold_words (f : Fin 256 → BitVec 32) : Finset.univ.fold IntOp.addi 0#32 f = ∑ i, f i := rfl

/-- The counts. -/
theorem v37_at (T : Fin 64) (e : Fin 8) :
    val_main_v37 (F := Ideal) x g w (ix2 T e) = countWord (logit x g w) T e := by
  have h : val_main_v37 (F := Ideal) x g w (ix2 T e)
      = Finset.univ.fold IntOp.addi 0#32 fun i : Fin 256 => val_main_v36 (F := Ideal) x g w (ix3 T i e) := by
    unfold val_main_v37
    generalize val_main_v36 (F := Ideal) x g w = y
    pointwise [val_main_c_7]
  rw [h, fold_words]
  simp only [v36_at x g w hv]
  rw [RouteSums.word_sum]
  rfl

/-- The rows of the expert before a row. -/
theorem v39_at (T : Fin 64) (i : Fin 256) (e : Fin 8) :
    val_main_v39 (F := Ideal) x g w (ix3 T i e) = BitVec.ofNat 32 (before (tile (logit x g w) T e) i) := by
  have h : val_main_v38 (F := Ideal) x g w (ix3 T i e)
      = ∑ j : Fin 256, if j ≤ i then val_main_v36 (F := Ideal) x g w (ix3 T j e) else 0 :=
    RouteSums.running3 _ _ (fun _ => rfl) _ _ T i e
  rw [val_main_v39_apply, h]
  simp only [v36_at x g w hv]
  refine (RouteSums.sum_before (fun j => if tile (logit x g w) T e j then 1 else 0) i).trans (congrArg _ ?_)
  unfold before
  refine Finset.sum_congr rfl fun j _ => ?_
  by_cases h1 : j < i <;> by_cases h2 : tile (logit x g w) T e j <;> simp [h1, h2]

omit hv in
theorem row_split (T : Fin 64) (r : Fin 256) (e : Fin 8) : idx_main_v40 (ix2 (rowOf T r) e) = ix3 T r e := by
  have h1 := r.isLt
  have h2 := e.isLt
  have h3 := T.isLt
  funext a
  refine Fin.ext ?_
  match a with
  | ⟨0, _⟩ =>
    show ((T.val * 256 + r.val) * 8 + e.val) / 2048 = T.val
    omega
  | ⟨1, _⟩ =>
    show ((T.val * 256 + r.val) * 8 + e.val) / 8 % 256 = r.val
    omega
  | ⟨2, _⟩ =>
    show ((T.val * 256 + r.val) * 8 + e.val) % 8 = e.val
    omega

/-- The places among an expert's rows. -/
theorem v41_at (T : Fin 64) (r : Fin 256) (e : Fin 8) :
    val_main_v41 (F := Ideal) x g w (ix2 (rowOf T r) e) = rankWord (logit x g w) T r e := by
  rw [val_main_v41_apply, routed_at x g w hv, val_main_v40_apply, row_split, v39_at x g w hv, select_bit]
  rfl

/-- The rounded counts. -/
theorem v46_at (T : Fin 64) (e : Fin 8) :
    val_main_v46 (F := Ideal) x g w (ix2 T e) = BitVec.ofNat 32 (seg (RouteSpec.count (tile (logit x g w) T e))) := by
  have h := RouteSums.seg_word ⟨RouteSpec.count (tile (logit x g w) T e), Nat.lt_succ_of_le (count_le _)⟩
  have hc : val_main_v43 (F := Ideal) x g w (ix2 T e)
      = IntOp.addi (BitVec.ofNat 32 (RouteSpec.count (tile (logit x g w) T e))) 15#32 := by
    rw [val_main_v43_apply, v37_at x g w hv]
    rfl
  refine Eq.trans ?_ h
  dsimp only
  rw [← hc]
  rfl

/-- Where each expert's rows begin. -/
theorem v48_at (T : Fin 64) (e : Fin 8) : val_main_v48 (F := Ideal) x g w (ix2 T e)
    = BitVec.ofNat 32 (RouteSpec.offset (fun j => RouteSpec.count (tile (logit x g w) T j)) e) := by
  have h : val_main_v47 (F := Ideal) x g w (ix2 T e)
      = ∑ j : Fin 8, if j ≤ e then val_main_v46 (F := Ideal) x g w (ix2 T j) else 0 :=
    RouteSums.running2 _ _ (fun _ => rfl) _ _ T e
  rw [val_main_v48_apply, h]
  simp only [v46_at x g w hv]
  exact RouteSums.sum_before (fun j => seg (RouteSpec.count (tile (logit x g w) T j))) e

/-- The places in the tile's buffer. -/
theorem v52_at (T : Fin 64) (r : Fin 256) (e : Fin 8) :
    val_main_v52 (F := Ideal) x g w (ix2 (rowOf T r) e) = posWord (logit x g w) T r e := by
  have h : val_main_v50 (F := Ideal) x g w (ix2 (rowOf T r) e) = val_main_v48 (F := Ideal) x g w (ix2 T e) := by
    rw [val_main_v50_apply]
    refine (congrArg _ (row_split T r e)).trans ?_
    rw [val_main_v49_apply]
    exact congrArg _ (eq_ix2 _)
  rw [val_main_v52_apply, routed_at x g w hv, val_main_v51_apply, v41_at x g w hv, h, v48_at x g w hv, select_bit]
  unfold posWord rankWord
  by_cases ht : tile (logit x g w) T e r
  · rw [if_pos ht, if_pos ht]
    refine (if_pos ht).trans ?_
    rw [Nat.add_comm, BitVec.ofNat_add]
    rfl
  · rw [if_neg ht, if_neg ht]
    exact (if_neg ht).trans rfl

theorem value41 : val_main_v41 (F := Ideal) x g w = ranks (logit x g w) := by
  funext i
  obtain ⟨n, e, rfl⟩ : ∃ (n : Fin 16384) (e : Fin 8), i = ix2 n e := ⟨i 0, i 1, eq_ix2 i⟩
  rw [← rowOf_at n, v41_at x g w hv, ranks_at]

theorem value53 : val_main_v53 (F := Ideal) x g w = places (logit x g w) := by
  funext i
  obtain ⟨e, n, rfl⟩ : ∃ (e : Fin 8) (n : Fin 16384), i = ix2 e n := ⟨i 0, i 1, eq_ix2 i⟩
  rw [← rowOf_at n, places_at, ← v52_at x g w hv, val_main_v53_apply]
  exact congrArg _ (eq_ix2 _)

theorem value55 : val_main_v55 (F := Ideal) x g w = counts (logit x g w) := by
  funext i
  rw [val_main_v55_apply, val_main_v54_apply]
  exact (congrArg _ (eq_ix2 _)).trans (v37_at x g w hv (i 0) (i 1))

omit hv x g w

/-- The reference's logits on a device. -/
abbrev logits (m : (ℓ : Loc nD τ sig) → Buf (Elt Ideal) ℓ) (c : Dev nD) : Fin 16384 → Fin 8 → EReal :=
  logit (m ((c.tc : Thread nD τ).loc main_arg0)) (m ((c.tc : Thread nD τ).loc main_arg1)) (m ((c.tc : Thread nD τ).loc main_arg2))

/-- The reference ends with the four arrays of the specification. -/
theorem run_values (m : (ℓ : Loc nD τ sig) → Buf (Elt Ideal) ℓ) (ρ : Dev nD → PrngReg)
    (hv : ∀ c n b, ∃ r : ℝ, logits m c n b = r) :
    θ_run defs (onTc (τ := τ) (main (F := Ideal))) ⟨m, fun _ => 0, ρ⟩ fun r => ∀ c : Dev nD,
      r.2.mem ((c.tc : Thread nD τ).loc main_v53) = places (logits m c)
      ∧ r.2.mem ((c.tc : Thread nD τ).loc main_v41) = ranks (logits m c)
      ∧ r.2.mem ((c.tc : Thread nD τ).loc main_v34) = gates (logits m c)
      ∧ r.2.mem ((c.tc : Thread nD τ).loc main_v55) = counts (logits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((val_main_v53_eq m c).trans (value53 _ _ _ (hv c))),
      (h c).2.1.trans ((val_main_v41_eq m c).trans (value41 _ _ _ (hv c))),
      (h c).2.2.1.trans ((val_main_v34_eq m c).trans (value34 _ _ _ (hv c))),
      (h c).2.2.2.1.trans ((val_main_v55_eq _ _ _).trans (value55 _ _ _ (hv c))),
      (h c).2.2.2.2⟩)
    (Cert.RouteRefIdeal.Value.run (F := Ideal) m ρ)

end Cert.RouteRefIdeal.Block

namespace Cert.Proof

/-- The routing kernel and its reference end with equal results over the extended reals, where the gain and the router are real numbers. -/
theorem route_algebraic : Cert.algebraic_RouteIdeal_RouteRefIdeal_pre_real_weights (hRouteIdeal := Cert.RouteIdeal.Gen.facts)
    (hRouteRefIdeal := Cert.RouteRefIdeal.Gen.facts) (hPre_real_weights := Cert.Pre_real_weights.facts) := by
  intro m g m' g' hpre hagree
  have hl : ∀ c, Cert.RouteRefIdeal.Block.logits m' c = Cert.RouteIdeal.Block.logits m c := fun c => by
    obtain ⟨h0, h1, h2⟩ := hagree c
    unfold Cert.RouteRefIdeal.Block.logits
    rw [h0, h1, h2]
  have hv : ∀ c n b, ∃ r : ℝ, Cert.RouteRefIdeal.Block.logits m' c n b = r := fun c n b => by
    rw [hl]
    exact Cert.Pre_real_weights.logit_real _ _ _ (hpre c) n b
  refine ⟨fun c => Cert.RouteSpec.places (Cert.RouteIdeal.Block.logits m c),
    fun c => Cert.RouteSpec.ranks (Cert.RouteIdeal.Block.logits m c),
    fun c => Cert.RouteSpec.gates (Cert.RouteIdeal.Block.logits m c),
    fun c => Cert.RouteSpec.counts (Cert.RouteIdeal.Block.logits m c), ?_, ?_⟩
  · refine (θ_run _ _ _).mono (fun r h c => ?_) (Cert.RouteIdeal.Value.run_blocks m g)
    obtain ⟨h3, h4, h5, h6, ha⟩ := h c
    exact ⟨h3.trans (Cert.RouteIdeal.Block.final3 m c), h4.trans (Cert.RouteIdeal.Block.final4 m c),
      h5.trans (Cert.RouteIdeal.Block.final5 m c), h6.trans (Cert.RouteIdeal.Block.final6 m c), ha⟩
  · refine (θ_run _ _ _).mono (fun r h c => ?_) (Cert.RouteRefIdeal.Block.run_values m' g' hv)
    have h' := h c
    rw [hl c] at h'
    exact h'

end Cert.Proof

end
-- ==== Proof.RouteClaims.lean ====
/-
  THE ROUTING'S FRAMES: kernel and reference leave their arguments unchanged and end with every counter at zero.
-/
module

public import proofs.«01_k».proof.Defs
public import proofs.«01_k».proof.Proof.Gen.Route.Frame
public import proofs.«01_k».proof.Proof.Gen.RouteIdeal.Frame
public import proofs.«01_k».proof.Proof.RoutePlaces
public import Idealize.ShloMosaic.Adequacy
public import Idealize.ShloMosaic.Lib.Quiescent

@[expose] public section

set_option maxRecDepth 16384

noncomputable section

namespace Cert.Proof

open Idealize.ShloMosaic Idealize.SL.Sem

/-- The routing kernel's frame. -/
theorem route_frame : Cert.quiescent_Route (hRoute := Cert.Route.Gen.facts) := fun m ρ _ => Cert.Route.Gen.frame m ρ

/-- The same over the extended reals. -/
theorem route_ideal_frame : Cert.quiescent_RouteIdeal (hRouteIdeal := Cert.RouteIdeal.Gen.facts) :=
  fun m ρ _ => Cert.RouteIdeal.Gen.frame m ρ

/-- The same under the precondition of the value claim. -/
theorem route_ideal_frame_pre : Cert.quiescent_RouteIdeal_pre_real_weights (hRouteIdeal := Cert.RouteIdeal.Gen.facts)
    (hPre_real_weights := Cert.Pre_real_weights.facts) := fun m ρ _ => Cert.RouteIdeal.Gen.frame m ρ

/-- The routing reference's frame. -/
theorem route_ref_frame : Cert.quiescent_RouteRefIdeal (hRouteRefIdeal := Cert.RouteRefIdeal.Gen.facts) := by
  intro m g _
  refine (θ_run _ _ _).mono (fun r h => ⟨fun c => (h c).2.2.2.2, ?_⟩) (Cert.RouteRefIdeal.Value.run (F := Ideal) m g)
  exact sem_eq_zero_of_no_sems rfl _

/-- The same under the precondition. -/
theorem route_ref_frame_pre : Cert.quiescent_RouteRefIdeal_pre_real_weights (hRouteRefIdeal := Cert.RouteRefIdeal.Gen.facts)
    (hPre_real_weights := Cert.Pre_real_weights.facts) := by
  intro m g _
  refine (θ_run _ _ _).mono (fun r h => ⟨fun c => (h c).2.2.2.2, ?_⟩) (Cert.RouteRefIdeal.Value.run (F := Ideal) m g)
  exact sem_eq_zero_of_no_sems rfl _

end Cert.Proof

end
-- ==== Proof.lean ====
/-
  THE PROOF OF `Cert.Claim`. Six programs of the layer are treated: the chunked attention, the dense feed-forward, the input
  projection, the output projection, the experts' feed-forward (whose frames are in `ExpertClaims`) and the routing (whose frames
  are in `RouteClaims`). For each: kernel and reference leave their arguments unchanged and end with every counter at zero (the
  frames), and the kernel over the extended reals is the kernel as written but for the named constant (`preserves`); that kernel
  and reference end with equal results is proved in the modules `…Reference`, for the routing in `RoutePlaces`.
-/
module

public import proofs.«01_k».proof.Defs
public import proofs.«01_k».proof.Proof.Gen.Kernel.Frame
public import proofs.«01_k».proof.Proof.Gen.KernelIdeal.Frame
public import proofs.«01_k».proof.Proof.Gen.Ffn.Frame
public import proofs.«01_k».proof.Proof.Gen.FfnIdeal.Frame
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.ReferenceIdeal.Run
public import proofs.«01_k».proof.Proof.Gen.FfnRefIdeal.Run
public import proofs.«01_k».proof.Proof.Gen.InProjRefIdeal.Run
public import proofs.«01_k».proof.Proof.Gen.OutProjRefIdeal.Run
public import proofs.«01_k».proof.Proof.FfnReference
public import proofs.«01_k».proof.Proof.InProjReference
public import proofs.«01_k».proof.Proof.OutProjReference
public import proofs.«01_k».proof.Proof.AttnReference
public import proofs.«01_k».proof.Proof.ExpertClaims
public import proofs.«01_k».proof.Proof.ExpertReference
public import proofs.«01_k».proof.Proof.RouteClaims
public import Idealize.ShloMosaic.Adequacy
public import Idealize.ShloMosaic.Lib.Quiescent

@[expose] public section

set_option maxRecDepth 16384

noncomputable section

namespace Cert.Proof

open Idealize.ShloMosaic Idealize.SL.Sem

/-- The attention reference leaves its arguments unchanged, with every counter at zero. -/
theorem attention_ref_frame : Cert.quiescent_ReferenceIdeal (hReferenceIdeal := Cert.ReferenceIdeal.Gen.facts) := by
  intro m g _
  refine (θ_run _ _ _).mono (fun r h => ⟨fun c => (h c).2, ?_⟩) (Cert.ReferenceIdeal.Value.run (F := Ideal) m g)
  exact sem_eq_zero_of_no_sems rfl _

/-- The feed-forward reference leaves its arguments unchanged, with every counter at zero. -/
theorem ffn_ref_frame : Cert.quiescent_FfnRefIdeal (hFfnRefIdeal := Cert.FfnRefIdeal.Gen.facts) := by
  intro m g _
  refine (θ_run _ _ _).mono (fun r h => ⟨fun c => (h c).2, ?_⟩) (Cert.FfnRefIdeal.Value.run (F := Ideal) m g)
  exact sem_eq_zero_of_no_sems rfl _

/-- The input projection reference leaves its arguments unchanged, with every counter at zero. -/
theorem inProj_ref_frame : Cert.quiescent_InProjRefIdeal (hInProjRefIdeal := Cert.InProjRefIdeal.Gen.facts) := by
  intro m g _
  refine (θ_run _ _ _).mono (fun r h => ⟨fun c => (h c).2.2.2.2.2.2, ?_⟩) (Cert.InProjRefIdeal.Value.run (F := Ideal) m g)
  exact sem_eq_zero_of_no_sems rfl _

/-- The output projection reference leaves its arguments unchanged, with every counter at zero. -/
theorem outProj_ref_frame : Cert.quiescent_OutProjRefIdeal (hOutProjRefIdeal := Cert.OutProjRefIdeal.Gen.facts) := by
  intro m g _
  refine (θ_run _ _ _).mono (fun r h => ⟨fun c => (h c).2.2, ?_⟩) (Cert.OutProjRefIdeal.Value.run (F := Ideal) m g)
  exact sem_eq_zero_of_no_sems rfl _

/-- The attention reference's frame again, under the precondition of its value claim. -/
theorem attention_ref_frame_pre : Cert.quiescent_ReferenceIdeal_pre_real_scores (hReferenceIdeal := Cert.ReferenceIdeal.Gen.facts)
    (hPre_real_scores := Cert.Pre_real_scores.facts) := by
  intro m g _
  refine (θ_run _ _ _).mono (fun r h => ⟨fun c => (h c).2, ?_⟩) (Cert.ReferenceIdeal.Value.run (F := Ideal) m g)
  exact sem_eq_zero_of_no_sems rfl _

/-- The mask's literal, named `mask`, stands for −∞. -/
theorem mask_preserves : Cert.preserves_Kernel_KernelIdeal :=
  IdealRules.named_const.statement Cert.KernelIdeal.κ "mask" .f32 0xF149F2CA#32 ⊥ rfl

/-- The claim. -/
theorem claim : Cert.Claim :=
  ⟨Cert.Kernel.Gen.facts,
    Cert.KernelIdeal.Gen.facts,
    Cert.ReferenceIdeal.Gen.facts,
    Cert.Ffn.Gen.facts,
    Cert.FfnIdeal.Gen.facts,
    Cert.FfnRefIdeal.Gen.facts,
    Cert.InProj.Gen.facts,
    Cert.InProjIdeal.Gen.facts,
    Cert.InProjRefIdeal.Gen.facts,
    Cert.OutProj.Gen.facts,
    Cert.OutProjIdeal.Gen.facts,
    Cert.OutProjRefIdeal.Gen.facts,
    Cert.Expert.Gen.facts,
    Cert.ExpertIdeal.Gen.facts,
    Cert.ExpertRefIdeal.Gen.facts,
    Cert.Route.Gen.facts,
    Cert.RouteIdeal.Gen.facts,
    Cert.RouteRefIdeal.Gen.facts,
    Cert.Pre_real_scores.facts,
    Cert.Pre_in_range.Gen.facts,
    Cert.Pre_routed.Gen.facts,
    Cert.Pre_real_weights.facts,
    Cert.On_rows_visited.Gen.facts,
    fun m ρ _ => Cert.Kernel.Gen.frame m ρ,
    fun m ρ _ => Cert.KernelIdeal.Gen.frame m ρ,
    fun m ρ _ => Cert.KernelIdeal.Gen.frame m ρ,
    attention_ref_frame,
    attention_ref_frame_pre,
    fun m ρ _ => Cert.Ffn.Gen.frame m ρ,
    fun m ρ _ => Cert.FfnIdeal.Gen.frame m ρ,
    ffn_ref_frame,
    fun m ρ _ => Cert.InProj.Gen.frame m ρ,
    fun m ρ _ => Cert.InProjIdeal.Gen.frame m ρ,
    inProj_ref_frame,
    fun m ρ _ => Cert.OutProj.Gen.frame m ρ,
    fun m ρ _ => Cert.OutProjIdeal.Gen.frame m ρ,
    outProj_ref_frame,
    expert_frame,
    expert_ideal_frame,
    expert_ideal_routed_frame,
    expert_ref_frame,
    expert_ref_routed_frame,
    route_frame,
    route_ideal_frame,
    route_ideal_frame_pre,
    route_ref_frame,
    route_ref_frame_pre,
    mask_preserves,
    attention_algebraic,
    trivial,
    ffn_algebraic,
    trivial,
    inProj_algebraic,
    trivial,
    outProj_algebraic,
    trivial,
    expert_algebraic,
    trivial,
    route_algebraic⟩

end Cert.Proof

end
